-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S2048x1 : S_.BroadcastsInDim S2048x1 (![] : Fin 0 → Fin S2048x1.rank)
  reducesTo_S2048x1_S_d0_1 : S2048x1.ReducesTo [0, 1] S_
  h_S_ : 0 < S_.numel
  reducesTo_S2048x64_S64_d0 : S2048x64.ReducesTo [0] S64
  bcast_S_S64 : S_.BroadcastsInDim S64 (![] : Fin 0 → Fin S64.rank)
  reducesTo_S64_S_d0 : S64.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg0 : FVec F S2048x1024 .f32) (main_arg1 : FVec F S1024x64 .f32) (main_v12 : IVec S_ 1) (main_v16 : IVec S_ 1) : IVec S_ 1 :=
  let main_v17 : IVec S_ 1 := andi main_v12 main_v16
  let main_v18 : FVec F S2048x1024 .f32 := Host.absf main_arg0
  let main_cst : FVec F S_ .f32 := constant S_ .f32 0x7F800000#32
  let main_v19 : FVec F S2048x1024 .f32 := broadcastInDim S2048x1024 ![] bcast_S_S2048x1024 main_cst
  let main_v20 : IVec S2048x1024 1 := cmpf .olt main_v18 main_v19
  let main_c_6 : IVec S_ 1 := constantI S_ 1 1#1
  let main_v21 : IVec S_ 1 := (fun x v => Host.reduce IntOp.andi x v reducesTo_S2048x1024_S_d0_1 h_S_) main_v20 main_c_6
  let main_v22 : IVec S_ 1 := andi main_v17 main_v21
  let main_v23 : FVec F S1024x64 .f32 := Host.absf main_arg1
  let main_cst_7 : FVec F S_ .f32 := constant S_ .f32 0x7F800000#32
  let main_v24 : FVec F S1024x64 .f32 := broadcastInDim S1024x64 ![] bcast_S_S1024x64 main_cst_7
  let main_v25 : IVec S1024x64 1 := cmpf .olt main_v23 main_v24
  let main_c_8 : IVec S_ 1 := constantI S_ 1 1#1
  let main_v26 : IVec S_ 1 := (fun x v => Host.reduce IntOp.andi x v reducesTo_S1024x64_S_d0_1 h_S_) main_v25 main_c_8
  let main_v27 : IVec S_ 1 := andi main_v22 main_v26
  main_v27

def fn {F : FTy → Type} [FloatOps F] (main_arg0 : FVec F S2048x1024 .f32) (main_arg1 : FVec F S1024x64 .f32) (main_arg2 : IVec S2048x1 32) (main_arg3 : FVec F S8x1024x1024 .f32) (main_arg4 : FVec F S1024x1024 .f32) : IVec S_ 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_c : IVec S_ 32 := constantI S_ 32 0#32
  let main_v6 : IVec S2048x1 32 := broadcastInDim S2048x1 ![] bcast_S_S2048x1 main_c
  let main_v7 : IVec S2048x1 1 := cmpi .sge main_arg2 main_v6
  let main_c_0 : IVec S_ 1 := constantI S_ 1 1#1
  let main_v8 : IVec S_ 1 := (fun x v => Host.reduce IntOp.andi x v reducesTo_S2048x1_S_d0_1 h_S_) main_v7 main_c_0
  let main_c_1 : IVec S_ 32 := constantI S_ 32 64#32
  let main_v9 : IVec S2048x1 32 := broadcastInDim S2048x1 ![] bcast_S_S2048x1 main_c_1
  let main_v10 : IVec S2048x1 1 := cmpi .slt main_arg2 main_v9
  let main_c_2 : IVec S_ 1 := constantI S_ 1 1#1
  let main_v11 : IVec S_ 1 := (fun x v => Host.reduce IntOp.andi x v reducesTo_S2048x1_S_d0_1 h_S_) main_v10 main_c_2
  let main_v12 : IVec S_ 1 := andi main_v8 main_v11
  let main_c_3 : IVec S_ 32 := constantI S_ 32 0#32
  let main_v13 : IVec S64 32 := (fun x v => Host.reduce IntOp.addi x v reducesTo_S2048x64_S64_d0 h_S_) main_v5 main_c_3
  let main_c_4 : IVec S_ 32 := constantI S_ 32 64#32
  let main_v14 : IVec S64 32 := broadcastInDim S64 ![] bcast_S_S64 main_c_4
  let main_v15 : IVec S64 1 := cmpi .sle main_v13 main_v14
  let main_c_5 : IVec S_ 1 := constantI S_ 1 1#1
  let main_v16 : IVec S_ 1 := (fun x v => Host.reduce IntOp.andi x v reducesTo_S64_S_d0 h_S_) main_v15 main_c_5
  fn_part1 (F := F) main_arg0 main_arg1 main_v12 main_v16
-- ==== Pre_fits_ReferenceIdeal.lean ====
abbrev S16384x1024 : Shape := ⟨2, ![16384, 1024]⟩
abbrev S1024x64 : Shape := ⟨2, ![1024, 64]⟩
abbrev S16384x1 : Shape := ⟨2, ![16384, 1]⟩
abbrev S64x1024x1024 : Shape := ⟨3, ![64, 1024, 1024]⟩
abbrev S1024x1024 : Shape := ⟨2, ![1024, 1024]⟩
abbrev S64 : Shape := ⟨1, ![64]⟩
abbrev S1x64 : Shape := ⟨2, ![1, 64]⟩
abbrev S16384x64 : Shape := ⟨2, ![16384, 64]⟩
abbrev S_ : Shape := ⟨0, ![]⟩

class Facts : Prop where
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  natLt_1_32 : 1 < 32
  bcast_S_S16384x1 : S_.BroadcastsInDim S16384x1 (![] : Fin 0 → Fin S16384x1.rank)
  reducesTo_S16384x1_S_d0_1 : S16384x1.ReducesTo [0, 1] S_
  h_S_ : 0 < S_.numel
  reducesTo_S16384x64_S64_d0 : S16384x64.ReducesTo [0] S64
  bcast_S_S64 : S_.BroadcastsInDim S64 (![] : Fin 0 → Fin S64.rank)
  reducesTo_S64_S_d0 : S64.ReducesTo [0] S_
  bcast_S_S16384x1024 : S_.BroadcastsInDim S16384x1024 (![] : Fin 0 → Fin S16384x1024.rank)
  reducesTo_S16384x1024_S_d0_1 : S16384x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg0 : FVec F S16384x1024 .f32) (main_arg1 : FVec F S1024x64 .f32) (main_v12 : IVec S_ 1) (main_v16 : IVec S_ 1) : IVec S_ 1 :=
  let main_v17 : IVec S_ 1 := andi main_v12 main_v16
  let main_v18 : FVec F S16384x1024 .f32 := Host.absf main_arg0
  let main_cst : FVec F S_ .f32 := constant S_ .f32 0x7F800000#32
  let main_v19 : FVec F S16384x1024 .f32 := broadcastInDim S16384x1024 ![] bcast_S_S16384x1024 main_cst
  let main_v20 : IVec S16384x1024 1 := cmpf .olt main_v18 main_v19
  let main_c_6 : IVec S_ 1 := constantI S_ 1 1#1
  let main_v21 : IVec S_ 1 := (fun x v => Host.reduce IntOp.andi x v reducesTo_S16384x1024_S_d0_1 h_S_) main_v20 main_c_6
  let main_v22 : IVec S_ 1 := andi main_v17 main_v21
  let main_v23 : FVec F S1024x64 .f32 := Host.absf main_arg1
  let main_cst_7 : FVec F S_ .f32 := constant S_ .f32 0x7F800000#32
  let main_v24 : FVec F S1024x64 .f32 := broadcastInDim S1024x64 ![] bcast_S_S1024x64 main_cst_7
  let main_v25 : IVec S1024x64 1 := cmpf .olt main_v23 main_v24
  let main_c_8 : IVec S_ 1 := constantI S_ 1 1#1
  let main_v26 : IVec S_ 1 := (fun x v => Host.reduce IntOp.andi x v reducesTo_S1024x64_S_d0_1 h_S_) main_v25 main_c_8
  let main_v27 : IVec S_ 1 := andi main_v22 main_v26
  main_v27

def fn {F : FTy → Type} [FloatOps F] (main_arg0 : FVec F S16384x1024 .f32) (main_arg1 : FVec F S1024x64 .f32) (main_arg2 : IVec S16384x1 32) (main_arg3 : FVec F S64x1024x1024 .f32) (main_arg4 : FVec F S1024x1024 .f32) : IVec S_ 1 :=
  let main_v0 : IVec S64 32 := iotaInDim S64 32 0
  let main_v1 : IVec S1x64 32 := broadcastInDim S1x64 ![1] bcast_S64_S1x64_1 main_v0
  let main_v2 : IVec S16384x64 32 := broadcastInDim S16384x64 ![0, 1] bcast_S16384x1_S16384x64_0_1 main_arg2
  let main_v3 : IVec S16384x64 32 := broadcastInDim S16384x64 ![0, 1] bcast_S1x64_S16384x64_0_1 main_v1
  let main_v4 : IVec S16384x64 1 := cmpi .eq main_v2 main_v3
  let main_v5 : IVec S16384x64 32 := (extui 32 · natLt_1_32) main_v4
  let main_c : IVec S_ 32 := constantI S_ 32 0#32
  let main_v6 : IVec S16384x1 32 := broadcastInDim S16384x1 ![] bcast_S_S16384x1 main_c
  let main_v7 : IVec S16384x1 1 := cmpi .sge main_arg2 main_v6
  let main_c_0 : IVec S_ 1 := constantI S_ 1 1#1
  let main_v8 : IVec S_ 1 := (fun x v => Host.reduce IntOp.andi x v reducesTo_S16384x1_S_d0_1 h_S_) main_v7 main_c_0
  let main_c_1 : IVec S_ 32 := constantI S_ 32 64#32
  let main_v9 : IVec S16384x1 32 := broadcastInDim S16384x1 ![] bcast_S_S16384x1 main_c_1
  let main_v10 : IVec S16384x1 1 := cmpi .slt main_arg2 main_v9
  let main_c_2 : IVec S_ 1 := constantI S_ 1 1#1
  let main_v11 : IVec S_ 1 := (fun x v => Host.reduce IntOp.andi x v reducesTo_S16384x1_S_d0_1 h_S_) main_v10 main_c_2
  let main_v12 : IVec S_ 1 := andi main_v8 main_v11
  let main_c_3 : IVec S_ 32 := constantI S_ 32 0#32
  let main_v13 : IVec S64 32 := (fun x v => Host.reduce IntOp.addi x v reducesTo_S16384x64_S64_d0 h_S_) main_v5 main_c_3
  let main_c_4 : IVec S_ 32 := constantI S_ 32 64#32
  let main_v14 : IVec S64 32 := broadcastInDim S64 ![] bcast_S_S64 main_c_4
  let main_v15 : IVec S64 1 := cmpi .sle main_v13 main_v14
  let main_c_5 : IVec S_ 1 := constantI S_ 1 1#1
  let main_v16 : IVec S_ 1 := (fun x v => Host.reduce IntOp.andi x v reducesTo_S64_S_d0 h_S_) main_v15 main_c_5
  fn_part1 (F := F) main_arg0 main_arg1 main_v12 main_v16
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S1024x1024 : Shape := ⟨2, ![1024, 1024]⟩
abbrev S_ : Shape := ⟨0, ![]⟩
abbrev S2048x64 : Shape := ⟨2, ![2048, 64]⟩
abbrev S2048 : Shape := ⟨1, ![2048]⟩
abbrev S64 : Shape := ⟨1, ![64]⟩
abbrev S1x64 : Shape := ⟨2, ![1, 64]⟩
abbrev S1x2048 : Shape := ⟨2, ![1, 2048]⟩
abbrev S8x8x64x1024 : Shape := ⟨4, ![8, 8, 64, 1024]⟩
abbrev S4x8x64x1024 : Shape := ⟨4, ![4, 8, 64, 1024]⟩
abbrev S2x1024x1024 : Shape := ⟨3, ![2, 1024, 1024]⟩
abbrev S2x8x64x1024 : Shape := ⟨4, ![2, 8, 64, 1024]⟩
abbrev S8 : Shape := ⟨1, ![8]⟩
abbrev S2x8 : Shape := ⟨2, ![2, 8]⟩
abbrev S8x8 : Shape := ⟨2, ![8, 8]⟩
abbrev S2 : Shape := ⟨1, ![2]⟩
abbrev S512x2048 : Shape := ⟨2, ![512, 2048]⟩
abbrev S512x1024 : Shape := ⟨2, ![512, 1024]⟩
abbrev S8x64x1024 : Shape := ⟨3, ![8, 64, 1024]⟩
abbrev S1x8x64x1024 : Shape := ⟨4, ![1, 8, 64, 1024]⟩
abbrev S1 : Shape := ⟨1, ![1]⟩
abbrev S1x1024x1024 : Shape := ⟨3, ![1, 1024, 1024]⟩
abbrev S8x1x64x1024 : Shape := ⟨4, ![8, 1, 64, 1024]⟩
abbrev S1x64x1024 : Shape := ⟨3, ![1, 64, 1024]⟩
abbrev S64x1024 : Shape := ⟨2, ![64, 1024]⟩
abbrev S1x1x64x1024 : Shape := ⟨4, ![1, 1, 64, 1024]⟩
abbrev S1x1 : Shape := ⟨2, ![1, 1]⟩
abbrev S2048x512 : Shape := ⟨2, ![2048, 512]⟩

abbrev nBuf : Space → Nat
  | .hbm => 132
  | .vmem => 11
  | .smem => 0
  | _ => 0

abbrev hbmTy0_0 (i : Nat) : BufTy := match i % 128 with
  | 0 => ⟨S2048x1024, .f32⟩
  | 1 => ⟨S1024x64, .f32⟩
  | 2 => ⟨S2048x1, .i32⟩
  | 3 => ⟨S8x1024x1024, .f32⟩
  | 4 => ⟨S1024x1024, .f32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S2048x64, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x64, .f32⟩
  | 19 => ⟨S2048x64, .f32⟩
  | 20 => ⟨S2048x64, .f32⟩
  | 21 => ⟨S_, .f32⟩
  | 22 => ⟨S2048, .f32⟩
  | 23 => ⟨S2048x1, .f32⟩
  | 24 => ⟨S2048x64, .f32⟩
  | 25 => ⟨S2048x64, .f32⟩
  | 26 => ⟨S64, .i32⟩
  | 27 => ⟨S1x64, .i32⟩
  | 28 => ⟨S2048x64, .i32⟩
  | 29 => ⟨S2048x64, .i32⟩
  | 30 => ⟨S2048x64, .i1⟩
  | 31 => ⟨S2048x64, .f32⟩
  | 32 => ⟨S2048x64, .f32⟩
  | 33 => ⟨S_, .f32⟩
  | 34 => ⟨S2048, .f32⟩
  | 35 => ⟨S2048x64, .i32⟩
  | 36 => ⟨S_, .i32⟩
  | 37 => ⟨S_, .i32⟩
  | 38 => ⟨S2048x64, .i32⟩
  | 39 => ⟨S_, .i32⟩
  | 40 => ⟨S_, .i32⟩
  | 41 => ⟨S2048x64, .i32⟩
  | 42 => ⟨S2048x64, .i32⟩
  | 43 => ⟨S_, .i32⟩
  | 44 => ⟨S2048, .i32⟩
  | 45 => ⟨S_, .i32⟩
  | 46 => ⟨S2048, .i32⟩
  | 47 => ⟨S2048, .i32⟩
  | 48 => ⟨S2048, .i32⟩
  | 49 => ⟨S_, .i32⟩
  | 50 => ⟨S_, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S2048, .i32⟩
  | 58 => ⟨S2048, .i32⟩
  | 59 => ⟨S_, .i32⟩
  | 60 => ⟨S2048, .i32⟩
  | 61 => ⟨S2048, .i1⟩
  | 62 => ⟨S2048, .i1⟩
  | 63 => ⟨S_, .i32⟩
  | 64 => ⟨S2048, .i32⟩
  | 65 => ⟨S2048, .i32⟩
  | 66 => ⟨S2048, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i1⟩
  | 81 => ⟨S_, .i32⟩
  | 82 => ⟨S_, .i1⟩
  | 83 => ⟨S2048, .i1⟩
  | 84 => ⟨S2048, .i1⟩
  | 85 => ⟨S2048, .i1⟩
  | 86 => ⟨S2048, .i32⟩
  | 87 => ⟨S2048, .i32⟩
  | 88 => ⟨S2048, .i32⟩
  | 89 => ⟨S2048, .i32⟩
  | 90 => ⟨S2048, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S2048, .i32⟩
  | 98 => ⟨S2048, .i32⟩
  | 99 => ⟨S_, .i32⟩
  | 100 => ⟨S2048, .i32⟩
  | 101 => ⟨S2048, .i1⟩
  | 102 => ⟨S_, .i32⟩
  | 103 => ⟨S2048, .i32⟩
  | 104 => ⟨S2048, .i1⟩
  | 105 => ⟨S_, .i32⟩
  | 106 => ⟨S_, .i1⟩
  | 107 => ⟨S2048, .i1⟩
  | 108 => ⟨S2048, .i1⟩
  | 109 => ⟨S2048, .i1⟩
  | 110 => ⟨S2048, .i32⟩
  | 111 => ⟨S2048, .i32⟩
  | 112 => ⟨S2048, .i32⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S2048, .i32⟩
  | 120 => ⟨S2048, .i32⟩
  | 121 => ⟨S_, .i32⟩
  | 122 => ⟨S2048, .i32⟩
  | 123 => ⟨S2048, .i1⟩
  | 124 => ⟨S_, .i32⟩
  | 125 => ⟨S_, .i32⟩
  | 126 => ⟨S2048, .i32⟩
  | 127 => ⟨S2048, .i32⟩
  | _ => ⟨S2048x1024, .f32⟩

abbrev hbmTy0_1 (i : Nat) : BufTy := match i % 128 with
  | 0 => ⟨S1x2048, .f32⟩
  | 1 => ⟨S1x2048, .i32⟩
  | 2 => ⟨S2048x1, .i32⟩
  | 3 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S1x2048, .f32⟩
  | .local _ .vmem, ⟨2, _⟩ => ⟨S1x2048, .i32⟩
  | .local _ .vmem, ⟨3, _⟩ => ⟨S2048x1, .i32⟩
  | .local _ .vmem, ⟨4, _⟩ => ⟨S1024x1024, .f32⟩
  | .local _ .vmem, ⟨5, _⟩ => ⟨S2048x1024, .f32⟩
  | .local _ .vmem, ⟨6, _⟩ => ⟨S8x8x64x1024, .bf16⟩
  | .local _ .vmem, ⟨7, _⟩ => ⟨S4x8x64x1024, .bf16⟩
  | .local _ .vmem, ⟨8, _⟩ => ⟨S2x1024x1024, .f32⟩
  | .local _ .vmem, ⟨9, _⟩ => ⟨S2x8x64x1024, .bf16⟩
  | .local _ .vmem, ⟨10, _⟩ => ⟨S8x8x64x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  (ofTc nBuf bufTy 1 104 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_call0_call0_c : Ref sig .tc := ⟨.hbm, 36, rfl⟩
abbrev main_call0_call0_v0 : Ref sig .tc := ⟨.hbm, 37, rfl⟩
abbrev main_v26 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v32 : Ref sig .tc := ⟨.hbm, 66, rfl⟩
abbrev main_c_8 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_v5 : Ref sig .tc := ⟨.hbm, 76, rfl⟩
abbrev main_call3_v6 : Ref sig .tc := ⟨.hbm, 77, rfl⟩
abbrev main_call3_c_2 : Ref sig .tc := ⟨.hbm, 78, rfl⟩
abbrev main_call3_v7 : Ref sig .tc := ⟨.hbm, 79, rfl⟩
abbrev main_call3_v8 : Ref sig .tc := ⟨.hbm, 80, rfl⟩
abbrev main_call3_c_3 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_c_9 : Ref sig .tc := ⟨.hbm, 91, rfl⟩
abbrev main_call4_v0 : Ref sig .tc := ⟨.hbm, 92, rfl⟩
abbrev main_call4_c : Ref sig .tc := ⟨.hbm, 93, rfl⟩
abbrev main_call4_v1 : Ref sig .tc := ⟨.hbm, 94, rfl⟩
abbrev main_call4_c_0 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_1 : Ref sig .tc := ⟨.hbm, 99, rfl⟩
abbrev main_call4_v5 : Ref sig .tc := ⟨.hbm, 100, rfl⟩
abbrev main_call4_v6 : Ref sig .tc := ⟨.hbm, 101, rfl⟩
abbrev main_call4_c_2 : Ref sig .tc := ⟨.hbm, 102, rfl⟩
abbrev main_call4_v7 : Ref sig .tc := ⟨.hbm, 103, rfl⟩
abbrev main_call4_v8 : Ref sig .tc := ⟨.hbm, 104, rfl⟩
abbrev main_call4_c_3 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_v36 : Ref sig .tc := ⟨.hbm, 112, rfl⟩
abbrev main_c_10 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_c_11 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_c_12 : Ref sig .tc := ⟨.hbm, 121, rfl⟩
abbrev main_v43 : Ref sig .tc := ⟨.hbm, 122, rfl⟩
abbrev main_v44 : Ref sig .tc := ⟨.hbm, 123, rfl⟩
abbrev main_c_13 : Ref sig .tc := ⟨.hbm, 124, rfl⟩
abbrev main_call5_v0 : Ref sig .tc := ⟨.hbm, 125, rfl⟩
abbrev main_call5_v1 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_38 : BitVec 32 := 1#32
  let v53 : BitVec 32 := Scalar.addi v2 c1_i32_38
  let c8_i32_39 : BitVec 32 := 8#32
  let v54 : BitVec 32 := Scalar.remsi v53 c8_i32_39
  let c1_i32_44 : BitVec 32 := 1#32
  let v55 : BitVec 32 := Scalar.muli v54 c1_i32_44
  let v56 : BitVec 32 := Scalar.addi c0_i32_45 v55
  v56.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v82 : BitVec 32 := Scalar.addi v2 c2_i32_59
  let c8_i32_60 : BitVec 32 := 8#32
  let v83 : BitVec 32 := Scalar.remsi v82 c8_i32_60
  let c1_i32_65 : BitVec 32 := 1#32
  let v84 : BitVec 32 := Scalar.muli v83 c1_i32_65
  let v85 : BitVec 32 := Scalar.addi c0_i32_66 v84
  v85.toNat
def k0_dev10 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v111 : BitVec 32 := Scalar.addi v2 c3_i32_80
  let c8_i32_81 : BitVec 32 := 8#32
  let v112 : BitVec 32 := Scalar.remsi v111 c8_i32_81
  let c1_i32_86 : BitVec 32 := 1#32
  let v113 : BitVec 32 := Scalar.muli v112 c1_i32_86
  let v114 : BitVec 32 := Scalar.addi c0_i32_87 v113
  v114.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_102 : BitVec 32 := 4#32
  let v140 : BitVec 32 := Scalar.addi v2 c4_i32_102
  let c8_i32_103 : BitVec 32 := 8#32
  let v141 : BitVec 32 := Scalar.remsi v140 c8_i32_103
  let c1_i32_108 : BitVec 32 := 1#32
  let v142 : BitVec 32 := Scalar.muli v141 c1_i32_108
  let v143 : BitVec 32 := Scalar.addi c0_i32_109 v142
  v143.toNat
def k0_dev12 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_135 : BitVec 32 := 5#32
  let v175 : BitVec 32 := Scalar.addi v2 c5_i32_135
  let c8_i32_136 : BitVec 32 := 8#32
  let v176 : BitVec 32 := Scalar.remsi v175 c8_i32_136
  let c1_i32_141 : BitVec 32 := 1#32
  let v177 : BitVec 32 := Scalar.muli v176 c1_i32_141
  let v178 : BitVec 32 := Scalar.addi c0_i32_142 v177
  v178.toNat
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_168 : BitVec 32 := 6#32
  let v210 : BitVec 32 := Scalar.addi v2 c6_i32_168
  let c8_i32_169 : BitVec 32 := 8#32
  let v211 : BitVec 32 := Scalar.remsi v210 c8_i32_169
  let c1_i32_174 : BitVec 32 := 1#32
  let v212 : BitVec 32 := Scalar.muli v211 c1_i32_174
  let v213 : BitVec 32 := Scalar.addi c0_i32_175 v212
  v213.toNat
def k0_dev14 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_201 : BitVec 32 := 7#32
  let v245 : BitVec 32 := Scalar.addi v2 c7_i32_201
  let c8_i32_202 : BitVec 32 := 8#32
  let v246 : BitVec 32 := Scalar.remsi v245 c8_i32_202
  let c1_i32_207 : BitVec 32 := 1#32
  let v247 : BitVec 32 := Scalar.muli v246 c1_i32_207
  let v248 : BitVec 32 := Scalar.addi c0_i32_208 v247
  v248.toNat
def k0_dev15 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v373 : BitVec 32 := Scalar.subi v2 c1_i32_354
  let c8_i32_355 : BitVec 32 := 8#32
  let v374 : BitVec 32 := Scalar.addi v373 c8_i32_355
  let c8_i32_356 : BitVec 32 := 8#32
  let v375 : BitVec 32 := Scalar.remsi v374 c8_i32_356
  let c1_i32_365 : BitVec 32 := 1#32
  let v376 : BitVec 32 := Scalar.muli v375 c1_i32_365
  let v377 : BitVec 32 := Scalar.addi c0_i32_366 v376
  v377.toNat
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_371 : BitVec 32 := 2#32
  let v386 : BitVec 32 := Scalar.subi v2 c2_i32_371
  let c8_i32_372 : BitVec 32 := 8#32
  let v387 : BitVec 32 := Scalar.addi v386 c8_i32_372
  let c8_i32_373 : BitVec 32 := 8#32
  let v388 : BitVec 32 := Scalar.remsi v387 c8_i32_373
  let c1_i32_382 : BitVec 32 := 1#32
  let v389 : BitVec 32 := Scalar.muli v388 c1_i32_382
  let v390 : BitVec 32 := Scalar.addi c0_i32_383 v389
  v390.toNat
def k0_dev17 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_388 : BitVec 32 := 3#32
  let v399 : BitVec 32 := Scalar.subi v2 c3_i32_388
  let c8_i32_389 : BitVec 32 := 8#32
  let v400 : BitVec 32 := Scalar.addi v399 c8_i32_389
  let c8_i32_390 : BitVec 32 := 8#32
  let v401 : BitVec 32 := Scalar.remsi v400 c8_i32_390
  let c1_i32_399 : BitVec 32 := 1#32
  let v402 : BitVec 32 := Scalar.muli v401 c1_i32_399
  let v403 : BitVec 32 := Scalar.addi c0_i32_400 v402
  v403.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_405 : BitVec 32 := 4#32
  let v412 : BitVec 32 := Scalar.subi v2 c4_i32_405
  let c8_i32_406 : BitVec 32 := 8#32
  let v413 : BitVec 32 := Scalar.addi v412 c8_i32_406
  let c8_i32_407 : BitVec 32 := 8#32
  let v414 : BitVec 32 := Scalar.remsi v413 c8_i32_407
  let c1_i32_416 : BitVec 32 := 1#32
  let v415 : BitVec 32 := Scalar.muli v414 c1_i32_416
  let v416 : BitVec 32 := Scalar.addi c0_i32_417 v415
  v416.toNat
def k0_dev19 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_422 : BitVec 32 := 5#32
  let v425 : BitVec 32 := Scalar.subi v2 c5_i32_422
  let c8_i32_423 : BitVec 32 := 8#32
  let v426 : BitVec 32 := Scalar.addi v425 c8_i32_423
  let c8_i32_424 : BitVec 32 := 8#32
  let v427 : BitVec 32 := Scalar.remsi v426 c8_i32_424
  let c1_i32_433 : BitVec 32 := 1#32
  let v428 : BitVec 32 := Scalar.muli v427 c1_i32_433
  let v429 : BitVec 32 := Scalar.addi c0_i32_434 v428
  v429.toNat
def k0_dev20 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_439 : BitVec 32 := 6#32
  let v438 : BitVec 32 := Scalar.subi v2 c6_i32_439
  let c8_i32_440 : BitVec 32 := 8#32
  let v439 : BitVec 32 := Scalar.addi v438 c8_i32_440
  let c8_i32_441 : BitVec 32 := 8#32
  let v440 : BitVec 32 := Scalar.remsi v439 c8_i32_441
  let c1_i32_450 : BitVec 32 := 1#32
  let v441 : BitVec 32 := Scalar.muli v440 c1_i32_450
  let v442 : BitVec 32 := Scalar.addi c0_i32_451 v441
  v442.toNat
def k0_dev21 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_456 : BitVec 32 := 7#32
  let v451 : BitVec 32 := Scalar.subi v2 c7_i32_456
  let c8_i32_457 : BitVec 32 := 8#32
  let v452 : BitVec 32 := Scalar.addi v451 c8_i32_457
  let c8_i32_458 : BitVec 32 := 8#32
  let v453 : BitVec 32 := Scalar.remsi v452 c8_i32_458
  let c1_i32_467 : BitVec 32 := 1#32
  let v454 : BitVec 32 := Scalar.muli v453 c1_i32_467
  let v455 : BitVec 32 := Scalar.addi c0_i32_468 v454
  v455.toNat
def k0_dev22 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v493 : BitVec 32 := Scalar.subi v2 c1_i32_503
  let c8_i32_504 : BitVec 32 := 8#32
  let v494 : BitVec 32 := Scalar.addi v493 c8_i32_504
  let c8_i32_505 : BitVec 32 := 8#32
  let v495 : BitVec 32 := Scalar.remsi v494 c8_i32_505
  let c1_i32_514 : BitVec 32 := 1#32
  let v496 : BitVec 32 := Scalar.muli v495 c1_i32_514
  let v497 : BitVec 32 := Scalar.addi c0_i32_515 v496
  v497.toNat
def k0_dev23 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_520 : BitVec 32 := 2#32
  let v506 : BitVec 32 := Scalar.subi v2 c2_i32_520
  let c8_i32_521 : BitVec 32 := 8#32
  let v507 : BitVec 32 := Scalar.addi v506 c8_i32_521
  let c8_i32_522 : BitVec 32 := 8#32
  let v508 : BitVec 32 := Scalar.remsi v507 c8_i32_522
  let c1_i32_531 : BitVec 32 := 1#32
  let v509 : BitVec 32 := Scalar.muli v508 c1_i32_531
  let v510 : BitVec 32 := Scalar.addi c0_i32_532 v509
  v510.toNat
def k0_dev24 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_537 : BitVec 32 := 3#32
  let v519 : BitVec 32 := Scalar.subi v2 c3_i32_537
  let c8_i32_538 : BitVec 32 := 8#32
  let v520 : BitVec 32 := Scalar.addi v519 c8_i32_538
  let c8_i32_539 : BitVec 32 := 8#32
  let v521 : BitVec 32 := Scalar.remsi v520 c8_i32_539
  let c1_i32_548 : BitVec 32 := 1#32
  let v522 : BitVec 32 := Scalar.muli v521 c1_i32_548
  let v523 : BitVec 32 := Scalar.addi c0_i32_549 v522
  v523.toNat
def k0_dev25 (d0 : Dev nD) : Nat :=
  let c0_i32_566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_554 : BitVec 32 := 4#32
  let v532 : BitVec 32 := Scalar.subi v2 c4_i32_554
  let c8_i32_555 : BitVec 32 := 8#32
  let v533 : BitVec 32 := Scalar.addi v532 c8_i32_555
  let c8_i32_556 : BitVec 32 := 8#32
  let v534 : BitVec 32 := Scalar.remsi v533 c8_i32_556
  let c1_i32_565 : BitVec 32 := 1#32
  let v535 : BitVec 32 := Scalar.muli v534 c1_i32_565
  let v536 : BitVec 32 := Scalar.addi c0_i32_566 v535
  v536.toNat
def k0_dev26 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_571 : BitVec 32 := 5#32
  let v545 : BitVec 32 := Scalar.subi v2 c5_i32_571
  let c8_i32_572 : BitVec 32 := 8#32
  let v546 : BitVec 32 := Scalar.addi v545 c8_i32_572
  let c8_i32_573 : BitVec 32 := 8#32
  let v547 : BitVec 32 := Scalar.remsi v546 c8_i32_573
  let c1_i32_582 : BitVec 32 := 1#32
  let v548 : BitVec 32 := Scalar.muli v547 c1_i32_582
  let v549 : BitVec 32 := Scalar.addi c0_i32_583 v548
  v549.toNat
def k0_dev27 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_588 : BitVec 32 := 6#32
  let v558 : BitVec 32 := Scalar.subi v2 c6_i32_588
  let c8_i32_589 : BitVec 32 := 8#32
  let v559 : BitVec 32 := Scalar.addi v558 c8_i32_589
  let c8_i32_590 : BitVec 32 := 8#32
  let v560 : BitVec 32 := Scalar.remsi v559 c8_i32_590
  let c1_i32_599 : BitVec 32 := 1#32
  let v561 : BitVec 32 := Scalar.muli v560 c1_i32_599
  let v562 : BitVec 32 := Scalar.addi c0_i32_600 v561
  v562.toNat
def k0_dev28 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_605 : BitVec 32 := 7#32
  let v571 : BitVec 32 := Scalar.subi v2 c7_i32_605
  let c8_i32_606 : BitVec 32 := 8#32
  let v572 : BitVec 32 := Scalar.addi v571 c8_i32_606
  let c8_i32_607 : BitVec 32 := 8#32
  let v573 : BitVec 32 := Scalar.remsi v572 c8_i32_607
  let c1_i32_616 : BitVec 32 := 1#32
  let v574 : BitVec 32 := Scalar.muli v573 c1_i32_616
  let v575 : BitVec 32 := Scalar.addi c0_i32_617 v574
  v575.toNat
def k0_dev29 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_865 : BitVec 32 := 1#32
  let v772 : BitVec 32 := Scalar.subi v2 c1_i32_865
  let c8_i32_866 : BitVec 32 := 8#32
  let v773 : BitVec 32 := Scalar.addi v772 c8_i32_866
  let c8_i32_867 : BitVec 32 := 8#32
  let v774 : BitVec 32 := Scalar.remsi v773 c8_i32_867
  let c1_i32_876 : BitVec 32 := 1#32
  let v775 : BitVec 32 := Scalar.muli v774 c1_i32_876
  let v776 : BitVec 32 := Scalar.addi c0_i32_877 v775
  v776.toNat
def k0_dev30 (d0 : Dev nD) : Nat :=
  let c0_i32_894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_882 : BitVec 32 := 2#32
  let v785 : BitVec 32 := Scalar.subi v2 c2_i32_882
  let c8_i32_883 : BitVec 32 := 8#32
  let v786 : BitVec 32 := Scalar.addi v785 c8_i32_883
  let c8_i32_884 : BitVec 32 := 8#32
  let v787 : BitVec 32 := Scalar.remsi v786 c8_i32_884
  let c1_i32_893 : BitVec 32 := 1#32
  let v788 : BitVec 32 := Scalar.muli v787 c1_i32_893
  let v789 : BitVec 32 := Scalar.addi c0_i32_894 v788
  v789.toNat
def k0_dev31 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_899 : BitVec 32 := 3#32
  let v798 : BitVec 32 := Scalar.subi v2 c3_i32_899
  let c8_i32_900 : BitVec 32 := 8#32
  let v799 : BitVec 32 := Scalar.addi v798 c8_i32_900
  let c8_i32_901 : BitVec 32 := 8#32
  let v800 : BitVec 32 := Scalar.remsi v799 c8_i32_901
  let c1_i32_910 : BitVec 32 := 1#32
  let v801 : BitVec 32 := Scalar.muli v800 c1_i32_910
  let v802 : BitVec 32 := Scalar.addi c0_i32_911 v801
  v802.toNat
def k0_dev32 (d0 : Dev nD) : Nat :=
  let c0_i32_928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_916 : BitVec 32 := 4#32
  let v811 : BitVec 32 := Scalar.subi v2 c4_i32_916
  let c8_i32_917 : BitVec 32 := 8#32
  let v812 : BitVec 32 := Scalar.addi v811 c8_i32_917
  let c8_i32_918 : BitVec 32 := 8#32
  let v813 : BitVec 32 := Scalar.remsi v812 c8_i32_918
  let c1_i32_927 : BitVec 32 := 1#32
  let v814 : BitVec 32 := Scalar.muli v813 c1_i32_927
  let v815 : BitVec 32 := Scalar.addi c0_i32_928 v814
  v815.toNat
def k0_dev33 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_933 : BitVec 32 := 5#32
  let v824 : BitVec 32 := Scalar.subi v2 c5_i32_933
  let c8_i32_934 : BitVec 32 := 8#32
  let v825 : BitVec 32 := Scalar.addi v824 c8_i32_934
  let c8_i32_935 : BitVec 32 := 8#32
  let v826 : BitVec 32 := Scalar.remsi v825 c8_i32_935
  let c1_i32_944 : BitVec 32 := 1#32
  let v827 : BitVec 32 := Scalar.muli v826 c1_i32_944
  let v828 : BitVec 32 := Scalar.addi c0_i32_945 v827
  v828.toNat
def k0_dev34 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_950 : BitVec 32 := 6#32
  let v837 : BitVec 32 := Scalar.subi v2 c6_i32_950
  let c8_i32_951 : BitVec 32 := 8#32
  let v838 : BitVec 32 := Scalar.addi v837 c8_i32_951
  let c8_i32_952 : BitVec 32 := 8#32
  let v839 : BitVec 32 := Scalar.remsi v838 c8_i32_952
  let c1_i32_961 : BitVec 32 := 1#32
  let v840 : BitVec 32 := Scalar.muli v839 c1_i32_961
  let v841 : BitVec 32 := Scalar.addi c0_i32_962 v840
  v841.toNat
def k0_dev35 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_967 : BitVec 32 := 7#32
  let v850 : BitVec 32 := Scalar.subi v2 c7_i32_967
  let c8_i32_968 : BitVec 32 := 8#32
  let v851 : BitVec 32 := Scalar.addi v850 c8_i32_968
  let c8_i32_969 : BitVec 32 := 8#32
  let v852 : BitVec 32 := Scalar.remsi v851 c8_i32_969
  let c1_i32_978 : BitVec 32 := 1#32
  let v853 : BitVec 32 := Scalar.muli v852 c1_i32_978
  let v854 : BitVec 32 := Scalar.addi c0_i32_979 v853
  v854.toNat
def k0_dev36 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1228 : BitVec 32 := 1#32
  let v1051 : BitVec 32 := Scalar.subi v2 c1_i32_1228
  let c8_i32_1229 : BitVec 32 := 8#32
  let v1052 : BitVec 32 := Scalar.addi v1051 c8_i32_1229
  let c8_i32_1230 : BitVec 32 := 8#32
  let v1053 : BitVec 32 := Scalar.remsi v1052 c8_i32_1230
  let c1_i32_1239 : BitVec 32 := 1#32
  let v1054 : BitVec 32 := Scalar.muli v1053 c1_i32_1239
  let v1055 : BitVec 32 := Scalar.addi c0_i32_1240 v1054
  v1055.toNat
def k0_dev37 (d0 : Dev nD) : Nat :=
  let c0_i32_1257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1245 : BitVec 32 := 2#32
  let v1064 : BitVec 32 := Scalar.subi v2 c2_i32_1245
  let c8_i32_1246 : BitVec 32 := 8#32
  let v1065 : BitVec 32 := Scalar.addi v1064 c8_i32_1246
  let c8_i32_1247 : BitVec 32 := 8#32
  let v1066 : BitVec 32 := Scalar.remsi v1065 c8_i32_1247
  let c1_i32_1256 : BitVec 32 := 1#32
  let v1067 : BitVec 32 := Scalar.muli v1066 c1_i32_1256
  let v1068 : BitVec 32 := Scalar.addi c0_i32_1257 v1067
  v1068.toNat
def k0_dev38 (d0 : Dev nD) : Nat :=
  let c0_i32_1274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1262 : BitVec 32 := 3#32
  let v1077 : BitVec 32 := Scalar.subi v2 c3_i32_1262
  let c8_i32_1263 : BitVec 32 := 8#32
  let v1078 : BitVec 32 := Scalar.addi v1077 c8_i32_1263
  let c8_i32_1264 : BitVec 32 := 8#32
  let v1079 : BitVec 32 := Scalar.remsi v1078 c8_i32_1264
  let c1_i32_1273 : BitVec 32 := 1#32
  let v1080 : BitVec 32 := Scalar.muli v1079 c1_i32_1273
  let v1081 : BitVec 32 := Scalar.addi c0_i32_1274 v1080
  v1081.toNat
def k0_dev39 (d0 : Dev nD) : Nat :=
  let c0_i32_1291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1279 : BitVec 32 := 4#32
  let v1090 : BitVec 32 := Scalar.subi v2 c4_i32_1279
  let c8_i32_1280 : BitVec 32 := 8#32
  let v1091 : BitVec 32 := Scalar.addi v1090 c8_i32_1280
  let c8_i32_1281 : BitVec 32 := 8#32
  let v1092 : BitVec 32 := Scalar.remsi v1091 c8_i32_1281
  let c1_i32_1290 : BitVec 32 := 1#32
  let v1093 : BitVec 32 := Scalar.muli v1092 c1_i32_1290
  let v1094 : BitVec 32 := Scalar.addi c0_i32_1291 v1093
  v1094.toNat
def k0_dev40 (d0 : Dev nD) : Nat :=
  let c0_i32_1308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1296 : BitVec 32 := 5#32
  let v1103 : BitVec 32 := Scalar.subi v2 c5_i32_1296
  let c8_i32_1297 : BitVec 32 := 8#32
  let v1104 : BitVec 32 := Scalar.addi v1103 c8_i32_1297
  let c8_i32_1298 : BitVec 32 := 8#32
  let v1105 : BitVec 32 := Scalar.remsi v1104 c8_i32_1298
  let c1_i32_1307 : BitVec 32 := 1#32
  let v1106 : BitVec 32 := Scalar.muli v1105 c1_i32_1307
  let v1107 : BitVec 32 := Scalar.addi c0_i32_1308 v1106
  v1107.toNat
def k0_dev41 (d0 : Dev nD) : Nat :=
  let c0_i32_1325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1313 : BitVec 32 := 6#32
  let v1116 : BitVec 32 := Scalar.subi v2 c6_i32_1313
  let c8_i32_1314 : BitVec 32 := 8#32
  let v1117 : BitVec 32 := Scalar.addi v1116 c8_i32_1314
  let c8_i32_1315 : BitVec 32 := 8#32
  let v1118 : BitVec 32 := Scalar.remsi v1117 c8_i32_1315
  let c1_i32_1324 : BitVec 32 := 1#32
  let v1119 : BitVec 32 := Scalar.muli v1118 c1_i32_1324
  let v1120 : BitVec 32 := Scalar.addi c0_i32_1325 v1119
  v1120.toNat
def k0_dev42 (d0 : Dev nD) : Nat :=
  let c0_i32_1342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1330 : BitVec 32 := 7#32
  let v1129 : BitVec 32 := Scalar.subi v2 c7_i32_1330
  let c8_i32_1331 : BitVec 32 := 8#32
  let v1130 : BitVec 32 := Scalar.addi v1129 c8_i32_1331
  let c8_i32_1332 : BitVec 32 := 8#32
  let v1131 : BitVec 32 := Scalar.remsi v1130 c8_i32_1332
  let c1_i32_1341 : BitVec 32 := 1#32
  let v1132 : BitVec 32 := Scalar.muli v1131 c1_i32_1341
  let v1133 : BitVec 32 := Scalar.addi c0_i32_1342 v1132
  v1133.toNat
def k0_dev43 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1590 : BitVec 32 := 1#32
  let v1330 : BitVec 32 := Scalar.subi v2 c1_i32_1590
  let c8_i32_1591 : BitVec 32 := 8#32
  let v1331 : BitVec 32 := Scalar.addi v1330 c8_i32_1591
  let c8_i32_1592 : BitVec 32 := 8#32
  let v1332 : BitVec 32 := Scalar.remsi v1331 c8_i32_1592
  let c1_i32_1601 : BitVec 32 := 1#32
  let v1333 : BitVec 32 := Scalar.muli v1332 c1_i32_1601
  let v1334 : BitVec 32 := Scalar.addi c0_i32_1602 v1333
  v1334.toNat
def k0_dev44 (d0 : Dev nD) : Nat :=
  let c0_i32_1619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1607 : BitVec 32 := 2#32
  let v1343 : BitVec 32 := Scalar.subi v2 c2_i32_1607
  let c8_i32_1608 : BitVec 32 := 8#32
  let v1344 : BitVec 32 := Scalar.addi v1343 c8_i32_1608
  let c8_i32_1609 : BitVec 32 := 8#32
  let v1345 : BitVec 32 := Scalar.remsi v1344 c8_i32_1609
  let c1_i32_1618 : BitVec 32 := 1#32
  let v1346 : BitVec 32 := Scalar.muli v1345 c1_i32_1618
  let v1347 : BitVec 32 := Scalar.addi c0_i32_1619 v1346
  v1347.toNat
def k0_dev45 (d0 : Dev nD) : Nat :=
  let c0_i32_1636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1624 : BitVec 32 := 3#32
  let v1356 : BitVec 32 := Scalar.subi v2 c3_i32_1624
  let c8_i32_1625 : BitVec 32 := 8#32
  let v1357 : BitVec 32 := Scalar.addi v1356 c8_i32_1625
  let c8_i32_1626 : BitVec 32 := 8#32
  let v1358 : BitVec 32 := Scalar.remsi v1357 c8_i32_1626
  let c1_i32_1635 : BitVec 32 := 1#32
  let v1359 : BitVec 32 := Scalar.muli v1358 c1_i32_1635
  let v1360 : BitVec 32 := Scalar.addi c0_i32_1636 v1359
  v1360.toNat
def k0_dev46 (d0 : Dev nD) : Nat :=
  let c0_i32_1653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1641 : BitVec 32 := 4#32
  let v1369 : BitVec 32 := Scalar.subi v2 c4_i32_1641
  let c8_i32_1642 : BitVec 32 := 8#32
  let v1370 : BitVec 32 := Scalar.addi v1369 c8_i32_1642
  let c8_i32_1643 : BitVec 32 := 8#32
  let v1371 : BitVec 32 := Scalar.remsi v1370 c8_i32_1643
  let c1_i32_1652 : BitVec 32 := 1#32
  let v1372 : BitVec 32 := Scalar.muli v1371 c1_i32_1652
  let v1373 : BitVec 32 := Scalar.addi c0_i32_1653 v1372
  v1373.toNat
def k0_dev47 (d0 : Dev nD) : Nat :=
  let c0_i32_1670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1658 : BitVec 32 := 5#32
  let v1382 : BitVec 32 := Scalar.subi v2 c5_i32_1658
  let c8_i32_1659 : BitVec 32 := 8#32
  let v1383 : BitVec 32 := Scalar.addi v1382 c8_i32_1659
  let c8_i32_1660 : BitVec 32 := 8#32
  let v1384 : BitVec 32 := Scalar.remsi v1383 c8_i32_1660
  let c1_i32_1669 : BitVec 32 := 1#32
  let v1385 : BitVec 32 := Scalar.muli v1384 c1_i32_1669
  let v1386 : BitVec 32 := Scalar.addi c0_i32_1670 v1385
  v1386.toNat
def k0_dev48 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1675 : BitVec 32 := 6#32
  let v1395 : BitVec 32 := Scalar.subi v2 c6_i32_1675
  let c8_i32_1676 : BitVec 32 := 8#32
  let v1396 : BitVec 32 := Scalar.addi v1395 c8_i32_1676
  let c8_i32_1677 : BitVec 32 := 8#32
  let v1397 : BitVec 32 := Scalar.remsi v1396 c8_i32_1677
  let c1_i32_1686 : BitVec 32 := 1#32
  let v1398 : BitVec 32 := Scalar.muli v1397 c1_i32_1686
  let v1399 : BitVec 32 := Scalar.addi c0_i32_1687 v1398
  v1399.toNat
def k0_dev49 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1692 : BitVec 32 := 7#32
  let v1408 : BitVec 32 := Scalar.subi v2 c7_i32_1692
  let c8_i32_1693 : BitVec 32 := 8#32
  let v1409 : BitVec 32 := Scalar.addi v1408 c8_i32_1693
  let c8_i32_1694 : BitVec 32 := 8#32
  let v1410 : BitVec 32 := Scalar.remsi v1409 c8_i32_1694
  let c1_i32_1703 : BitVec 32 := 1#32
  let v1411 : BitVec 32 := Scalar.muli v1410 c1_i32_1703
  let v1412 : BitVec 32 := Scalar.addi c0_i32_1704 v1411
  v1412.toNat
def k0_dev50 (d0 : Dev nD) : Nat :=
  let c0_i32_1964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1952 : BitVec 32 := 1#32
  let v1609 : BitVec 32 := Scalar.subi v2 c1_i32_1952
  let c8_i32_1953 : BitVec 32 := 8#32
  let v1610 : BitVec 32 := Scalar.addi v1609 c8_i32_1953
  let c8_i32_1954 : BitVec 32 := 8#32
  let v1611 : BitVec 32 := Scalar.remsi v1610 c8_i32_1954
  let c1_i32_1963 : BitVec 32 := 1#32
  let v1612 : BitVec 32 := Scalar.muli v1611 c1_i32_1963
  let v1613 : BitVec 32 := Scalar.addi c0_i32_1964 v1612
  v1613.toNat
def k0_dev51 (d0 : Dev nD) : Nat :=
  let c0_i32_1981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1969 : BitVec 32 := 2#32
  let v1622 : BitVec 32 := Scalar.subi v2 c2_i32_1969
  let c8_i32_1970 : BitVec 32 := 8#32
  let v1623 : BitVec 32 := Scalar.addi v1622 c8_i32_1970
  let c8_i32_1971 : BitVec 32 := 8#32
  let v1624 : BitVec 32 := Scalar.remsi v1623 c8_i32_1971
  let c1_i32_1980 : BitVec 32 := 1#32
  let v1625 : BitVec 32 := Scalar.muli v1624 c1_i32_1980
  let v1626 : BitVec 32 := Scalar.addi c0_i32_1981 v1625
  v1626.toNat
def k0_dev52 (d0 : Dev nD) : Nat :=
  let c0_i32_1998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1986 : BitVec 32 := 3#32
  let v1635 : BitVec 32 := Scalar.subi v2 c3_i32_1986
  let c8_i32_1987 : BitVec 32 := 8#32
  let v1636 : BitVec 32 := Scalar.addi v1635 c8_i32_1987
  let c8_i32_1988 : BitVec 32 := 8#32
  let v1637 : BitVec 32 := Scalar.remsi v1636 c8_i32_1988
  let c1_i32_1997 : BitVec 32 := 1#32
  let v1638 : BitVec 32 := Scalar.muli v1637 c1_i32_1997
  let v1639 : BitVec 32 := Scalar.addi c0_i32_1998 v1638
  v1639.toNat
def k0_dev53 (d0 : Dev nD) : Nat :=
  let c0_i32_2015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2003 : BitVec 32 := 4#32
  let v1648 : BitVec 32 := Scalar.subi v2 c4_i32_2003
  let c8_i32_2004 : BitVec 32 := 8#32
  let v1649 : BitVec 32 := Scalar.addi v1648 c8_i32_2004
  let c8_i32_2005 : BitVec 32 := 8#32
  let v1650 : BitVec 32 := Scalar.remsi v1649 c8_i32_2005
  let c1_i32_2014 : BitVec 32 := 1#32
  let v1651 : BitVec 32 := Scalar.muli v1650 c1_i32_2014
  let v1652 : BitVec 32 := Scalar.addi c0_i32_2015 v1651
  v1652.toNat
def k0_dev54 (d0 : Dev nD) : Nat :=
  let c0_i32_2032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2020 : BitVec 32 := 5#32
  let v1661 : BitVec 32 := Scalar.subi v2 c5_i32_2020
  let c8_i32_2021 : BitVec 32 := 8#32
  let v1662 : BitVec 32 := Scalar.addi v1661 c8_i32_2021
  let c8_i32_2022 : BitVec 32 := 8#32
  let v1663 : BitVec 32 := Scalar.remsi v1662 c8_i32_2022
  let c1_i32_2031 : BitVec 32 := 1#32
  let v1664 : BitVec 32 := Scalar.muli v1663 c1_i32_2031
  let v1665 : BitVec 32 := Scalar.addi c0_i32_2032 v1664
  v1665.toNat
def k0_dev55 (d0 : Dev nD) : Nat :=
  let c0_i32_2049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2037 : BitVec 32 := 6#32
  let v1674 : BitVec 32 := Scalar.subi v2 c6_i32_2037
  let c8_i32_2038 : BitVec 32 := 8#32
  let v1675 : BitVec 32 := Scalar.addi v1674 c8_i32_2038
  let c8_i32_2039 : BitVec 32 := 8#32
  let v1676 : BitVec 32 := Scalar.remsi v1675 c8_i32_2039
  let c1_i32_2048 : BitVec 32 := 1#32
  let v1677 : BitVec 32 := Scalar.muli v1676 c1_i32_2048
  let v1678 : BitVec 32 := Scalar.addi c0_i32_2049 v1677
  v1678.toNat
def k0_dev56 (d0 : Dev nD) : Nat :=
  let c0_i32_2066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2054 : BitVec 32 := 7#32
  let v1687 : BitVec 32 := Scalar.subi v2 c7_i32_2054
  let c8_i32_2055 : BitVec 32 := 8#32
  let v1688 : BitVec 32 := Scalar.addi v1687 c8_i32_2055
  let c8_i32_2056 : BitVec 32 := 8#32
  let v1689 : BitVec 32 := Scalar.remsi v1688 c8_i32_2056
  let c1_i32_2065 : BitVec 32 := 1#32
  let v1690 : BitVec 32 := Scalar.muli v1689 c1_i32_2065
  let v1691 : BitVec 32 := Scalar.addi c0_i32_2066 v1690
  v1691.toNat
def k0_dev57 (d0 : Dev nD) : Nat :=
  let c0_i32_2326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2314 : BitVec 32 := 1#32
  let v1888 : BitVec 32 := Scalar.subi v2 c1_i32_2314
  let c8_i32_2315 : BitVec 32 := 8#32
  let v1889 : BitVec 32 := Scalar.addi v1888 c8_i32_2315
  let c8_i32_2316 : BitVec 32 := 8#32
  let v1890 : BitVec 32 := Scalar.remsi v1889 c8_i32_2316
  let c1_i32_2325 : BitVec 32 := 1#32
  let v1891 : BitVec 32 := Scalar.muli v1890 c1_i32_2325
  let v1892 : BitVec 32 := Scalar.addi c0_i32_2326 v1891
  v1892.toNat
def k0_dev58 (d0 : Dev nD) : Nat :=
  let c0_i32_2343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2331 : BitVec 32 := 2#32
  let v1901 : BitVec 32 := Scalar.subi v2 c2_i32_2331
  let c8_i32_2332 : BitVec 32 := 8#32
  let v1902 : BitVec 32 := Scalar.addi v1901 c8_i32_2332
  let c8_i32_2333 : BitVec 32 := 8#32
  let v1903 : BitVec 32 := Scalar.remsi v1902 c8_i32_2333
  let c1_i32_2342 : BitVec 32 := 1#32
  let v1904 : BitVec 32 := Scalar.muli v1903 c1_i32_2342
  let v1905 : BitVec 32 := Scalar.addi c0_i32_2343 v1904
  v1905.toNat
def k0_dev59 (d0 : Dev nD) : Nat :=
  let c0_i32_2360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2348 : BitVec 32 := 3#32
  let v1914 : BitVec 32 := Scalar.subi v2 c3_i32_2348
  let c8_i32_2349 : BitVec 32 := 8#32
  let v1915 : BitVec 32 := Scalar.addi v1914 c8_i32_2349
  let c8_i32_2350 : BitVec 32 := 8#32
  let v1916 : BitVec 32 := Scalar.remsi v1915 c8_i32_2350
  let c1_i32_2359 : BitVec 32 := 1#32
  let v1917 : BitVec 32 := Scalar.muli v1916 c1_i32_2359
  let v1918 : BitVec 32 := Scalar.addi c0_i32_2360 v1917
  v1918.toNat
def k0_dev60 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2365 : BitVec 32 := 4#32
  let v1927 : BitVec 32 := Scalar.subi v2 c4_i32_2365
  let c8_i32_2366 : BitVec 32 := 8#32
  let v1928 : BitVec 32 := Scalar.addi v1927 c8_i32_2366
  let c8_i32_2367 : BitVec 32 := 8#32
  let v1929 : BitVec 32 := Scalar.remsi v1928 c8_i32_2367
  let c1_i32_2376 : BitVec 32 := 1#32
  let v1930 : BitVec 32 := Scalar.muli v1929 c1_i32_2376
  let v1931 : BitVec 32 := Scalar.addi c0_i32_2377 v1930
  v1931.toNat
def k0_dev61 (d0 : Dev nD) : Nat :=
  let c0_i32_2394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2382 : BitVec 32 := 5#32
  let v1940 : BitVec 32 := Scalar.subi v2 c5_i32_2382
  let c8_i32_2383 : BitVec 32 := 8#32
  let v1941 : BitVec 32 := Scalar.addi v1940 c8_i32_2383
  let c8_i32_2384 : BitVec 32 := 8#32
  let v1942 : BitVec 32 := Scalar.remsi v1941 c8_i32_2384
  let c1_i32_2393 : BitVec 32 := 1#32
  let v1943 : BitVec 32 := Scalar.muli v1942 c1_i32_2393
  let v1944 : BitVec 32 := Scalar.addi c0_i32_2394 v1943
  v1944.toNat
def k0_dev62 (d0 : Dev nD) : Nat :=
  let c0_i32_2411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2399 : BitVec 32 := 6#32
  let v1953 : BitVec 32 := Scalar.subi v2 c6_i32_2399
  let c8_i32_2400 : BitVec 32 := 8#32
  let v1954 : BitVec 32 := Scalar.addi v1953 c8_i32_2400
  let c8_i32_2401 : BitVec 32 := 8#32
  let v1955 : BitVec 32 := Scalar.remsi v1954 c8_i32_2401
  let c1_i32_2410 : BitVec 32 := 1#32
  let v1956 : BitVec 32 := Scalar.muli v1955 c1_i32_2410
  let v1957 : BitVec 32 := Scalar.addi c0_i32_2411 v1956
  v1957.toNat
def k0_dev63 (d0 : Dev nD) : Nat :=
  let c0_i32_2428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2416 : BitVec 32 := 7#32
  let v1966 : BitVec 32 := Scalar.subi v2 c7_i32_2416
  let c8_i32_2417 : BitVec 32 := 8#32
  let v1967 : BitVec 32 := Scalar.addi v1966 c8_i32_2417
  let c8_i32_2418 : BitVec 32 := 8#32
  let v1968 : BitVec 32 := Scalar.remsi v1967 c8_i32_2418
  let c1_i32_2427 : BitVec 32 := 1#32
  let v1969 : BitVec 32 := Scalar.muli v1968 c1_i32_2427
  let v1970 : BitVec 32 := Scalar.addi c0_i32_2428 v1969
  v1970.toNat
def k0_dev64 (d0 : Dev nD) : Nat :=
  let c0_i32_2681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2669 : BitVec 32 := 1#32
  let v2161 : BitVec 32 := Scalar.subi v2 c1_i32_2669
  let c8_i32_2670 : BitVec 32 := 8#32
  let v2162 : BitVec 32 := Scalar.addi v2161 c8_i32_2670
  let c8_i32_2671 : BitVec 32 := 8#32
  let v2163 : BitVec 32 := Scalar.remsi v2162 c8_i32_2671
  let c1_i32_2680 : BitVec 32 := 1#32
  let v2164 : BitVec 32 := Scalar.muli v2163 c1_i32_2680
  let v2165 : BitVec 32 := Scalar.addi c0_i32_2681 v2164
  v2165.toNat
def k0_dev65 (d0 : Dev nD) : Nat :=
  let c0_i32_2698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2686 : BitVec 32 := 2#32
  let v2174 : BitVec 32 := Scalar.subi v2 c2_i32_2686
  let c8_i32_2687 : BitVec 32 := 8#32
  let v2175 : BitVec 32 := Scalar.addi v2174 c8_i32_2687
  let c8_i32_2688 : BitVec 32 := 8#32
  let v2176 : BitVec 32 := Scalar.remsi v2175 c8_i32_2688
  let c1_i32_2697 : BitVec 32 := 1#32
  let v2177 : BitVec 32 := Scalar.muli v2176 c1_i32_2697
  let v2178 : BitVec 32 := Scalar.addi c0_i32_2698 v2177
  v2178.toNat
def k0_dev66 (d0 : Dev nD) : Nat :=
  let c0_i32_2715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2703 : BitVec 32 := 3#32
  let v2187 : BitVec 32 := Scalar.subi v2 c3_i32_2703
  let c8_i32_2704 : BitVec 32 := 8#32
  let v2188 : BitVec 32 := Scalar.addi v2187 c8_i32_2704
  let c8_i32_2705 : BitVec 32 := 8#32
  let v2189 : BitVec 32 := Scalar.remsi v2188 c8_i32_2705
  let c1_i32_2714 : BitVec 32 := 1#32
  let v2190 : BitVec 32 := Scalar.muli v2189 c1_i32_2714
  let v2191 : BitVec 32 := Scalar.addi c0_i32_2715 v2190
  v2191.toNat
def k0_dev67 (d0 : Dev nD) : Nat :=
  let c0_i32_2732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2720 : BitVec 32 := 4#32
  let v2200 : BitVec 32 := Scalar.subi v2 c4_i32_2720
  let c8_i32_2721 : BitVec 32 := 8#32
  let v2201 : BitVec 32 := Scalar.addi v2200 c8_i32_2721
  let c8_i32_2722 : BitVec 32 := 8#32
  let v2202 : BitVec 32 := Scalar.remsi v2201 c8_i32_2722
  let c1_i32_2731 : BitVec 32 := 1#32
  let v2203 : BitVec 32 := Scalar.muli v2202 c1_i32_2731
  let v2204 : BitVec 32 := Scalar.addi c0_i32_2732 v2203
  v2204.toNat
def k0_dev68 (d0 : Dev nD) : Nat :=
  let c0_i32_2749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2737 : BitVec 32 := 5#32
  let v2213 : BitVec 32 := Scalar.subi v2 c5_i32_2737
  let c8_i32_2738 : BitVec 32 := 8#32
  let v2214 : BitVec 32 := Scalar.addi v2213 c8_i32_2738
  let c8_i32_2739 : BitVec 32 := 8#32
  let v2215 : BitVec 32 := Scalar.remsi v2214 c8_i32_2739
  let c1_i32_2748 : BitVec 32 := 1#32
  let v2216 : BitVec 32 := Scalar.muli v2215 c1_i32_2748
  let v2217 : BitVec 32 := Scalar.addi c0_i32_2749 v2216
  v2217.toNat
def k0_dev69 (d0 : Dev nD) : Nat :=
  let c0_i32_2766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2754 : BitVec 32 := 6#32
  let v2226 : BitVec 32 := Scalar.subi v2 c6_i32_2754
  let c8_i32_2755 : BitVec 32 := 8#32
  let v2227 : BitVec 32 := Scalar.addi v2226 c8_i32_2755
  let c8_i32_2756 : BitVec 32 := 8#32
  let v2228 : BitVec 32 := Scalar.remsi v2227 c8_i32_2756
  let c1_i32_2765 : BitVec 32 := 1#32
  let v2229 : BitVec 32 := Scalar.muli v2228 c1_i32_2765
  let v2230 : BitVec 32 := Scalar.addi c0_i32_2766 v2229
  v2230.toNat
def k0_dev70 (d0 : Dev nD) : Nat :=
  let c0_i32_2783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2771 : BitVec 32 := 7#32
  let v2239 : BitVec 32 := Scalar.subi v2 c7_i32_2771
  let c8_i32_2772 : BitVec 32 := 8#32
  let v2240 : BitVec 32 := Scalar.addi v2239 c8_i32_2772
  let c8_i32_2773 : BitVec 32 := 8#32
  let v2241 : BitVec 32 := Scalar.remsi v2240 c8_i32_2773
  let c1_i32_2782 : BitVec 32 := 1#32
  let v2242 : BitVec 32 := Scalar.muli v2241 c1_i32_2782
  let v2243 : BitVec 32 := Scalar.addi c0_i32_2783 v2242
  v2243.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x1024 : Shape := ⟨2, ![16384, 1024]⟩
abbrev S1024x64 : Shape := ⟨2, ![1024, 64]⟩
abbrev S16384x1 : Shape := ⟨2, ![16384, 1]⟩
abbrev S64x1024x1024 : Shape := ⟨3, ![64, 1024, 1024]⟩
abbrev S1024x1024 : Shape := ⟨2, ![1024, 1024]⟩
abbrev S16384x64 : Shape := ⟨2, ![16384, 64]⟩
abbrev S_ : Shape := ⟨0, ![]⟩
abbrev S16384 : Shape := ⟨1, ![16384]⟩
abbrev S16384x1x1 : Shape := ⟨3, ![16384, 1, 1]⟩
abbrev S1 : Shape := ⟨1, ![1]⟩
abbrev S1x1x1 : Shape := ⟨3, ![1, 1, 1]⟩
abbrev S16384x1024x1024 : Shape := ⟨3, ![16384, 1024, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x64, .f32⟩
  | .hbm, ⟨2, _⟩ => ⟨S16384x1, .i32⟩
  | .hbm, ⟨3, _⟩ => ⟨S64x1024x1024, .f32⟩
  | .hbm, ⟨4, _⟩ => ⟨S1024x1024, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x1024, .f32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S16384x1x1, .i32⟩
  | .hbm, ⟨26, _⟩ => ⟨S1, .i32⟩
  | .hbm, ⟨27, _⟩ => ⟨S_, .i32⟩
  | .hbm, ⟨28, _⟩ => ⟨S16384x1x1, .i32⟩
  | .hbm, ⟨29, _⟩ => ⟨S16384x1x1, .i1⟩
  | .hbm, ⟨30, _⟩ => ⟨S1x1x1, .i32⟩
  | .hbm, ⟨31, _⟩ => ⟨S16384x1x1, .i32⟩
  | .hbm, ⟨32, _⟩ => ⟨S16384x1x1, .i1⟩
  | .hbm, ⟨33, _⟩ => ⟨S16384x1x1, .i1⟩
  | .hbm, ⟨34, _⟩ => ⟨S_, .i1⟩
  | .hbm, ⟨35, _⟩ => ⟨S16384x1, .i1⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S16384x1024x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Nice.lean ====
/- The kernel's body written as a structured program: one generic piece per stage (announce, dispatch, gather,
   expert, return, combine, drain), with the devices, views and payloads as functions of the slot and the expert.
   `body_eq` says that the printed body is this program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.KernelIdeal.Moe

open Idealize.ShloMosaic Idealize.ShloMosaic.TcCoe
open Idealize.SL Idealize.SL.Sem
open Cert.KernelIdeal.Gen

variable {F : FTy → Type} [FloatOps F]

/-! ## Operands -/

abbrev mX : Memref sig .tc .vmem S2048x1024 .f32 := Memref.whole cc0_stg0_0
abbrev mP : Memref sig .tc .vmem S1x2048 .f32 := Memref.whole cc0_stg1_0
abbrev mSr : Memref sig .tc .vmem S1x2048 .i32 := Memref.whole cc0_stg2_0
abbrev mSc : Memref sig .tc .vmem S2048x1 .i32 := Memref.whole cc0_stg3_0
abbrev mSw : Memref sig .tc .vmem S1024x1024 .f32 := Memref.whole cc0_stg4_0
abbrev mEw : Memref sig .tc .hbm S8x1024x1024 .f32 := Memref.whole main_arg3
abbrev mO : Memref sig .tc .vmem S2048x1024 .f32 := Memref.whole cc0_stg5_0
abbrev mXr : Memref sig .tc .vmem S8x8x64x1024 .bf16 := Memref.whole cc0_scratch0
abbrev mSb : Memref sig .tc .vmem S4x8x64x1024 .bf16 := Memref.whole cc0_scratch1
abbrev mWe : Memref sig .tc .vmem S2x1024x1024 .f32 := Memref.whole cc0_scratch2
abbrev mYb : Memref sig .tc .vmem S2x8x64x1024 .bf16 := Memref.whole cc0_scratch3
abbrev mYr : Memref sig .tc .vmem S8x8x64x1024 .bf16 := Memref.whole cc0_scratch4

theorem hXr : mXr.IsWhole := Memref.isWhole_whole _
theorem hSb : mSb.IsWhole := Memref.isWhole_whole _
theorem hYb : mYb.IsWhole := Memref.isWhole_whole _
theorem hYr : mYr.IsWhole := Memref.isWhole_whole _

/-! ## Where a view lies, as a function of the slot -/

theorem inXs : ∀ (k : Fin 8) (a : Fin 4), (![k.val, 0, 0, 0] : Fin 4 → Nat) a + S1x8x64x1024.size a ≤ S8x8x64x1024.size a := by decide
theorem inXc : ∀ (e : Fin 8) (a : Fin 4), (![0, e.val, 0, 0] : Fin 4 → Nat) a + S8x1x64x1024.size a ≤ S8x8x64x1024.size a := by decide
theorem inSb : ∀ (p : Fin 4) (a : Fin 4), (![p.val, 0, 0, 0] : Fin 4 → Nat) a + S1x8x64x1024.size a ≤ S4x8x64x1024.size a := by decide
theorem inWe : ∀ (p : Fin 2) (a : Fin 3), (![p.val, 0, 0] : Fin 3 → Nat) a + S1x1024x1024.size a ≤ S2x1024x1024.size a := by decide
theorem inEw : ∀ (e : Fin 8) (a : Fin 3), (![e.val, 0, 0] : Fin 3 → Nat) a + S1x1024x1024.size a ≤ S8x1024x1024.size a := by decide
theorem inYb : ∀ (p : Fin 2) (a : Fin 4), (![p.val, 0, 0, 0] : Fin 4 → Nat) a + S1x8x64x1024.size a ≤ S2x8x64x1024.size a := by decide
theorem inYp : ∀ (p : Fin 2) (k : Fin 8) (a : Fin 4), (![p.val, k.val, 0, 0] : Fin 4 → Nat) a + S1x1x64x1024.size a ≤ S2x8x64x1024.size a := by decide
theorem inYr : ∀ (k e : Fin 8) (a : Fin 4), (![k.val, e.val, 0, 0] : Fin 4 → Nat) a + S1x1x64x1024.size a ≤ S8x8x64x1024.size a := by decide
theorem inS8 : ∀ (k : Fin 8) (a : Fin 1), (![k.val] : Fin 1 → Nat) a + S1.size a ≤ S8.size a := by decide
theorem inS2 : ∀ (p : Fin 2) (a : Fin 1), (![p.val] : Fin 1 → Nat) a + S1.size a ≤ S2.size a := by decide
theorem inS28 : ∀ (p : Fin 2) (k : Fin 8) (a : Fin 2), (![p.val, k.val] : Fin 2 → Nat) a + S1x1.size a ≤ S2x8.size a := by decide
theorem inS88 : ∀ (k e : Fin 8) (a : Fin 2), (![k.val, e.val] : Fin 2 → Nat) a + S1x1.size a ≤ S8x8.size a := by decide

abbrev rXs (k : Fin 8) : Rect S8x8x64x1024 := Rect.unit (s := S8x8x64x1024) ![k.val, 0, 0, 0] S1x8x64x1024.size (inXs k)
abbrev rXc (e : Fin 8) : Rect S8x8x64x1024 := Rect.unit (s := S8x8x64x1024) ![0, e.val, 0, 0] S8x1x64x1024.size (inXc e)
abbrev rSb (p : Fin 4) : Rect S4x8x64x1024 := Rect.unit (s := S4x8x64x1024) ![p.val, 0, 0, 0] S1x8x64x1024.size (inSb p)
abbrev rWe (p : Fin 2) : Rect S2x1024x1024 := Rect.unit (s := S2x1024x1024) ![p.val, 0, 0] S1x1024x1024.size (inWe p)
abbrev rEw (e : Fin 8) : Rect S8x1024x1024 := Rect.unit (s := S8x1024x1024) ![e.val, 0, 0] S1x1024x1024.size (inEw e)
abbrev rYb (p : Fin 2) : Rect S2x8x64x1024 := Rect.unit (s := S2x8x64x1024) ![p.val, 0, 0, 0] S1x8x64x1024.size (inYb p)
abbrev rYp (p : Fin 2) (k : Fin 8) : Rect S2x8x64x1024 := Rect.unit (s := S2x8x64x1024) ![p.val, k.val, 0, 0] S1x1x64x1024.size (inYp p k)
abbrev rYr (k e : Fin 8) : Rect S8x8x64x1024 := Rect.unit (s := S8x8x64x1024) ![k.val, e.val, 0, 0] S1x1x64x1024.size (inYr k e)

theorem wXs : ∀ k : Fin 8, (rXs k).WholeWords (EltTy.packing .bf16) := by decide
theorem wSb : ∀ p : Fin 4, (rSb p).WholeWords (EltTy.packing .bf16) := by decide
theorem wYp : ∀ (p : Fin 2) (k : Fin 8), (rYp p k).WholeWords (EltTy.packing .bf16) := by decide
theorem wYr : ∀ (k e : Fin 8), (rYr k e).WholeWords (EltTy.packing .bf16) := by decide
theorem pXs : ∀ k : Fin 8, (rXs k).PackedRows (EltTy.packing .bf16) := by decide
theorem pSb : ∀ p : Fin 4, (rSb p).PackedRows (EltTy.packing .bf16) := by decide
theorem pYb : ∀ p : Fin 2, (rYb p).PackedRows (EltTy.packing .bf16) := by decide
theorem pYr : ∀ (k e : Fin 8), (rYr k e).PackedRows (EltTy.packing .bf16) := by decide

/-- Slot `k` of the receive buffer, as a copy names it. -/
abbrev vXr (k : Fin 8) : Memref sig .tc .vmem S8x64x1024 .bf16 := (mXr.slice (rXs k) (fun _ => rfl)).squeeze S8x64x1024 squeezes_S1x8x64x1024_S8x64x1024
abbrev vSb (p : Fin 4) : Memref sig .tc .vmem S8x64x1024 .bf16 := (mSb.slice (rSb p) (fun _ => rfl)).squeeze S8x64x1024 squeezes_S1x8x64x1024_S8x64x1024
abbrev vWe (p : Fin 2) : Memref sig .tc .vmem S1024x1024 .f32 := (mWe.slice (rWe p) (fun _ => rfl)).squeeze S1024x1024 squeezes_S1x1024x1024_S1024x1024
abbrev vEw (e : Fin 8) : Memref sig .tc .hbm S1024x1024 .f32 := (mEw.slice (rEw e) (fun _ => rfl)).squeeze S1024x1024 squeezes_S1x1024x1024_S1024x1024
abbrev vYb (p : Fin 2) (k : Fin 8) : Memref sig .tc .vmem S64x1024 .bf16 := (mYb.slice (rYp p k) (fun _ => rfl)).squeeze S64x1024 squeezes_S1x1x64x1024_S64x1024
abbrev vYr (k e : Fin 8) : Memref sig .tc .vmem S64x1024 .bf16 := (mYr.slice (rYr k e) (fun _ => rfl)).squeeze S64x1024 squeezes_S1x1x64x1024_S64x1024

theorem xXr (k : Fin 8) : (vXr k).view.WordExact := (hXr.wordExact_slice rfl _ (wXs k)).reshape _ _
theorem xSb (p : Fin 4) : (vSb p).view.WordExact := (hSb.wordExact_slice rfl _ (wSb p)).reshape _ _
theorem xYb (p : Fin 2) (k : Fin 8) : (vYb p k).view.WordExact := (hYb.wordExact_slice rfl _ (wYp p k)).reshape _ _
theorem xYr (k e : Fin 8) : (vYr k e).view.WordExact := (hYr.wordExact_slice rfl _ (wYr k e)).reshape _ _
theorem xWe (p : Fin 2) : (vWe p).view.WordExact := (View.wordExact_bits rfl).reshape _ _
theorem xEw (e : Fin 8) : (vEw e).view.WordExact := (View.wordExact_bits rfl).reshape _ _

/-! ## Semaphores -/

abbrev sBar : Sem sig := (SemArray.scalar (sig.barrier 0 rfl) : Sems sig S_).sem
abbrev sSX (k : Fin 8) : DmaSem sig := ((cc0_scratch5.slice (Rect.unit (s := S8) ![k.val] S1.size (inS8 k))).squeeze S_ squeezes_S1_S_).sem
abbrev sRX (k : Fin 8) : DmaSem sig := ((cc0_scratch6.slice (Rect.unit (s := S8) ![k.val] S1.size (inS8 k))).squeeze S_ squeezes_S1_S_).sem
abbrev sSY (p : Fin 2) (k : Fin 8) : DmaSem sig := ((cc0_scratch7.slice (Rect.unit (s := S2x8) ![p.val, k.val] S1x1.size (inS28 p k))).squeeze S_ squeezes_S1x1_S_).sem
abbrev sRY (k e : Fin 8) : DmaSem sig := ((cc0_scratch8.slice (Rect.unit (s := S8x8) ![k.val, e.val] S1x1.size (inS88 k e))).squeeze S_ squeezes_S1x1_S_).sem
abbrev sW (p : Fin 2) : DmaSem sig := ((cc0_scratch9.slice (Rect.unit (s := S2) ![p.val] S1.size (inS2 p))).squeeze S_ squeezes_S1_S_).sem

/-! ## Peers, as printed -/

/-- The device that slot `k`'s barrier signal goes to. -/
def devB (d : Dev nD) : Fin 8 → Dev nD
  | 0 => d
  | 1 => ⟨k0_dev1 d, k0_dev1_lt d⟩
  | 2 => ⟨k0_dev2 d, k0_dev2_lt d⟩
  | 3 => ⟨k0_dev3 d, k0_dev3_lt d⟩
  | 4 => ⟨k0_dev4 d, k0_dev4_lt d⟩
  | 5 => ⟨k0_dev5 d, k0_dev5_lt d⟩
  | 6 => ⟨k0_dev6 d, k0_dev6_lt d⟩
  | 7 => ⟨k0_dev7 d, k0_dev7_lt d⟩
/-- The device that slot `k` of the tokens goes to. -/
def devX (d : Dev nD) : Fin 8 → Dev nD
  | 0 => d
  | 1 => ⟨k0_dev8 d, k0_dev8_lt d⟩
  | 2 => ⟨k0_dev9 d, k0_dev9_lt d⟩
  | 3 => ⟨k0_dev10 d, k0_dev10_lt d⟩
  | 4 => ⟨k0_dev11 d, k0_dev11_lt d⟩
  | 5 => ⟨k0_dev12 d, k0_dev12_lt d⟩
  | 6 => ⟨k0_dev13 d, k0_dev13_lt d⟩
  | 7 => ⟨k0_dev14 d, k0_dev14_lt d⟩
/-- The device that slot `k` of expert `e`'s results goes back to. -/
def devY (d : Dev nD) : Fin 8 → Fin 8 → Dev nD
  | 0 => fun | 0 => d | 1 => ⟨k0_dev15 d, k0_dev15_lt d⟩ | 2 => ⟨k0_dev16 d, k0_dev16_lt d⟩ | 3 => ⟨k0_dev17 d, k0_dev17_lt d⟩ | 4 => ⟨k0_dev18 d, k0_dev18_lt d⟩ | 5 => ⟨k0_dev19 d, k0_dev19_lt d⟩ | 6 => ⟨k0_dev20 d, k0_dev20_lt d⟩ | 7 => ⟨k0_dev21 d, k0_dev21_lt d⟩
  | 1 => fun | 0 => d | 1 => ⟨k0_dev22 d, k0_dev22_lt d⟩ | 2 => ⟨k0_dev23 d, k0_dev23_lt d⟩ | 3 => ⟨k0_dev24 d, k0_dev24_lt d⟩ | 4 => ⟨k0_dev25 d, k0_dev25_lt d⟩ | 5 => ⟨k0_dev26 d, k0_dev26_lt d⟩ | 6 => ⟨k0_dev27 d, k0_dev27_lt d⟩ | 7 => ⟨k0_dev28 d, k0_dev28_lt d⟩
  | 2 => fun | 0 => d | 1 => ⟨k0_dev29 d, k0_dev29_lt d⟩ | 2 => ⟨k0_dev30 d, k0_dev30_lt d⟩ | 3 => ⟨k0_dev31 d, k0_dev31_lt d⟩ | 4 => ⟨k0_dev32 d, k0_dev32_lt d⟩ | 5 => ⟨k0_dev33 d, k0_dev33_lt d⟩ | 6 => ⟨k0_dev34 d, k0_dev34_lt d⟩ | 7 => ⟨k0_dev35 d, k0_dev35_lt d⟩
  | 3 => fun | 0 => d | 1 => ⟨k0_dev36 d, k0_dev36_lt d⟩ | 2 => ⟨k0_dev37 d, k0_dev37_lt d⟩ | 3 => ⟨k0_dev38 d, k0_dev38_lt d⟩ | 4 => ⟨k0_dev39 d, k0_dev39_lt d⟩ | 5 => ⟨k0_dev40 d, k0_dev40_lt d⟩ | 6 => ⟨k0_dev41 d, k0_dev41_lt d⟩ | 7 => ⟨k0_dev42 d, k0_dev42_lt d⟩
  | 4 => fun | 0 => d | 1 => ⟨k0_dev43 d, k0_dev43_lt d⟩ | 2 => ⟨k0_dev44 d, k0_dev44_lt d⟩ | 3 => ⟨k0_dev45 d, k0_dev45_lt d⟩ | 4 => ⟨k0_dev46 d, k0_dev46_lt d⟩ | 5 => ⟨k0_dev47 d, k0_dev47_lt d⟩ | 6 => ⟨k0_dev48 d, k0_dev48_lt d⟩ | 7 => ⟨k0_dev49 d, k0_dev49_lt d⟩
  | 5 => fun | 0 => d | 1 => ⟨k0_dev50 d, k0_dev50_lt d⟩ | 2 => ⟨k0_dev51 d, k0_dev51_lt d⟩ | 3 => ⟨k0_dev52 d, k0_dev52_lt d⟩ | 4 => ⟨k0_dev53 d, k0_dev53_lt d⟩ | 5 => ⟨k0_dev54 d, k0_dev54_lt d⟩ | 6 => ⟨k0_dev55 d, k0_dev55_lt d⟩ | 7 => ⟨k0_dev56 d, k0_dev56_lt d⟩
  | 6 => fun | 0 => d | 1 => ⟨k0_dev57 d, k0_dev57_lt d⟩ | 2 => ⟨k0_dev58 d, k0_dev58_lt d⟩ | 3 => ⟨k0_dev59 d, k0_dev59_lt d⟩ | 4 => ⟨k0_dev60 d, k0_dev60_lt d⟩ | 5 => ⟨k0_dev61 d, k0_dev61_lt d⟩ | 6 => ⟨k0_dev62 d, k0_dev62_lt d⟩ | 7 => ⟨k0_dev63 d, k0_dev63_lt d⟩
  | 7 => fun | 0 => d | 1 => ⟨k0_dev64 d, k0_dev64_lt d⟩ | 2 => ⟨k0_dev65 d, k0_dev65_lt d⟩ | 3 => ⟨k0_dev66 d, k0_dev66_lt d⟩ | 4 => ⟨k0_dev67 d, k0_dev67_lt d⟩ | 5 => ⟨k0_dev68 d, k0_dev68_lt d⟩ | 6 => ⟨k0_dev69 d, k0_dev69_lt d⟩ | 7 => ⟨k0_dev70 d, k0_dev70_lt d⟩

theorem devB_eq : ∀ (d : Dev nD) (k : Fin 8), devB d k = (d + k : Fin 8) := by decide +kernel
theorem devX_eq : ∀ (d : Dev nD) (k : Fin 8), devX d k = (d + k : Fin 8) := by decide +kernel
theorem devY_eq : ∀ (d : Dev nD) (e k : Fin 8), devY d e k = (d - k : Fin 8) := by decide +kernel

/-! ## Payloads, once for every slot and expert -/

/-- The 512 rows that slot `k` carries: row `r` sums `prow t * x t` over the tokens `t` whose slot number is `512 k + r`. -/
def gatherW (k : Fin 8) (srow : IVec S1x2048 32) (prow : FVec F S1x2048 .f32) : FVec F S512x2048 .f32 :=
  select (cmpi .eq (addi (iota .tc S512x2048 32 [0] iota_S512x2048_d0_w32) (broadcast S512x2048 (BitVec.ofNat 32 (512 * k.val))))
      (broadcastTo S512x2048 srow broadcasts_S1x2048_S512x2048))
    (broadcastTo S512x2048 (shapeCast S1x2048 prow shapeCasts_S1x2048_S1x2048) broadcasts_S1x2048_S512x2048)
    (broadcast S512x2048 (Scalar.ofBits .f32 0x00000000#32))

def gatherM (k : Fin 8) (srow : IVec S1x2048 32) (prow : FVec F S1x2048 .f32) (x : Vec F S2048x1024 .f32) : FVec F S512x1024 .bf16 :=
  truncf .bf16 (matmul dot_S512x2048_S2048x1024_S512x1024_1_0_0_1_n_n none (gatherW k srow prow)
    (shapeCast S2048x1024 x shapeCasts_S2048x1024_S2048x1024) (constant S512x1024 .f32 0x00000000#32)) bitsLt_bf16_f32

def gatherP (k : Fin 8) (srow : Vec F S1x2048 .i32) (prow : Vec F S1x2048 .f32) (x : Vec F S2048x1024 .f32) : FVec F S1x8x64x1024 .bf16 :=
  shapeCast S1x8x64x1024 (shapeCast S8x64x1024 (gatherM k (k0_pay1 srow) (k0_pay2 prow) x) shapeCasts_S512x1024_S8x64x1024) shapeCasts_S8x64x1024_S1x8x64x1024

/-- What expert weights `we` make of column `xc` of the receive buffer. -/
def expertP (xc : Vec F S8x1x64x1024 .bf16) (we : Vec F S1x1024x1024 .f32) : FVec F S8x64x1024 .bf16 :=
  k0_pay15 xc we
def ownP (xc : Vec F S8x1x64x1024 .bf16) (we : Vec F S1x1024x1024 .f32) : FVec F S1x1x64x1024 .bf16 :=
  shapeCast S1x1x64x1024 (shapeCast S64x1024 (extractStridedSlice S1x64x1024 ![0, 0, 0] (expertP xc we) slices_S8x64x1024_o0_0_0_S1x64x1024)
    shapeCasts_S1x64x1024_S64x1024) shapeCasts_S64x1024_S1x1x64x1024
def sendP (xc : Vec F S8x1x64x1024 .bf16) (we : Vec F S1x1024x1024 .f32) : FVec F S1x8x64x1024 .bf16 :=
  shapeCast S1x8x64x1024 (expertP xc we) shapeCasts_S8x64x1024_S1x8x64x1024

/-- Which slot number column `j` of expert `e`'s results stands for. -/
def slotOf (e : Fin 8) : IVec S2048x512 32 :=
  have i : IVec S2048x512 32 := iota .tc S2048x512 32 [1] iota_S2048x512_d1_w32
  have b (w : BitVec 32) : IVec S2048x512 32 := broadcast S2048x512 w
  have q : IVec S2048x512 32 := divsi i (b 64#32)
  have s : IVec S2048x512 32 := subi (extui 32 (cmpi .sgt i (b 0#32)) natLt_1_32) (extui 32 (cmpi .slt i (b 0#32)) natLt_1_32)
  have u : BitVec 32 := Scalar.subi (Scalar.extui (Scalar.cmpi .sgt 64#32 0#32)) (Scalar.extui (Scalar.cmpi .slt 64#32 0#32))
  have fq : IVec S2048x512 32 := select (andi (cmpi .ne s (b u)) (cmpi .ne (remsi i (b 64#32)) (b 0#32))) (subi q (b 1#32)) q
  have hi : IVec S2048x512 32 := muli (addi (muli fq (b 8#32)) (b (BitVec.ofNat 32 e.val))) (b 64#32)
  have m : BitVec 32 := Scalar.select (Scalar.cmpi .eq 64#32 0#32) 1#32 64#32
  have r : IVec S2048x512 32 := remsi i (b m)
  have fr : IVec S2048x512 32 := select (andi (xori (cmpi .slt r (b 0#32))
      (broadcastTo S2048x512 (broadcast S2048x512 (Scalar.cmpi .slt m 0#32)) broadcasts_S2048x512_S2048x512)) (cmpi .ne r (b 0#32)))
    (addi r (b m)) r
  addi hi fr

/-- The output after expert `e`'s results are added into it. -/
def combineP (e : Fin 8) (scol : IVec S2048x1 32) (yc : Vec F S8x1x64x1024 .bf16) (o : Vec F S2048x1024 .f32) : FVec F S2048x1024 .f32 :=
  addf (shapeCast S2048x1024 o shapeCasts_S2048x1024_S2048x1024)
    (matmul dot_S2048x512_S512x1024_S2048x1024_1_0_0_1_n_n none
      (truncf .bf16 (sitofp .f32 (extui 32 (cmpi .eq (slotOf e) (broadcastTo S2048x512 scol broadcasts_S2048x1_S2048x512)) natLt_1_32)) bitsLt_bf16_f32)
      (shapeCast S512x1024 (shapeCast S8x64x1024 yc shapeCasts_S8x1x64x1024_S8x64x1024) shapeCasts_S8x64x1024_S512x1024)
      (constant S2048x1024 .f32 0x00000000#32))

/-! ## The pieces -/

abbrev PG (F : FTy → Type) := Prog (TpuEff nD τ sig (Elt F) Λ₀ .tc)

/-- Run a list of steps in turn. -/
def steps : List (PG F PUnit) → PG F PUnit
  | [] => pure ⟨⟩
  | p :: ps => p >>= fun _ => steps ps

/-- The seven other slots, in order. -/
abbrev others : List (Fin 8) := [1, 2, 3, 4, 5, 6, 7]

def loadX : PG F (Vec F S2048x1024 .f32) := Prog.lift (.load mX (Rect.unit (s := S2048x1024) ![0, 0] S2048x1024.size inb_S2048x1024_S2048x1024_0_0).toLoadRect (View.loadsAt_vmem h_S2048x1024))
def loadO : PG F (Vec F S2048x1024 .f32) := Prog.lift (.load mO (Rect.unit (s := S2048x1024) ![0, 0] S2048x1024.size inb_S2048x1024_S2048x1024_0_0).toLoadRect (View.loadsAt_vmem h_S2048x1024))
def storeO (v : FVec F S2048x1024 .f32) : PG F PUnit := Prog.lift (.store mO (Rect.unit (s := S2048x1024) ![0, 0] S2048x1024.size inb_S2048x1024_S2048x1024_0_0) v Finset.univ (View.stores_vmem_bits_univ h_S2048x1024 rfl) (.inl rfl))
def loadSw : PG F (Vec F S1024x1024 .f32) := Prog.lift (.load mSw (Rect.unit (s := S1024x1024) ![0, 0] S1024x1024.size inb_S1024x1024_S1024x1024_0_0).toLoadRect (View.loadsAt_vmem h_S1024x1024))
def loadSr : PG F (Vec F S1x2048 .i32) := Prog.lift (.load mSr (Rect.unit (s := S1x2048) ![0, 0] S1x2048.size inb_S1x2048_S1x2048_0_0).toLoadRect (View.loadsAt_vmem h_S1x2048))
def loadP : PG F (Vec F S1x2048 .f32) := Prog.lift (.load mP (Rect.unit (s := S1x2048) ![0, 0] S1x2048.size inb_S1x2048_S1x2048_0_0).toLoadRect (View.loadsAt_vmem h_S1x2048))
def loadSc : PG F (Vec F S2048x1 .i32) := Prog.lift (.load mSc (Rect.unit (s := S2048x1) ![0, 0] S2048x1.size inb_S2048x1_S2048x1_0_0).toLoadRect (View.loadsAt_vmem h_S2048x1))

def loadSb (p : Fin 4) : PG F (Vec F S1x8x64x1024 .bf16) := Prog.lift (.load mSb (rSb p).toLoadRect (View.loadsAt_vmem h_S1x8x64x1024))
def storeSb (p : Fin 4) (v : FVec F S1x8x64x1024 .bf16) : PG F PUnit := Prog.lift (.store mSb (rSb p) v Finset.univ (View.stores_vmem h_S1x8x64x1024 (hSb.storeExact_slice rfl _ (pSb p)) (fun _ => rfl)) (.inl rfl))
def loadXs (k : Fin 8) : PG F (Vec F S1x8x64x1024 .bf16) := Prog.lift (.load mXr (rXs k).toLoadRect (View.loadsAt_vmem h_S1x8x64x1024))
def storeXs (k : Fin 8) (v : FVec F S1x8x64x1024 .bf16) : PG F PUnit := Prog.lift (.store mXr (rXs k) v Finset.univ (View.stores_vmem h_S1x8x64x1024 (hXr.storeExact_slice rfl _ (pXs k)) (fun _ => rfl)) (.inl rfl))
def loadXc (e : Fin 8) : PG F (Vec F S8x1x64x1024 .bf16) := Prog.lift (.load mXr (rXc e).toLoadRect (View.loadsAt_vmem h_S8x1x64x1024))
def loadWe (p : Fin 2) : PG F (Vec F S1x1024x1024 .f32) := Prog.lift (.load mWe (rWe p).toLoadRect (View.loadsAt_vmem h_S1x1024x1024))
def loadYr (k e : Fin 8) : PG F (Vec F S1x1x64x1024 .bf16) := Prog.lift (.load mYr (rYr k e).toLoadRect (View.loadsAt_vmem h_S1x1x64x1024))
def storeYr (k e : Fin 8) (v : FVec F S1x1x64x1024 .bf16) : PG F PUnit := Prog.lift (.store mYr (rYr k e) v Finset.univ (View.stores_vmem h_S1x1x64x1024 (hYr.storeExact_slice rfl _ (pYr k e)) (fun _ => rfl)) (.inl rfl))
def loadYc (e : Fin 8) : PG F (Vec F S8x1x64x1024 .bf16) := Prog.lift (.load mYr (rXc e).toLoadRect (View.loadsAt_vmem h_S8x1x64x1024))
def loadYb (p : Fin 2) : PG F (Vec F S1x8x64x1024 .bf16) := Prog.lift (.load mYb (rYb p).toLoadRect (View.loadsAt_vmem h_S1x8x64x1024))
def storeYb (p : Fin 2) (v : FVec F S1x8x64x1024 .bf16) : PG F PUnit := Prog.lift (.store mYb (rYb p) v Finset.univ (View.stores_vmem h_S1x8x64x1024 (hYb.storeExact_slice rfl _ (pYb p)) (fun _ => rfl)) (.inl rfl))

/-- The part of the send buffer that slot `k` is sent from. -/
def sendAt (k : Fin 8) : Fin 4 := ⟨k.val % 4, Nat.mod_lt _ (by decide)⟩
/-- The half of the double buffers that expert `e` works in. -/
def half (e : Fin 8) : Fin 2 := ⟨e.val % 2, Nat.mod_lt _ (by decide)⟩

def sendX (d : Dev nD) (k : Fin 8) : PG F PUnit :=
  Prog.lift (.enqueueDma (vSb (sendAt k)) (.remote (Dev.tc (devX d k)) (vXr k) (.dma (sSX k))) (.dma (sRX k)) (xSb (sendAt k)) (xXr k) ⟨⟨rfl, Or.inl rfl⟩, trivial⟩)
def waitSX (k : Fin 8) : PG F PUnit := Prog.lift (.waitDma2 (sSX k) (vXr k) (vSb (sendAt k)) (xXr k) (xSb (sendAt k)))
def waitRX (k : Fin 8) : PG F PUnit := Prog.lift (.waitDma2 (sRX k) (vSb (sendAt k)) (vXr k) (xSb (sendAt k)) (xXr k))
def copyW (e : Fin 8) : PG F PUnit :=
  Prog.lift (.enqueueDma (vEw e) (.here (vWe (half e))) (.dma (sW (half e))) (xEw e) (xWe (half e)) ⟨Or.inl rfl, trivial⟩)
def waitW (e : Fin 8) : PG F PUnit := Prog.lift (.waitDma2 (sW (half e)) (vEw e) (vWe (half e)) (xEw e) (xWe (half e)))
def sendY (d : Dev nD) (e k : Fin 8) : PG F PUnit :=
  Prog.lift (.enqueueDma (vYb (half e) k) (.remote (Dev.tc (devY d e k)) (vYr k e) (.dma (sSY (half e) k))) (.dma (sRY k e)) (xYb (half e) k) (xYr k e) ⟨⟨rfl, Or.inl rfl⟩, trivial⟩)
def waitSY (e k : Fin 8) : PG F PUnit := Prog.lift (.waitDma2 (sSY (half e) k) (vYr k e) (vYb (half e) k) (xYr k e) (xYb (half e) k))
def waitRY (e k : Fin 8) : PG F PUnit := Prog.lift (.waitDma2 (sRY k e) (vYb 0 0) (vYr k e) (xYb 0 0) (xYr k e))

/-- Gather slot `k`'s tokens and store them in the send buffer. -/
def gatherS (srow : Vec F S1x2048 .i32) (prow : Vec F S1x2048 .f32) (k : Fin 8) : PG F PUnit := do
  let x ← loadX
  let _ ← loadSb (sendAt k)
  storeSb (sendAt k) (gatherP k srow prow x)

/-- Slots 1 to 4: the send buffer is still free. -/
def dispatchA (d : Dev nD) (srow : Vec F S1x2048 .i32) (prow : Vec F S1x2048 .f32) (k : Fin 8) : PG F PUnit := do
  gatherS srow prow k
  sendX d k

/-- Slots 5 to 7: wait for the slot four before to have left the send buffer. -/
def dispatchB (d : Dev nD) (srow : Vec F S1x2048 .i32) (prow : Vec F S1x2048 .f32) (k : Fin 8) : PG F PUnit := do
  waitSX (k - 4)
  gatherS srow prow k
  sendX d k

/-- Gather the own tokens and compute the shared expert. -/
def ownS (srow : Vec F S1x2048 .i32) (prow : Vec F S1x2048 .f32) : PG F PUnit := do
  let x ← loadX
  let _ ← loadXs 0
  storeXs 0 (gatherP 0 srow prow x)
  let x' ← loadX
  let sw ← loadSw
  let _ ← loadO
  storeO (k0_pay13 x' sw)

/-- Apply expert `e` to its column and send the results back. -/
def applyE (d : Dev nD) (e : Fin 8) : PG F PUnit := do
  let xc ← loadXc e
  let we ← loadWe (half e)
  let _ ← loadYr 0 e
  storeYr 0 e (ownP xc we)
  let _ ← loadYb (half e)
  storeYb (half e) (sendP xc we)
  steps (others.map (sendY d e))

/-- Wait for expert `e`'s results from every other device and add them into the output. -/
def combineS (scol : Vec F S2048x1 .i32) (e : Fin 8) : PG F PUnit := do
  steps (others.map (waitRY e))
  let yc ← loadYc e
  let o ← loadO
  let _ ← loadO
  storeO (combineP e (k0_pay14 scol) yc o)

/-- Experts 2 to 6. -/
def expertS (d : Dev nD) (scol : Vec F S2048x1 .i32) (e : Fin 8) : PG F PUnit := do
  waitW e
  copyW (e + 1)
  steps (others.map (waitSY (e - 2)))
  applyE d e
  combineS scol (e - 1)

def nice : PG F PUnit := do
  let d : Dev nD ← Prog.lift .deviceId
  steps (others.map fun k => semSignalWord (devB d k) sBar 1#32)
  semWaitWord sBar 7#32
  let srow ← loadSr
  let prow ← loadP
  steps (([1, 2, 3, 4] : List (Fin 8)).map (dispatchA d srow prow))
  steps (([5, 6, 7] : List (Fin 8)).map (dispatchB d srow prow))
  copyW 0
  ownS srow prow
  steps (others.map waitRX)
  let scol ← loadSc
  waitW 0
  copyW 1
  applyE d 0
  waitW 1
  copyW 2
  applyE d 1
  combineS scol 0
  steps (([2, 3, 4, 5, 6] : List (Fin 8)).map (expertS d scol))
  waitW 7
  steps (others.map (waitSY 5))
  applyE d 7
  combineS scol 6
  combineS scol 7
  steps (others.map (waitSY 6))
  steps (others.map (waitSY 7))
  steps (([4, 5, 6, 7] : List (Fin 8)).map waitSX)

end Cert.KernelIdeal.Moe

end
-- ==== Proof.BodyEq.lean ====
/- The printed body is the structured program of `Nice`. -/
module

public import proofs.«01_k».proof.Proof.Nice

@[expose] public section

set_option maxRecDepth 65536

noncomputable section

namespace Cert.KernelIdeal.Moe

open Idealize.ShloMosaic Idealize.ShloMosaic.TcCoe
open Idealize.SL Idealize.SL.Sem
open Cert.KernelIdeal.Gen

variable {F : FTy → Type} [FloatOps F]

set_option maxHeartbeats 4000000 in
theorem body_eq : bodyAt0 (F := F) t0_0 = nice := by
  show cc0__body mX (Memref.isWhole_whole _) mP (Memref.isWhole_whole _) mSr (Memref.isWhole_whole _) mSc (Memref.isWhole_whole _)
    mSw (Memref.isWhole_whole _) mEw (Memref.isWhole_whole _) mO (Memref.isWhole_whole _) mXr (Memref.isWhole_whole _)
    mSb (Memref.isWhole_whole _) mWe (Memref.isWhole_whole _) mYb (Memref.isWhole_whole _) mYr (Memref.isWhole_whole _)
    cc0_scratch5 cc0_scratch6 cc0_scratch7 cc0_scratch8 cc0_scratch9 = nice
  rw [cc0__body_eq_skeleton]
  rfl

end Cert.KernelIdeal.Moe

end
-- ==== Proof.Geo.lean ====
/- What the kernel's buffers hold, named by the devices' inputs, and where each slot of a buffer lies. -/
module

public import proofs.«01_k».proof.Proof.Nice
public import Idealize.ShloMosaic.Lib.Pipeline.Regions
public import Idealize.ShloMosaic.Lib.Pipeline.Kit
public import Idealize.ShloMosaic.Lib.Pipeline.BigSepL
public import Idealize.ShloMosaic.Lib.Pipeline.ValueKit.Geometry
public import Idealize.ShloMosaic.Lib.Pointwise

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## Peers -/

/-- The device `k` after `c`, and the one `k` before. -/
def up (c : Dev nD) (k : Fin 8) : Dev nD := (c + k : Fin 8)
def dn (c : Dev nD) (k : Fin 8) : Dev nD := (c - k : Fin 8)

theorem up_dn : ∀ (c : Dev nD) (k : Fin 8), up (dn c k) k = c := by decide
theorem dn_up : ∀ (c : Dev nD) (k : Fin 8), dn (up c k) k = c := by decide
theorem dn_neg : ∀ (c : Dev nD) (k : Fin 8), dn c (-k) = up c k := by decide
theorem devB_up (c : Dev nD) (k : Fin 8) : devB c k = up c k := devB_eq c k
theorem devX_up (c : Dev nD) (k : Fin 8) : devX c k = up c k := devX_eq c k
theorem devY_dn (c : Dev nD) (e k : Fin 8) : devY c e k = dn c k := devY_eq c e k

/-! ## Contents -/

/-- What the kernel reads on one device. -/
structure Inp (F : FTy → Type) where
  sr : Vec F S1x2048 .i32
  p : Vec F S1x2048 .f32
  sc : Vec F S2048x1 .i32
  x : Vec F S2048x1024 .f32
  sw : Vec F S1024x1024 .f32
  ew : Vec F S8x1024x1024 .f32

def ix3 {n0 n1 n2 : ℕ} (a : Fin n0) (b : Fin n1) (c : Fin n2) : Shape.Idx ⟨3, ![n0, n1, n2]⟩ := fun
  | 0 => a
  | 1 => b
  | 2 => c
def ix4 {n0 n1 n2 n3 : ℕ} (a : Fin n0) (b : Fin n1) (c : Fin n2) (d : Fin n3) : Shape.Idx ⟨4, ![n0, n1, n2, n3]⟩ := fun
  | 0 => a
  | 1 => b
  | 2 => c
  | 3 => d

theorem ix3_eta {n0 n1 n2 : ℕ} (i : Shape.Idx ⟨3, ![n0, n1, n2]⟩) : ix3 (i 0) (i 1) (i 2) = i := by
  funext a; fin_cases a <;> rfl
theorem ix4_eta {n0 n1 n2 n3 : ℕ} (i : Shape.Idx ⟨4, ![n0, n1, n2, n3]⟩) : ix4 (i 0) (i 1) (i 2) (i 3) = i := by
  funext a; fin_cases a <;> rfl

variable (I : Dev nD → Inp F)

/-- What device `c` sends in slot `k`. -/
def sent (c : Dev nD) (k : Fin 8) : Vec F S1x8x64x1024 .bf16 := gatherP k (I c).sr (I c).p (I c).x
/-- The receive buffer: slot `k` is what the device `k` before sent in it. -/
def XR (c : Dev nD) : Vec F S8x8x64x1024 .bf16 := fun i =>
  sent I (dn c (i 0)) (i 0 : Fin 8) (ix4 (0 : Fin 1) (i 1 : Fin 8) (i 2 : Fin 64) (i 3 : Fin 1024))
/-- The send buffer (each part) after slot `k` was gathered into it. -/
def SB (c : Dev nD) (k : Fin 8) : Vec F S4x8x64x1024 .bf16 := fun i =>
  sent I c k (ix4 (0 : Fin 1) (i 1 : Fin 8) (i 2 : Fin 64) (i 3 : Fin 1024))
/-- Column `e` of the receive buffer. -/
def XC (c : Dev nD) (e : Fin 8) : Vec F S8x1x64x1024 .bf16 := fun j => XR I c (ix4 (j 0 : Fin 8) e (j 2 : Fin 64) (j 3 : Fin 1024))
/-- Expert `e`'s weights, as the body loads them. -/
def WV (c : Dev nD) (e : Fin 8) : Vec F S1x1024x1024 .f32 := fun j => (I c).ew (ix3 e (j 1 : Fin 1024) (j 2 : Fin 1024))
/-- Either half of the weights' buffer after expert `e`'s were copied into it. -/
def WE (c : Dev nD) (e : Fin 8) : Vec F S2x1024x1024 .f32 := fun i => (I c).ew (ix3 e (i 1 : Fin 1024) (i 2 : Fin 1024))
/-- What device `c` computes with expert `e`. -/
def made (c : Dev nD) (e : Fin 8) : Vec F S1x8x64x1024 .bf16 := sendP (XC I c e) (WV I c e)
/-- Either half of the results' buffer after expert `e`'s were stored in it. -/
def YB (c : Dev nD) (e : Fin 8) : Vec F S2x8x64x1024 .bf16 := fun i =>
  made I c e (ix4 (0 : Fin 1) (i 1 : Fin 8) (i 2 : Fin 64) (i 3 : Fin 1024))
/-- The returned results: part `(k, e)` is what the device `k` after made with its expert `e` of the slot sent to it. -/
def YR (c : Dev nD) : Vec F S8x8x64x1024 .bf16 := fun i =>
  made I (up c (i 0)) (i 1 : Fin 8) (ix4 (0 : Fin 1) (i 0 : Fin 8) (i 2 : Fin 64) (i 3 : Fin 1024))
/-- Column `e` of the returned results. -/
def YC (c : Dev nD) (e : Fin 8) : Vec F S8x1x64x1024 .bf16 := fun j => YR I c (ix4 (j 0 : Fin 8) e (j 2 : Fin 64) (j 3 : Fin 1024))
/-- The output after the first `n` experts were added in. -/
def OUT (c : Dev nD) : ℕ → Vec F S2048x1024 .f32
  | 0 => k0_pay13 (I c).x (I c).sw
  | n + 1 => combineP (Fin.ofNat 8 n) (k0_pay14 (I c).sc) (YC I c (Fin.ofNat 8 n)) (OUT c n)

/-! ## Places -/

theorem at0 {a n : ℕ} (h : a < n) : 0 ≤ a ∧ a < 0 + n := ⟨Nat.zero_le _, by omega⟩
theorem at1 (a : ℕ) : a ≤ a ∧ a < a + 1 := ⟨Nat.le_refl _, by omega⟩
theorem of1 {k a : ℕ} (h : k ≤ a ∧ a < k + 1) : a = k := by omega

theorem mem_vXr {k : Fin 8} {i : S8x8x64x1024.Idx} : i ∈ (vXr k).view.set ↔ (i 0 : Fin 8) = k := by
  have e : (vXr k).view.set = (rXs k).set := (View.set_reshape _ _).trans (View.set_slice_whole _ _)
  refine (Finset.ext_iff.mp e i).trans (Rect.mem_set_unit.trans ?_)
  constructor
  · intro h; exact Fin.ext (of1 (h 0))
  · rintro rfl a
    match a with
    | 0 => exact at1 (i 0).val
    | 1 => exact at0 (i 1).isLt
    | 2 => exact at0 (i 2).isLt
    | 3 => exact at0 (i 3).isLt

theorem mem_vSb {k : Fin 4} {i : S4x8x64x1024.Idx} : i ∈ (vSb k).view.set ↔ (i 0 : Fin 4) = k := by
  have e : (vSb k).view.set = (rSb k).set := (View.set_reshape _ _).trans (View.set_slice_whole _ _)
  refine (Finset.ext_iff.mp e i).trans (Rect.mem_set_unit.trans ?_)
  constructor
  · intro h; exact Fin.ext (of1 (h 0))
  · rintro rfl a
    match a with
    | 0 => exact at1 (i 0).val
    | 1 => exact at0 (i 1).isLt
    | 2 => exact at0 (i 2).isLt
    | 3 => exact at0 (i 3).isLt

theorem mem_vWe {k : Fin 2} {i : S2x1024x1024.Idx} : i ∈ (vWe k).view.set ↔ (i 0 : Fin 2) = k := by
  have e : (vWe k).view.set = (rWe k).set := (View.set_reshape _ _).trans (View.set_slice_whole _ _)
  refine (Finset.ext_iff.mp e i).trans (Rect.mem_set_unit.trans ?_)
  constructor
  · intro h; exact Fin.ext (of1 (h 0))
  · rintro rfl a
    match a with
    | 0 => exact at1 (i 0).val
    | 1 => exact at0 (i 1).isLt
    | 2 => exact at0 (i 2).isLt

theorem mem_vYb {p : Fin 2} {k : Fin 8} {i : S2x8x64x1024.Idx} : i ∈ (vYb p k).view.set ↔ ((i 0 : Fin 2), (i 1 : Fin 8)) = (p, k) := by
  have e : (vYb p k).view.set = (rYp p k).set := (View.set_reshape _ _).trans (View.set_slice_whole _ _)
  refine (Finset.ext_iff.mp e i).trans (Rect.mem_set_unit.trans ?_)
  constructor
  · intro h; exact Prod.ext (Fin.ext (of1 (h 0))) (Fin.ext (of1 (h 1)))
  · intro h a
    obtain ⟨rfl, rfl⟩ := Prod.mk.inj h
    match a with
    | 0 => exact at1 (i 0).val
    | 1 => exact at1 (i 1).val
    | 2 => exact at0 (i 2).isLt
    | 3 => exact at0 (i 3).isLt

theorem mem_vYr {k : Fin 8} {e : Fin 8} {i : S8x8x64x1024.Idx} : i ∈ (vYr k e).view.set ↔ ((i 0 : Fin 8), (i 1 : Fin 8)) = (k, e) := by
  have e : (vYr k e).view.set = (rYr k e).set := (View.set_reshape _ _).trans (View.set_slice_whole _ _)
  refine (Finset.ext_iff.mp e i).trans (Rect.mem_set_unit.trans ?_)
  constructor
  · intro h; exact Prod.ext (Fin.ext (of1 (h 0))) (Fin.ext (of1 (h 1)))
  · intro h a
    obtain ⟨rfl, rfl⟩ := Prod.mk.inj h
    match a with
    | 0 => exact at1 (i 0).val
    | 1 => exact at1 (i 1).val
    | 2 => exact at0 (i 2).isLt
    | 3 => exact at0 (i 3).isLt

/-! ## Reading and writing a part -/

section Part

variable {κ : Kind} {sp : Space} {s : Shape} {e : EltTy} {Val : EltTy → Type}

theorem part_mem {v : View sig κ sp s e} {i : v.ty.Idx} (h : i ∈ v.set) : ∃ j, v.emb j = i := by
  obtain ⟨j, -, h⟩ := Finset.mem_map.mp h
  exact ⟨j, h⟩

end Part

theorem emb_rXs (k : Fin 8) (j : S1x8x64x1024.Idx) : (rXs k).emb j = ix4 k (j 1 : Fin 8) (j 2 : Fin 64) (j 3 : Fin 1024) := by
  funext a; apply Fin.ext
  refine (ValueKit.rect_emb_unit_val _ _ _ j a).trans ?_
  match a with
  | 0 => have h : (j 0).val < 1 := (j 0).isLt; show k.val + (j 0).val = k.val; omega
  | 1 => exact Nat.zero_add _
  | 2 => exact Nat.zero_add _
  | 3 => exact Nat.zero_add _

theorem emb_rSb (p : Fin 4) (j : S1x8x64x1024.Idx) : (rSb p).emb j = ix4 p (j 1 : Fin 8) (j 2 : Fin 64) (j 3 : Fin 1024) := by
  funext a; apply Fin.ext
  refine (ValueKit.rect_emb_unit_val _ _ _ j a).trans ?_
  match a with
  | 0 => have h : (j 0).val < 1 := (j 0).isLt; show p.val + (j 0).val = p.val; omega
  | 1 => exact Nat.zero_add _
  | 2 => exact Nat.zero_add _
  | 3 => exact Nat.zero_add _

theorem emb_rYb (p : Fin 2) (j : S1x8x64x1024.Idx) : (rYb p).emb j = ix4 p (j 1 : Fin 8) (j 2 : Fin 64) (j 3 : Fin 1024) := by
  funext a; apply Fin.ext
  refine (ValueKit.rect_emb_unit_val _ _ _ j a).trans ?_
  match a with
  | 0 => have h : (j 0).val < 1 := (j 0).isLt; show p.val + (j 0).val = p.val; omega
  | 1 => exact Nat.zero_add _
  | 2 => exact Nat.zero_add _
  | 3 => exact Nat.zero_add _

theorem emb_rWe (p : Fin 2) (j : S1x1024x1024.Idx) : (rWe p).emb j = ix3 p (j 1 : Fin 1024) (j 2 : Fin 1024) := by
  funext a; apply Fin.ext
  refine (ValueKit.rect_emb_unit_val _ _ _ j a).trans ?_
  match a with
  | 0 => have h : (j 0).val < 1 := (j 0).isLt; show p.val + (j 0).val = p.val; omega
  | 1 => exact Nat.zero_add _
  | 2 => exact Nat.zero_add _

theorem emb_rEw (e : Fin 8) (j : S1x1024x1024.Idx) : (rEw e).emb j = ix3 e (j 1 : Fin 1024) (j 2 : Fin 1024) := by
  funext a; apply Fin.ext
  refine (ValueKit.rect_emb_unit_val _ _ _ j a).trans ?_
  match a with
  | 0 => have h : (j 0).val < 1 := (j 0).isLt; show e.val + (j 0).val = e.val; omega
  | 1 => exact Nat.zero_add _
  | 2 => exact Nat.zero_add _

theorem emb_rXc (e : Fin 8) (j : S8x1x64x1024.Idx) : (rXc e).emb j = ix4 (j 0 : Fin 8) e (j 2 : Fin 64) (j 3 : Fin 1024) := by
  funext a; apply Fin.ext
  refine (ValueKit.rect_emb_unit_val _ _ _ j a).trans ?_
  match a with
  | 0 => exact Nat.zero_add _
  | 1 => have h : (j 1).val < 1 := (j 1).isLt; show e.val + (j 1).val = e.val; omega
  | 2 => exact Nat.zero_add _
  | 3 => exact Nat.zero_add _

theorem emb_rYp (p : Fin 2) (k : Fin 8) (j : S1x1x64x1024.Idx) : (rYp p k).emb j = ix4 p k (j 2 : Fin 64) (j 3 : Fin 1024) := by
  funext a; apply Fin.ext
  refine (ValueKit.rect_emb_unit_val _ _ _ j a).trans ?_
  match a with
  | 0 => have h : (j 0).val < 1 := (j 0).isLt; show p.val + (j 0).val = p.val; omega
  | 1 => have h : (j 1).val < 1 := (j 1).isLt; show k.val + (j 1).val = k.val; omega
  | 2 => exact Nat.zero_add _
  | 3 => exact Nat.zero_add _

theorem emb_rYr (k e : Fin 8) (j : S1x1x64x1024.Idx) : (rYr k e).emb j = ix4 k e (j 2 : Fin 64) (j 3 : Fin 1024) := by
  funext a; apply Fin.ext
  refine (ValueKit.rect_emb_unit_val _ _ _ j a).trans ?_
  match a with
  | 0 => have h : (j 0).val < 1 := (j 0).isLt; show k.val + (j 0).val = k.val; omega
  | 1 => have h : (j 1).val < 1 := (j 1).isLt; show e.val + (j 1).val = e.val; omega
  | 2 => exact Nat.zero_add _
  | 3 => exact Nat.zero_add _

/-- What the loads of a column, and of the weights, read. -/
theorem read_XC (c : Dev nD) (e : Fin 8) : (mXr.access (rXc e)).read (Elt F) (XR I c) = XC I c e := by
  funext j; show XR I c ((rXc e).emb j) = _; rw [emb_rXc]; rfl
theorem read_YC (c : Dev nD) (e : Fin 8) : (mYr.access (rXc e)).read (Elt F) (YR I c) = YC I c e := by
  funext j; show YR I c ((rXc e).emb j) = _; rw [emb_rXc]; rfl
theorem read_WV (c : Dev nD) (p : Fin 2) (e : Fin 8) : (mWe.access (rWe p)).read (Elt F) (WE I c e) = WV I c e := by
  funext j; show WE I c e ((rWe p).emb j) = _; rw [emb_rWe]; rfl

/-- What the stores leave in their part. -/
theorem store_SB (c : Dev nD) (k : Fin 8) (p : Fin 4) (f : S4x8x64x1024.Idx → Elt F .bf16) :
    ∀ i ∈ (vSb p).view.set, (mSb.access (rSb p)).write (Elt F) f (sent I c k) Finset.univ i = SB I c k i := by
  intro i hi
  have e : (vSb p).view.set = (mSb.access (rSb p)).set := View.set_reshape _ _
  rw [e] at hi
  obtain ⟨j, rfl⟩ := part_mem hi
  rw [View.write_emb_of_mem _ _ (Finset.mem_univ j)]
  show sent I c k j = SB I c k ((rSb p).emb j)
  rw [emb_rSb]
  exact congrArg (sent I c k) ((ix4_eta j).symm.trans (congrArg (fun z => ix4 z _ _ _) (Subsingleton.elim (α := Fin 1) _ _)))

theorem store_XR (c : Dev nD) (f : S8x8x64x1024.Idx → Elt F .bf16) :
    ∀ i ∈ (vXr 0).view.set, (mXr.access (rXs 0)).write (Elt F) f (sent I c 0) Finset.univ i = XR I c i := by
  intro i hi
  have e : (vXr 0).view.set = (mXr.access (rXs 0)).set := View.set_reshape _ _
  rw [e] at hi
  obtain ⟨j, rfl⟩ := part_mem hi
  rw [View.write_emb_of_mem _ _ (Finset.mem_univ j)]
  show sent I c 0 j = XR I c ((rXs 0).emb j)
  rw [emb_rXs]
  show sent I c 0 j = sent I (dn c 0) 0 (ix4 (0 : Fin 1) (j 1 : Fin 8) (j 2 : Fin 64) (j 3 : Fin 1024))
  rw [show dn c 0 = c from (by decide : ∀ c : Dev nD, dn c 0 = c) c]
  exact congrArg (sent I c 0) ((ix4_eta j).symm.trans (congrArg (fun z => ix4 z _ _ _) (Subsingleton.elim (α := Fin 1) _ _)))

theorem store_YB (c : Dev nD) (e : Fin 8) (p : Fin 2) (f : S2x8x64x1024.Idx → Elt F .bf16) :
    ∀ i ∈ (mYb.access (rYb p)).set, (mYb.access (rYb p)).write (Elt F) f (made I c e) Finset.univ i = YB I c e i := by
  intro i hi
  obtain ⟨j, rfl⟩ := part_mem hi
  rw [View.write_emb_of_mem _ _ (Finset.mem_univ j)]
  show made I c e j = YB I c e ((rYb p).emb j)
  rw [emb_rYb]
  exact congrArg (made I c e) ((ix4_eta j).symm.trans (congrArg (fun z => ix4 z _ _ _) (Subsingleton.elim (α := Fin 1) _ _)))

/-- The own part of the results is the part that would be sent in slot 0. -/
theorem ownP_eq (xc : Vec F S8x1x64x1024 .bf16) (we : Vec F S1x1024x1024 .f32) (j : S1x1x64x1024.Idx) :
    ownP xc we j = sendP xc we (ix4 (0 : Fin 1) (0 : Fin 8) (j 2 : Fin 64) (j 3 : Fin 1024)) := by
  unfold ownP sendP
  pointwise
  rfl

theorem store_YR (c : Dev nD) (e : Fin 8) (f : S8x8x64x1024.Idx → Elt F .bf16) :
    ∀ i ∈ (vYr 0 e).view.set, (mYr.access (rYr 0 e)).write (Elt F) f (ownP (XC I c e) (WV I c e)) Finset.univ i = YR I c i := by
  intro i hi
  have h : (vYr 0 e).view.set = (mYr.access (rYr 0 e)).set := View.set_reshape _ _
  rw [h] at hi
  obtain ⟨j, rfl⟩ := part_mem hi
  rw [View.write_emb_of_mem _ _ (Finset.mem_univ j)]
  show ownP (XC I c e) (WV I c e) j = YR I c ((rYr 0 e).emb j)
  rw [emb_rYr, ownP_eq]
  show _ = made I (up c 0) e (ix4 (0 : Fin 1) (0 : Fin 8) (j 2 : Fin 64) (j 3 : Fin 1024))
  rw [show up c 0 = c from (by decide : ∀ c : Dev nD, up c 0 = c) c]
  rfl

/-! ## Landings -/

theorem land_X (c : Dev nD) (k : Fin 8) (p : Fin 4) (f : S8x8x64x1024.Idx → Elt F .bf16) :
    ∀ i ∈ (vXr k).view.set, (vXr k).view.write (Elt F) f ((vSb p).view.read (Elt F) (SB I c k)) Finset.univ i = XR I (up c k) i := by
  intro i hi
  obtain ⟨j, rfl⟩ := part_mem hi
  rw [View.write_emb_of_mem _ _ (Finset.mem_univ j)]
  show SB I c k ((rSb p).emb (Shape.reshapeEquiv _ j)) = XR I (up c k) ((rXs k).emb (Shape.reshapeEquiv _ j))
  rw [emb_rSb, emb_rXs]
  show sent I c k _ = sent I (dn (up c k) k) k _
  rw [dn_up]
  rfl

theorem land_Y (c : Dev nD) (k e : Fin 8) (p : Fin 2) (f : S8x8x64x1024.Idx → Elt F .bf16) :
    ∀ i ∈ (vYr k e).view.set, (vYr k e).view.write (Elt F) f ((vYb p k).view.read (Elt F) (YB I c e)) Finset.univ i = YR I (dn c k) i := by
  intro i hi
  obtain ⟨j, rfl⟩ := part_mem hi
  rw [View.write_emb_of_mem _ _ (Finset.mem_univ j)]
  show YB I c e ((rYp p k).emb (Shape.reshapeEquiv _ j)) = YR I (dn c k) ((rYr k e).emb (Shape.reshapeEquiv _ j))
  rw [emb_rYp, emb_rYr]
  show made I c e _ = made I (up (dn c k) k) e _
  rw [up_dn]
  rfl

theorem land_W (c : Dev nD) (e : Fin 8) (p : Fin 2) (f : S2x1024x1024.Idx → Elt F .f32) :
    ∀ i ∈ (vWe p).view.set, (vWe p).view.write (Elt F) f ((vEw e).view.read (Elt F) (I c).ew) Finset.univ i = WE I c e i := by
  intro i hi
  obtain ⟨j, rfl⟩ := part_mem hi
  rw [View.write_emb_of_mem _ _ (Finset.mem_univ j)]
  show (I c).ew ((rEw e).emb (Shape.reshapeEquiv _ j)) = WE I c e ((rWe p).emb (Shape.reshapeEquiv _ j))
  rw [emb_rEw, emb_rWe]
  rfl

end Cert.KernelIdeal.Moe

end
-- ==== Proof.Proto.lean ====
/- The protocol: which cell is paid by whom, how much, with what, and in what order a device waits. -/
module

public import proofs.«01_k».proof.Proof.Geo
public import Idealize.ShloMosaic.Lib.Rounds
public import Idealize.ShloMosaic.Lib.Tactic
public import Idealize.ShloMosaic.Lib.Pipeline.RegionTalk

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UT : Type := URounds (GSem nD τ sig) (Fin 8)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

/-! ## Cells -/

/-- The kernel's own semaphores: token sends, token receives, result sends, result receives, weights. -/
abbrev Os : Type := (Fin 8 ⊕ Fin 8) ⊕ ((Fin 2 × Fin 8) ⊕ ((Fin 8 × Fin 8) ⊕ Fin 2))
/-- With the barrier. -/
abbrev Cs : Type := Unit ⊕ Os

abbrev oSX (k : Fin 8) : Os := .inl (.inl k)
abbrev oRX (k : Fin 8) : Os := .inl (.inr k)
abbrev oSY (p : Fin 2) (k : Fin 8) : Os := .inr (.inl (p, k))
abbrev oRY (k e : Fin 8) : Os := .inr (.inr (.inl (k, e)))
abbrev oW (p : Fin 2) : Os := .inr (.inr (.inr p))

@[reducible] def osem : Os → SemLoc sig
  | .inl (.inl k) => .dma (sSX k)
  | .inl (.inr k) => .dma (sRX k)
  | .inr (.inl (p, k)) => .dma (sSY p k)
  | .inr (.inr (.inl (k, e))) => .dma (sRY k e)
  | .inr (.inr (.inr p)) => .dma (sW p)
@[reducible] def csem : Cs → SemLoc sig
  | .inl _ => .reg sBar
  | .inr s => osem s

/-- The role of a semaphore, by its number. -/
def dec : SemLoc sig → Option Cs
  | .reg _ => some (.inl ())
  | .dma n =>
    if n.val < 6 then none
    else if n.val < 14 then some (.inr (oSX (Fin.ofNat 8 (n.val - 6))))
    else if n.val < 22 then some (.inr (oRX (Fin.ofNat 8 (n.val - 14))))
    else if n.val < 38 then some (.inr (oSY (Fin.ofNat 2 ((n.val - 22) / 8)) (Fin.ofNat 8 (n.val - 22))))
    else if n.val < 102 then some (.inr (oRY (Fin.ofNat 8 ((n.val - 38) / 8)) (Fin.ofNat 8 (n.val - 38))))
    else some (.inr (oW (Fin.ofNat 2 (n.val - 102))))

theorem dec_csem : ∀ s : Cs, dec (csem s) = some s
  | .inl _ => rfl
  | .inr (.inl (.inl k)) => by fin_cases k <;> rfl
  | .inr (.inl (.inr k)) => by fin_cases k <;> rfl
  | .inr (.inr (.inl (p, k))) => by fin_cases p <;> fin_cases k <;> rfl
  | .inr (.inr (.inr (.inl (k, e)))) => by fin_cases k <;> fin_cases e <;> rfl
  | .inr (.inr (.inr (.inr p))) => by fin_cases p <;> rfl
theorem csem_inj : Function.Injective csem := fun a b h => Option.some.inj ((dec_csem a).symm.trans ((congrArg dec h).trans (dec_csem b)))
theorem osem_inj : Function.Injective osem := fun a b h => Sum.inr.inj (csem_inj (a₁ := .inr a) (a₂ := .inr b) h)

abbrev cell (c : Dev nD) (s : Cs) : GSem nD τ sig := ((c : Thread nD τ), csem s)
abbrev barC (c : Dev nD) : GSem nD τ sig := ((c : Thread nD τ), .reg sBar)
abbrev sxC (c : Dev nD) (k : Fin 8) : GSem nD τ sig := ((c : Thread nD τ), .dma (sSX k))
abbrev rxC (c : Dev nD) (k : Fin 8) : GSem nD τ sig := ((c : Thread nD τ), .dma (sRX k))
abbrev syC (c : Dev nD) (p : Fin 2) (k : Fin 8) : GSem nD τ sig := ((c : Thread nD τ), .dma (sSY p k))
abbrev ryC (c : Dev nD) (k e : Fin 8) : GSem nD τ sig := ((c : Thread nD τ), .dma (sRY k e))
abbrev wC (c : Dev nD) (p : Fin 2) : GSem nD τ sig := ((c : Thread nD τ), .dma (sW p))

theorem cell_inj {c c' : Dev nD} {s s' : Cs} (h : cell c s = cell c' s') : c = c' ∧ s = s' :=
  ⟨congrArg (fun g : GSem nD τ sig => g.1.1) h, csem_inj (congrArg Prod.snd h)⟩

/-! ## Amounts -/

def NX : ℕ := (vXr 0).view.dmaCredit
def NY : ℕ := (vYr 0 0).view.dmaCredit
def NW : ℕ := (vWe 0).view.dmaCredit
theorem NX_pos : 0 < NX := View.dmaCredit_pos _ (Shape.numel_pos (by decide))
theorem NY_pos : 0 < NY := View.dmaCredit_pos _ (Shape.numel_pos (by decide))
theorem NW_pos : 0 < NW := View.dmaCredit_pos _ (Shape.numel_pos (by decide))

theorem NX_xr (k : Fin 8) : (vXr k).view.dmaCredit = NX := rfl
theorem NX_sb (k : Fin 4) : (vSb k).view.dmaCredit = NX := rfl
theorem NY_yr (k e : Fin 8) : (vYr k e).view.dmaCredit = NY := rfl
theorem NY_yb (p : Fin 2) (k : Fin 8) : (vYb p k).view.dmaCredit = NY := rfl
theorem NW_we (p : Fin 2) : (vWe p).view.dmaCredit = NW := rfl
attribute [irreducible] NX NY NW

/-! ## What changes hands -/

section Pts

variable {κ : Kind} {sp : Space} {s : Shape} {e : EltTy}

/-- Device `c`'s elements under a view, at `f`. -/
abbrev pv (c : Dev nD) (M : Memref sig .tc sp s e) (f : Buf (Elt F) (M.view.loc (c : Thread nD τ))) : sProp 𝕄 :=
  M.view.loc (c : Thread nD τ) ↦[M.view.set]{fullShare} f
/-- At contents not chosen. -/
abbrev pa (c : Dev nD) (M : Memref sig .tc sp s e) : sProp 𝕄 := iprop(∃ f, pv (F := F) c M f)

end Pts

variable (I : Dev nD → Inp F)

/-- Device `d`'s slot `k` for tokens, free to be written, and the cell a write lands at. -/
def slotX (d : Dev nD) (k : Fin 8) : sProp 𝕄 := iprop(pa d (vXr k) ∗ reached ER (rxC d k) 0)
/-- The same for results. -/
def slotY (d : Dev nD) (k e : Fin 8) : sProp 𝕄 := iprop(pa d (vYr k e) ∗ reached ER (ryC d k e) 0)

abbrev all8 : List (Fin 8) := [0, 1, 2, 3, 4, 5, 6, 7]

/-- Paid to device `c`'s barrier by the device `k` before it: the slots that `c` will write there. -/
def barPay (c : Dev nD) (k : Fin 8) : sProp 𝕄 := iprop(slotX (dn c k) (-k) ∗ bigSepL all8 fun e => slotY (dn c k) k e)

def pays (c : Dev nD) : Option Cs → ℕ → Fin 8 → sProp 𝕄
  | some (.inl _), _, d => barPay c d
  | some (.inr (.inl (.inl k))), _, _ => pa c (vSb (sendAt k))
  | some (.inr (.inl (.inr k))), _, _ => pv c (vXr k) (XR I c)
  | some (.inr (.inr (.inl (p, k)))), _, _ => pa c (vYb p k)
  | some (.inr (.inr (.inr (.inl (k, e))))), _, _ => pv c (vYr k e) (YR I c)
  | some (.inr (.inr (.inr (.inr p)))), r, _ =>
    iprop(pv c (vWe p) (WE I c (Fin.ofNat 8 (2 * r + p.val))) ∗ pv c (vEw (Fin.ofNat 8 (2 * r + p.val))) (I c).ew)
  | none, _, _ => iprop(emp)

def dutiesO : Option Cs → ℕ → Finset (Fin 8)
  | some (.inl _), r => if r = 0 then Finset.univ.erase 0 else ∅
  | some (.inr (.inl (.inl k))), r => if r = 0 ∧ k ≠ 0 then {0} else ∅
  | some (.inr (.inl (.inr k))), r => if r = 0 ∧ k ≠ 0 then {0} else ∅
  | some (.inr (.inr (.inl (p, k)))), r => if r < 4 ∧ k ≠ 0 then {0} else ∅
  | some (.inr (.inr (.inr (.inl (k, e))))), r => if r = 0 ∧ k ≠ 0 then {0} else ∅
  | some (.inr (.inr (.inr (.inr p)))), r => if r < 4 then {0} else ∅
  | none, _ => ∅

def amountO : Option Cs → ℕ
  | some (.inl _) => 1
  | some (.inr (.inl _)) => NX
  | some (.inr (.inr (.inl _))) => NY
  | some (.inr (.inr (.inr (.inl _)))) => NY
  | some (.inr (.inr (.inr (.inr _)))) => NW
  | none => 1

theorem amountO_pos (s : Option Cs) : 0 < amountO s := by
  unfold amountO
  split
  · exact Nat.one_pos
  · exact NX_pos
  · exact NY_pos
  · exact NY_pos
  · exact NW_pos
  · exact Nat.one_pos

/-- The schedule. -/
def Rd : Schedule (GSem nD τ sig) (Fin 8) 𝕄 where
  duties g r := if g.1.2 = .tc then dutiesO (dec g.2) r else ∅
  unitless _ := False
  amount g _ _ := amountO (dec g.2)
  payload g r d := pays I g.1.1 (dec g.2) r d
  amount_pos g _ _ _ := amountO_pos _

instance slotX_storable (d : Dev nD) (k : Fin 8) : BI.Storable (upEmb : UEmb _ 𝕄) (slotX (F := F) d k) := by unfold slotX; infer_instance
instance slotY_storable (d : Dev nD) (k e : Fin 8) : BI.Storable (upEmb : UEmb _ 𝕄) (slotY (F := F) d k e) := by unfold slotY; infer_instance
theorem bigSepL_storable {A : Type} (l : List A) (P : A → sProp 𝕄) (h : ∀ a, BI.Storable (upEmb : UEmb _ 𝕄) (P a)) :
    BI.Storable (upEmb : UEmb _ 𝕄) (bigSepL l P) := by
  induction l with
  | nil => exact (inferInstance : BI.Storable (upEmb : UEmb _ 𝕄) (iprop(emp) : sProp 𝕄))
  | cons a l ih =>
    rw [bigSepL_cons]
    have := h a
    exact (inferInstance : BI.Storable (upEmb : UEmb _ 𝕄) (iprop(P a ∗ bigSepL l P) : sProp 𝕄))
instance barPay_storable (c : Dev nD) (k : Fin 8) : BI.Storable (upEmb : UEmb _ 𝕄) (barPay (F := F) c k) := by
  unfold barPay
  have := bigSepL_storable all8 (fun e => slotY (F := F) (dn c k) k e) fun e => slotY_storable _ _ _
  infer_instance
instance Rd_storable (g : GSem nD τ sig) (r : ℕ) (d : Fin 8) : BI.Storable (upEmb : UEmb _ 𝕄) ((Rd I).payload g r d) := by
  show BI.Storable upEmb (pays I g.1.1 (dec g.2) r d)
  rcases dec g.2 with _ | _ | (_ | _) | ⟨_, _⟩ | ⟨_, _⟩ | _ <;> unfold pays <;> infer_instance

theorem duties_cell (c : Dev nD) (s : Cs) (r : ℕ) : (Rd I).duties (cell c s) r = dutiesO (some s) r := by
  show (if (cell c s).1.2 = .tc then dutiesO (dec (csem s)) r else ∅) = _
  rw [if_pos rfl, dec_csem]
theorem amount_cell (c : Dev nD) (s : Cs) (r : ℕ) (d : Fin 8) : (Rd I).amount (cell c s) r d = amountO (some s) := by
  show amountO (dec (csem s)) = _; rw [dec_csem]
theorem payload_cell (c : Dev nD) (s : Cs) (r : ℕ) (d : Fin 8) : (Rd I).payload (cell c s) r d = pays I c (some s) r d := by
  show pays I c (dec (csem s)) r d = _; rw [dec_csem]

/-- A cell's one duty of a round. -/
theorem mem_duty (c : Dev nD) (s : Cs) (r : ℕ) (h : dutiesO (some s) r = {0}) : (0 : Fin 8) ∈ (Rd I).duties (cell c s) r := by
  rw [duties_cell, h]; exact Finset.mem_singleton_self _
theorem expect_one (c : Dev nD) (s : Cs) (r : ℕ) (h : dutiesO (some s) r = {0}) : (Rd I).expect (cell c s) r = amountO (some s) := by
  unfold Schedule.expect Schedule.amountOf; rw [duties_cell, h, Finset.sum_singleton, amount_cell]
theorem rest_one (c : Dev nD) (s : Cs) (r : ℕ) (h : dutiesO (some s) r = {0}) :
    bigSep ((Rd I).duties (cell c s) r \ ∅) (fun u => (Rd I).payload (cell c s) r u) = pays I c (some s) r 0 := by
  rw [Finset.sdiff_empty, duties_cell, h, bigSep_singleton, payload_cell]

theorem expect_bar (c : Dev nD) : (Rd I).expect (barC c) 0 = 7 := by
  unfold Schedule.expect Schedule.amountOf
  rw [show barC c = cell c (.inl ()) from rfl, duties_cell, Finset.sum_congr rfl fun d _ => amount_cell I c (.inl ()) 0 d]
  rfl
theorem rest_bar (c : Dev nD) :
    bigSep ((Rd I).duties (barC c) 0 \ ∅) (fun u => (Rd I).payload (barC c) 0 u) = bigSepL others fun k => barPay c k := by
  rw [Finset.sdiff_empty, show barC c = cell c (.inl ()) from rfl, duties_cell,
    bigSep_congr fun u _ => payload_cell I c (.inl ()) 0 u,
    show dutiesO (some (.inl ())) 0 = Finset.univ.erase 0 from rfl,
    bigSep_eq_bigSepL_of_eq others (by decide) (by decide)]
  rfl

/-- The round a cell ends at. -/
def fin : Os → ℕ
  | .inl (.inl k) => if k = 0 then 0 else 1
  | .inl (.inr k) => if k = 0 then 0 else 1
  | .inr (.inl (_, k)) => if k = 0 then 0 else 4
  | .inr (.inr (.inl (k, _))) => if k = 0 then 0 else 1
  | .inr (.inr (.inr _)) => 4

theorem later (c : Dev nD) (s : Os) (r : ℕ) (h : fin s ≤ r) : (Rd I).duties (cell c (.inr s)) r = ∅ := by
  rw [duties_cell]
  have one : ∀ {n : ℕ} {k : Fin 8}, (if k = 0 then 0 else n) ≤ r → ¬ (r < n ∧ k ≠ 0) := fun h h' => by
    rw [if_neg h'.2] at h; omega
  match s, h with
  | .inl (.inl k), h => exact if_neg fun h' => one h ⟨by omega, h'.2⟩
  | .inl (.inr k), h => exact if_neg fun h' => one h ⟨by omega, h'.2⟩
  | .inr (.inl (p, k)), h => exact if_neg (one h)
  | .inr (.inr (.inl (k, e))), h => exact if_neg fun h' => one h ⟨by omega, h'.2⟩
  | .inr (.inr (.inr p)), h => exact if_neg (Nat.not_lt.2 h)
theorem later_bar (c : Dev nD) (r : ℕ) (h : 1 ≤ r) : (Rd I).duties (barC c) r = ∅ := by
  rw [show barC c = cell c (.inl ()) from rfl, duties_cell]; exact if_neg (by omega)

/-! ## Levels and dues -/

def L (g : GSem nD τ sig) : Finset Unit := if g.1.2 = .tc then {()} else ∅
def lvO : Option Cs → ℕ
  | some (.inl _) => 1
  | some (.inr (.inl (.inr _))) => 2
  | some (.inr (.inr (.inr (.inl (_, e))))) => 3 + e.val
  | _ => 0
def lv (g : GSem nD τ sig) (_ : Unit) : ℕ := lvO (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (s : Cs) (u : Unit) : lv (cell c s) u = lvO (some s) := by show lvO (dec (csem s)) = _; rw [dec_csem]

/-- A payment due: the device and the cell, and how much. -/
abbrev Due : Type := Dev nD × Cs × ℕ
/-- A list of dues, the head paid first. -/
def ow : List Due → CellTallies nD τ sig Unit
  | [] => 0
  | x :: l => ow l + tallyAt (cell x.1 x.2.1) () x.2.2

theorem ow_cons (x : Due) (l : List Due) : ow (x :: l) = ow l + tallyAt (cell x.1 x.2.1) () x.2.2 := rfl

theorem ow_apply (l : List Due) (g : GSem nD τ sig) (u : Unit) :
    ow l g u = (l.map fun x => if g = cell x.1 x.2.1 then x.2.2 else 0).sum := by
  induction l with
  | nil => rfl
  | cons x l ih =>
    rw [ow_cons, Pi.add_apply, Finsupp.add_apply, ih, tallyAt_apply, List.map_cons, List.sum_cons, Nat.add_comm]
    congr 1
    by_cases h : g = cell x.1 x.2.1
    · rw [if_pos ⟨h, rfl⟩, if_pos h]
    · rw [if_neg (fun h' => h h'.1), if_neg h]

theorem ow_pos {l : List Due} {g : GSem nD τ sig} {u : Unit} (h : 0 < ow l g u) : ∃ x ∈ l, g = cell x.1 x.2.1 := by
  rw [ow_apply] at h
  by_contra hn
  push Not at hn
  refine absurd h (Nat.not_lt.2 (Nat.le_of_eq (List.sum_eq_zero fun n hm => ?_)))
  obtain ⟨x, hx, rfl⟩ := List.mem_map.mp hm
  exact if_neg (hn x hx)

/-- Every due of the list lies above level `n`. -/
def above (n : ℕ) (l : List Due) : Prop := ∀ x ∈ l, n < lvO (some x.2.1)

theorem mayWait (c : Dev nD) (s : Cs) (l : List Due) (h : above (lvO (some s)) l) :
    (levAts L lv : sProp 𝕄) ⊢ MayWait (c : Thread nD τ) (csem s) () (ow l) :=
  MayOwe.of_cut (L := L) (lev := lv) (lvO (some s)) (fun p hp => by rw [Finset.mem_singleton.mp hp, L_tc]; exact Finset.mem_singleton_self _)
    (fun g u hg => by obtain ⟨x, -, rfl⟩ := ow_pos hg; rw [L_tc]; exact Finset.mem_singleton_self _)
    (fun p hp => by rw [Finset.mem_singleton.mp hp]; exact Nat.le_of_eq (lv_cell c s ()))
    (fun g u hg => by obtain ⟨x, hx, rfl⟩ := ow_pos hg; rw [lv_cell]; exact h x hx)

/-- What device `c` owes: the seven signals, the tokens to the seven others, each expert's results to the seven others. -/
def dueB (c : Dev nD) (k : Fin 8) : Due := (up c k, .inl (), 1)
def dueX (c : Dev nD) (k : Fin 8) : Due := (up c k, .inr (oRX k), NX)
def dueY (c : Dev nD) (e k : Fin 8) : Due := (dn c k, .inr (oRY k e), NY)
/-- The results of the experts of a list. -/
def dueYs (c : Dev nD) (l : List (Fin 8)) : List Due := l.flatMap fun e => others.map (dueY c e)
def dues (c : Dev nD) : List Due := others.map (dueB c) ++ (others.map (dueX c) ++ dueYs c all8)
def O₀ (c : Dev nD) : CellTallies nD τ sig Unit := ow (dues c)

theorem above_mono {n n' : ℕ} {l : List Due} (hn : n' ≤ n) (h : above n l) : above n' l := fun x hx => lt_of_le_of_lt hn (h x hx)
theorem above_append {n : ℕ} {l l' : List Due} (h : above n l) (h' : above n l') : above n (l ++ l') := fun x hx =>
  (List.mem_append.mp hx).elim (h x) (h' x)
theorem above_X (c : Dev nD) (l : List (Fin 8)) : above 1 (l.map (dueX c)) := fun x hx => by
  obtain ⟨k, -, rfl⟩ := List.mem_map.mp hx; exact Nat.lt_succ_self 1
theorem above_Y (c : Dev nD) (n : ℕ) (e : Fin 8) (l : List (Fin 8)) (h : n < 3 + e.val) : above n (l.map (dueY c e)) := fun x hx => by
  obtain ⟨k, -, rfl⟩ := List.mem_map.mp hx; exact h
theorem above_Ys (c : Dev nD) (n : ℕ) (l : List (Fin 8)) (h : ∀ e ∈ l, n < 3 + e.val) : above n (dueYs c l) := fun x hx => by
  obtain ⟨e, he, hx⟩ := List.mem_flatMap.mp hx
  exact above_Y c n e _ (h e he) x hx

end Cert.KernelIdeal.Moe

end
-- ==== Proof.Body.lean ====
/- What each piece of the body does with what it holds. -/
module

public import proofs.«01_k».proof.Proof.Proto

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- Device `c` runs `p` to `Q`. -/
abbrev WP {A : Type} (c : Dev nD) (p : PG F A) (Q : A → sProp 𝕄) : sProp 𝕄 :=
  wp frame (wpE (defs₀ (F := F)) 𝒱₀ (c : Thread nD τ) none) Set.univ p Q

/-- One member of a family. -/
theorem bigSep_get {J : Type} {s : Finset J} {i : J} (hi : i ∈ s) (Φ : J → sProp 𝕄) : (bigSep s Φ : sProp 𝕄) ⊢ Φ i := by
  classical exact bigSep_elim hi

/-- A list of steps, each with its own resources beside a state that shrinks with the list. -/
theorem steps_wp {A : Type} (c : Dev nD) (f : A → PG F PUnit) (C : sProp 𝕄) [BI.Persistent C] (R : List A → sProp 𝕄) (P : A → Prop)
    (Pre Post : A → sProp 𝕄)
    (h : ∀ a t (Q : PUnit → sProp 𝕄), P a → iprop(C ∗ R (a :: t) ∗ Pre a ∗ (R t ∗ Post a -∗ Q ⟨⟩)) ⊢ WP c (f a) Q) :
    ∀ (l : List A) (Q : PUnit → sProp 𝕄), (∀ a ∈ l, P a) →
      iprop(C ∗ R l ∗ bigSepL l Pre ∗ (R [] ∗ bigSepL l Post -∗ Q ⟨⟩)) ⊢ WP c (steps (l.map f)) Q
  | [], Q, _ => by
    show _ ⊢ WP c (.ret ⟨⟩) Q
    rw [WP, wp_ret]
    iintro ⟨-, HR, HP, H⟩
    imodintro
    iapply H
    isplitl [HR]; · iexact HR
    iexact HP
  | a :: t, Q, hP => by
    show _ ⊢ WP c (f a >>= fun _ => steps (t.map f)) Q
    rw [WP, wp_bind]
    rw [bigSepL_cons', bigSepL_cons']
    iintro ⟨#HC, HR, ⟨HPa, HPt⟩, H⟩
    iapply (h a t _ (hP a (List.mem_cons_self ..)))
    isplitr; · iexact HC
    isplitl [HR]; · iexact HR
    isplitl [HPa]; · iexact HPa
    iintro ⟨HR, HPo⟩
    iapply (steps_wp c f C R P Pre Post h t Q (fun b hb => hP b (List.mem_cons_of_mem _ hb)))
    isplitr; · iexact HC
    isplitl [HR]; · iexact HR
    isplitl [HPt]; · iexact HPt
    iintro ⟨HR, HPt⟩
    iapply H
    isplitl [HR]; · iexact HR
    isplitl [HPo]; · iexact HPo
    iexact HPt

/-! ## Families over lists -/

theorem bigSepL_with {A : Type} (C : sProp 𝕄) [BI.Persistent C] (l : List A) (Φ Ψ : A → sProp 𝕄)
    (h : ∀ a ∈ l, iprop(C ∗ Φ a) ⊢ Ψ a) : iprop(C ∗ bigSepL l Φ) ⊢ bigSepL l Ψ := by
  induction l with
  | nil => iintro ⟨-, H⟩; iexact H
  | cons a t ih =>
    rw [bigSepL_cons', bigSepL_cons']
    iintro ⟨#HC, Ha, Ht⟩
    isplitl [Ha]
    · iapply (h a (List.mem_cons_self ..))
      isplitr; · iexact HC
      iexact Ha
    · iapply (ih fun b hb => h b (List.mem_cons_of_mem _ hb))
      isplitr; · iexact HC
      iexact Ht

theorem bigSepL_sep_out {A : Type} (l : List A) (Φ Ψ : A → sProp 𝕄) :
    bigSepL l (fun a => iprop(Φ a ∗ Ψ a)) ⊢ iprop(bigSepL l Φ ∗ bigSepL l Ψ) := by
  induction l with
  | nil => rw [bigSepL_nil, bigSepL_nil, bigSepL_nil]; iintro H; isplitl [H]; · iexact H
           iempintro
  | cons a t ih =>
    rw [bigSepL_cons', bigSepL_cons', bigSepL_cons']
    iintro ⟨⟨H1, H2⟩, Ht⟩
    ihave Ht := ih $$ Ht
    icases Ht with ⟨Ht1, Ht2⟩
    isplitl [H1 Ht1]
    · isplitl [H1]; · iexact H1
      iexact Ht1
    · isplitl [H2]; · iexact H2
      iexact Ht2

theorem bigSepL_sep_in {A : Type} (l : List A) (Φ Ψ : A → sProp 𝕄) :
    iprop(bigSepL l Φ ∗ bigSepL l Ψ) ⊢ bigSepL l (fun a => iprop(Φ a ∗ Ψ a)) := by
  induction l with
  | nil => rw [bigSepL_nil, bigSepL_nil, bigSepL_nil]; iintro ⟨H, -⟩; iexact H
  | cons a t ih =>
    rw [bigSepL_cons', bigSepL_cons', bigSepL_cons']
    iintro ⟨⟨H1, Ht1⟩, H2, Ht2⟩
    isplitl [H1 H2]
    · isplitl [H1]; · iexact H1
      iexact H2
    · iapply ih
      isplitl [Ht1]; · iexact Ht1
      iexact Ht2

theorem bigSepL_emp {A : Type} (l : List A) : (iprop(emp) : sProp 𝕄) ⊢ bigSepL l (fun _ => (iprop(emp) : sProp 𝕄)) := by
  induction l with
  | nil => rw [bigSepL_nil]; iintro H; iexact H
  | cons a t ih =>
    rw [bigSepL_cons']
    iintro H
    isplitr; · iempintro
    iapply ih; iexact H

theorem bigSepL_swap {A B : Type} (l : List A) (l' : List B) (Φ : A → B → sProp 𝕄) :
    bigSepL l (fun a => bigSepL l' (Φ a)) ⊢ bigSepL l' (fun b => bigSepL l fun a => Φ a b) := by
  induction l with
  | nil =>
    rw [bigSepL_nil]
    iintro H
    iapply (bigSepL_emp l'); iexact H
  | cons a t ih =>
    rw [bigSepL_cons', show (fun b => bigSepL (a :: t) fun a => Φ a b) = fun b => iprop(Φ a b ∗ bigSepL t fun a => Φ a b) from
      funext fun b => bigSepL_cons' ..]
    iintro ⟨Ha, Ht⟩
    ihave Ht := ih $$ Ht
    ihave H := (bigSepL_sep_in l' (Φ a) fun b => bigSepL t fun a => Φ a b) $$ [Ha Ht]
    · isplitl [Ha]; · iexact Ha
      iexact Ht
    iexact H

/-- Two lists of the same members. -/
theorem bigSepL_of_set {A : Type} [DecidableEq A] (l l' : List A) (h : l.toFinset = l'.toFinset) (hl : l.Nodup) (hl' : l'.Nodup)
    (Φ : A → sProp 𝕄) : (bigSepL l Φ : sProp 𝕄) = bigSepL l' Φ :=
  (bigSep_eq_bigSepL l hl Φ).symm.trans (bigSep_eq_bigSepL_of_eq l' h hl' Φ)

theorem up_neg : ∀ (c : Dev nD) (k : Fin 8), up c (-k) = dn c k := by decide

/-! ## The shared context -/

variable (I : Dev nD → Inp F) (K : GSem nD τ sig → ℕ) (c : Dev nD)

/-- Every cell's invariant, the rounds reached at launch, and the levels. -/
def Cx : sProp 𝕄 :=
  iprop((bigSep Finset.univ fun x : Dev nD × Cs => cellInv ER (Rd I) (K (cell x.1 x.2)) (cell x.1 x.2))
    ∗ (bigSep Finset.univ fun d : Dev nD => reached ER (barC d) 0)
    ∗ (bigSep Finset.univ fun s : Os => reached ER (cell c (.inr s)) 0)
    ∗ levAts L lv)

instance Cx_persistent : BI.Persistent (Cx (F := F) I K c) := by unfold Cx; infer_instance

theorem Cx_inv (d : Dev nD) (s : Cs) : Cx I K c ⊢ cellInv ER (Rd I) (K (cell d s)) (cell d s) := by
  unfold Cx
  iintro ⟨H, -⟩
  iapply (bigSep_get (i := ((d, s) : Dev nD × Cs)) (Finset.mem_univ _)
    ( fun x : Dev nD × Cs => cellInv ER (Rd I) (K (cell x.1 x.2)) (cell x.1 x.2)))
  iexact H
theorem Cx_bar (d : Dev nD) : Cx I K c ⊢ (reached ER (barC d) 0 : sProp 𝕄) := by
  unfold Cx
  iintro ⟨-, H, -⟩
  iapply (bigSep_get (i := d) (Finset.mem_univ _) ( fun d : Dev nD => (reached ER (barC d) 0 : sProp 𝕄)))
  iexact H
theorem Cx_own (s : Os) : Cx I K c ⊢ (reached ER (cell c (.inr s)) 0 : sProp 𝕄) := by
  unfold Cx
  iintro ⟨-, -, H, -⟩
  iapply (bigSep_get (i := s) (Finset.mem_univ _) ( fun s : Os => (reached ER (cell c (.inr s)) 0 : sProp 𝕄)))
  iexact H
theorem Cx_lev : Cx I K c ⊢ (levAts L lv : sProp 𝕄) := by
  unfold Cx
  iintro ⟨-, -, -, H⟩
  iexact H

/-- What is owed: a list of dues. -/
def OW (l : List Due) : sProp 𝕄 := iprop(∃ W, owes (c : Thread nD τ) (ow l) W)

/-- A credit token on a cell of `c`. -/
abbrev cr (s : Cs) (n : ℕ) : sProp 𝕄 := cred (tallyAt (cell c s) () n)
abbrev pos (s : Cs) (r : ℕ) : sProp 𝕄 := atPos ER (cell c s) r ∅ 0
abbrev tok (d : Dev nD) (s : Cs) (r : ℕ) : sProp 𝕄 := dutyTok ER (cell d s) r (0 : Fin 8)

/-- One wait for a whole round of one duty. -/
theorem wait_one (s : Cs) (sm : DmaSem sig) (hs : csem s = .dma sm) {sp sp' : Space} {S S' : Shape} {e e' : EltTy}
    {src : Memref sig .tc sp' S' e'} {dst : Memref sig .tc sp S e} {hsrc : src.view.WordExact} {hdst : dst.view.WordExact}
    (r : ℕ) (hd : dutiesO (some s) r = {0}) (hN : dst.view.dmaCredit = amountO (some s)) (l : List Due) (hl : above (lvO (some s)) l)
    (Q : PUnit → sProp 𝕄) :
    iprop(Cx I K c ∗ OW c l ∗ (cr c s (amountO (some s)) ∗ pos c s r)
      ∗ (OW c l ∗ (pos c s (r + 1) ∗ reached ER (cell c s) (r + 1) ∗ pays I c (some s) r 0) -∗ Q ⟨⟩))
    ⊢ WP c (Prog.lift (.waitDma2 sm src dst hsrc hdst)) Q := by
  show _ ⊢ WP c (.op (.waitDma2 sm src dst hsrc hdst) .ret) Q
  unfold OW
  iintro ⟨#HC, ⟨%W, HO⟩, ⟨Hc, Ha⟩, H⟩
  ihave #HI := (Cx_inv I K c c s) $$ HC
  ihave #HL := ((Cx_lev I K c).trans (mayWait c s l hl)) $$ HC
  iapply (Rounds.wp_wait_rest_token 𝒱₀ ER (Rd I) (c : Thread nD τ) none (κ := K (cell c s)) (sm := csem s) (k' := amountO (some s))
      (fun Kt => by rw [hs, ← hN]; exact wpE_waitDma2_eq 𝒱₀ (c : Thread nD τ) none Set.univ Kt) (Set.mem_univ _) () (O := ow l) (W := W) (R := r) (m := 0) (T := ∅)
      ((Nat.zero_add _).trans (expect_one I c s r hd).symm)) $$ [HO Hc Ha]
  · isplitr; · iexact HI
    isplitl [Hc]; · iexact Hc
    isplitl [HO]; · iexact HO
    isplitr; · iexact HL
    iexact Ha
  iintro ⟨HO, Ha, #Hr, Hp⟩
  ihave Hp := (Entails.of_eq (rest_one I c s r hd)) $$ Hp
  rw [wp_ret]
  imodintro
  iapply H
  isplitl [HO]; · iexists _; iexact HO
  isplitl [Ha]; · iexact Ha
  isplitr; · iexact Hr
  iexact Hp

/-! ## The barrier -/

def SigPre (k : Fin 8) : sProp 𝕄 :=
  iprop(dutyTok ER (barC (up c k)) 0 k ∗ pa c (vXr (-k)) ∗ bigSepL all8 fun e => pa c (vYr k e))

theorem sig_step (k : Fin 8) (hk : k ≠ 0) (l : List Due) (Q : PUnit → sProp 𝕄) :
    iprop(Cx I K c ∗ OW c (dueB c k :: l) ∗ SigPre c k ∗ (OW c l ∗ emp -∗ Q ⟨⟩)) ⊢ WP c (semSignalWord (devB c k) sBar 1#32) Q := by
  rw [devB_up]
  show _ ⊢ WP c (.op (.semSignal ((up c k : Dev nD) : Thread nD τ) sBar 1) .ret) Q
  unfold OW SigPre
  iintro ⟨#HC, ⟨%W, HO⟩, ⟨Ht, HX, HY⟩, H⟩
  ihave #HI := (Cx_inv I K c (up c k) (.inl ())) $$ HC
  ihave #HR := (Cx_bar I K c (up c k)) $$ HC
  iapply (Rounds.wp_signal 𝒱₀ ER (Rd I) (c : Thread nD τ) none (dst := (up c k : Thread nD τ)) (sem := sBar) (r := 0) (d := k) (κ := K (barC (up c k)))
      (by rw [show (((up c k : Dev nD) : Thread nD τ), SemLoc.reg sBar) = cell (up c k) (.inl ()) from rfl, duties_cell]
          exact Finset.mem_erase.2 ⟨hk, Finset.mem_univ _⟩)
      (amount_cell I (up c k) (.inl ()) 0 k) () (ow l) rfl) $$ [HO Ht HX HY]
  · isplitr; · iexact HI
    isplitl [HO]; · iexact HO
    isplitl [Ht]; · iexact Ht
    isplitl [HX HY]
    · iapply (Entails.of_eq (payload_cell I (up c k) (.inl ()) 0 k).symm)
      iapply (Entails.of_eq (show barPay (up c k) k = pays I (up c k) (some (.inl ())) 0 k from rfl))
      unfold barPay
      rw [dn_up]
      isplitl [HX]
      · unfold slotX
        isplitl [HX]; · iexact HX
        iapply (Cx_own I K c (oRX (-k))); iexact HC
      · iapply (bigSepL_with (Cx I K c) all8 (fun e => pa c (vYr k e)) (fun e => slotY c k e) fun e _ => by
          unfold slotY
          iintro ⟨#HC, H⟩
          isplitl [H]; · iexact H
          iapply (Cx_own I K c (oRY k e)); iexact HC)
        isplitr; · iexact HC
        iexact HY
    · iexact HR
  iintro HO
  rw [wp_ret]
  imodintro
  iapply H
  isplitl [HO]; · iexists _; iexact HO
  iempintro

theorem bar_wait (l : List Due) (hl : above 1 l) (Q : PUnit → sProp 𝕄) :
    iprop(Cx I K c ∗ OW c l ∗ (cr c (.inl ()) 7 ∗ pos c (.inl ()) 0)
      ∗ (OW c l ∗ pos c (.inl ()) 1 ∗ (bigSepL others fun k => slotX (up c k) k) ∗ (bigSepL all8 fun e => bigSepL others fun k => slotY (dn c k) k e) -∗ Q ⟨⟩))
    ⊢ WP c (semWaitWord sBar 7#32) Q := by
  show _ ⊢ WP c (.op (.semWait sBar 7) .ret) Q
  unfold OW
  iintro ⟨#HC, ⟨%W, HO⟩, ⟨Hc, Ha⟩, H⟩
  ihave #HI := (Cx_inv I K c c (.inl ())) $$ HC
  ihave #HL := ((Cx_lev I K c).trans (mayWait c (.inl ()) l hl)) $$ HC
  iapply (Rounds.wp_wait_rest_token 𝒱₀ ER (Rd I) (c : Thread nD τ) none (κ := K (barC c)) (sm := .reg sBar) (k' := 7)
      (wpE_semWait_eq 𝒱₀ (c : Thread nD τ) none Set.univ) (Set.mem_univ _) () (O := ow l) (W := W) (R := 0) (m := 0) (T := ∅)
      ((Nat.zero_add _).trans (expect_bar I c).symm)) $$ [HO Hc Ha]
  · isplitr; · iexact HI
    isplitl [Hc]; · iexact Hc
    isplitl [HO]; · iexact HO
    isplitr; · iexact HL
    iexact Ha
  iintro ⟨HO, Ha, -, Hp⟩
  ihave Hp := (Entails.of_eq (rest_bar I c)) $$ Hp
  rw [wp_ret]
  imodintro
  iapply H
  isplitl [HO]; · iexists _; iexact HO
  isplitl [Ha]; · iexact Ha
  unfold barPay
  ihave Hp := (bigSepL_sep_out others (fun k => slotX (dn c k) (-k)) fun k => bigSepL all8 fun e => slotY (dn c k) k e) $$ Hp
  icases Hp with ⟨HX, HY⟩
  isplitl [HX]
  · have e : (bigSepL others fun k => slotX (F := F) (dn c k) (-k)) = bigSepL others fun k => slotX (F := F) (up c k) k := by
      rw [← bigSepL_of_set (others.map fun k => -k) others (by decide) (by decide) (by decide) (fun k => slotX (F := F) (up c k) k),
        bigSepL_map (fun k : Fin 8 => -k) others (fun k => slotX (F := F) (up c k) k)]
      simp only [up_neg]
    iapply (Entails.of_eq e)
    iexact HX
  · iapply (bigSepL_swap others all8 fun k e => slotY (dn c k) k e)
    iexact HY

/-! ## Copies -/

/-- The two remote copies, by the device that they go to. -/
def sendXTo (d : Dev nD) (k : Fin 8) : PG F PUnit :=
  Prog.lift (.enqueueDma (vSb (sendAt k)) (.remote (Dev.tc d) (vXr k) (.dma (sSX k))) (.dma (sRX k)) (xSb (sendAt k)) (xXr k) ⟨⟨rfl, Or.inl rfl⟩, trivial⟩)
def sendYTo (d : Dev nD) (e k : Fin 8) : PG F PUnit :=
  Prog.lift (.enqueueDma (vYb (half e) k) (.remote (Dev.tc d) (vYr k e) (.dma (sSY (half e) k))) (.dma (sRY k e)) (xYb (half e) k) (xYr k e) ⟨⟨rfl, Or.inl rfl⟩, trivial⟩)

theorem send_X (k : Fin 8) (hk : k ≠ 0) (l : List Due) (Q : PUnit → sProp 𝕄) :
    iprop(Cx I K c ∗ OW c (dueX c k :: l)
      ∗ (pv c (vSb (sendAt k)) (SB I c k) ∗ slotX (up c k) k ∗ tok c (.inr (oSX k)) 0 ∗ tok (up c k) (.inr (oRX k)) 0)
      ∗ (OW c l ∗ cr c (.inr (oSX k)) NX -∗ Q ⟨⟩)) ⊢ WP c (sendX c k) Q := by
  rw [show sendX (F := F) c k = sendXTo (devX c k) k from rfl, devX_up]
  show _ ⊢ WP c (.op (.enqueueDma (vSb (sendAt k)) (.remote ((up c k : Dev nD) : Thread nD τ) (vXr k) (.dma (sSX k))) (.dma (sRX k)) (xSb (sendAt k)) (xXr k) _) .ret) Q
  unfold OW slotX
  iintro ⟨#HC, ⟨%W, HO⟩, ⟨HS, ⟨⟨%f, HD⟩, #HR⟩, Ht1, Ht2⟩, H⟩
  ihave #HI1 := (Cx_inv I K c c (.inr (oSX k))) $$ HC
  ihave #HI2 := (Cx_inv I K c (up c k) (.inr (oRX k))) $$ HC
  ihave #HR0 := (Cx_own I K c (oSX k)) $$ HC
  iapply (Rounds.wp_send_pointsTo 𝒱₀ ER (Rd I) (c : Thread nD τ) none (c' := (up c k : Thread nD τ)) (src := vSb (sendAt k)) (dst := vXr k)
      (sS := .dma (sSX k)) (sem := .dma (sRX k)) (q := fullShare) (fs := SB I c k) (κ₁ := K (sxC c k)) (κ₂ := K (rxC (up c k) k))
      (r₁ := 0) (r₂ := 0) (d₁ := 0) (d₂ := 0) (fd := f)
      (mem_duty I c (.inr (oSX k)) 0 (if_pos ⟨rfl, hk⟩)) (mem_duty I (up c k) (.inr (oRX k)) 0 (if_pos ⟨rfl, hk⟩))
      () () NX (NX_xr k) (amount_cell I c (.inr (oSX k)) 0 0) (amount_cell I (up c k) (.inr (oRX k)) 0 0) (ow l) rfl (W := W)
      (by
        refine BI.BIBase.Entails.trans ?_ (Entails.of_eq (payload_cell I c (.inr (oSX k)) 0 0).symm)
        show pv c (vSb (sendAt k)) (SB I c k) ⊢ pa c (vSb (sendAt k))
        iintro H; iexists _; iexact H)
      (by
        refine BI.BIBase.Entails.trans ?_ (Entails.of_eq (payload_cell I (up c k) (.inr (oRX k)) 0 0).symm)
        exact Entails.of_eq (pointsTo_congr (land_X I c k (sendAt k) f)))) $$ [HS HD HO Ht1 Ht2]
  · isplitr; · iexact HI1
    isplitr; · iexact HI2
    isplitl [HS]; · iexact HS
    isplitl [HD]; · iexact HD
    isplitl [HO]; · iexact HO
    isplitl [Ht1]; · iexact Ht1
    isplitr; · iexact HR0
    isplitl [Ht2]; · iexact Ht2
    iexact HR
  iintro ⟨Hc, HO⟩
  rw [wp_ret]
  imodintro
  iapply H
  isplitl [HO]; · iexists _; iexact HO
  iexact Hc

/-- The round of the double buffers that expert `e` works in. -/
abbrev rd (e : Fin 8) : ℕ := e.val / 2

theorem rd_lt : ∀ e : Fin 8, rd e < 4 := by decide
theorem rd_half : ∀ e : Fin 8, Fin.ofNat 8 (2 * rd e + (half e).val) = e := by decide

def SendYPre (e k : Fin 8) : sProp 𝕄 :=
  iprop(slotY (dn c k) k e ∗ tok c (.inr (oSY (half e) k)) (rd e) ∗ tok (dn c k) (.inr (oRY k e)) 0)

theorem send_Y (e k : Fin 8) (hk : k ≠ 0) (l : List Due) (Q : PUnit → sProp 𝕄) :
    iprop(Cx I K c ∗ OW c (dueY c e k :: l)
      ∗ (pv c (vYb (half e) k) (YB I c e) ∗ reached ER (cell c (.inr (oSY (half e) k))) (rd e) ∗ SendYPre c e k)
      ∗ (OW c l ∗ cr c (.inr (oSY (half e) k)) NY -∗ Q ⟨⟩)) ⊢ WP c (sendY c e k) Q := by
  rw [show sendY (F := F) c e k = sendYTo (devY c e k) e k from rfl, devY_dn]
  show _ ⊢ WP c (.op (.enqueueDma (vYb (half e) k) (.remote ((dn c k : Dev nD) : Thread nD τ) (vYr k e) (.dma (sSY (half e) k))) (.dma (sRY k e)) (xYb (half e) k) (xYr k e) _) .ret) Q
  unfold OW SendYPre slotY
  iintro ⟨#HC, ⟨%W, HO⟩, ⟨HS, #HR0, ⟨⟨%f, HD⟩, #HR⟩, Ht1, Ht2⟩, H⟩
  ihave #HI1 := (Cx_inv I K c c (.inr (oSY (half e) k))) $$ HC
  ihave #HI2 := (Cx_inv I K c (dn c k) (.inr (oRY k e))) $$ HC
  iapply (Rounds.wp_send_pointsTo 𝒱₀ ER (Rd I) (c : Thread nD τ) none (c' := (dn c k : Thread nD τ)) (src := vYb (half e) k) (dst := vYr k e)
      (sS := .dma (sSY (half e) k)) (sem := .dma (sRY k e)) (q := fullShare) (fs := YB I c e) (κ₁ := K (syC c (half e) k)) (κ₂ := K (ryC (dn c k) k e))
      (r₁ := rd e) (r₂ := 0) (d₁ := 0) (d₂ := 0) (fd := f)
      (mem_duty I c (.inr (oSY (half e) k)) (rd e) (if_pos ⟨rd_lt e, hk⟩)) (mem_duty I (dn c k) (.inr (oRY k e)) 0 (if_pos ⟨rfl, hk⟩))
      () () NY (NY_yr k e) (amount_cell I c (.inr (oSY (half e) k)) (rd e) 0) (amount_cell I (dn c k) (.inr (oRY k e)) 0 0) (ow l) rfl (W := W)
      (by
        refine BI.BIBase.Entails.trans ?_ (Entails.of_eq (payload_cell I c (.inr (oSY (half e) k)) (rd e) 0).symm)
        show pv c (vYb (half e) k) (YB I c e) ⊢ pa c (vYb (half e) k)
        iintro H; iexists _; iexact H)
      (by
        refine BI.BIBase.Entails.trans ?_ (Entails.of_eq (payload_cell I (dn c k) (.inr (oRY k e)) 0 0).symm)
        exact Entails.of_eq (pointsTo_congr (land_Y I c k e (half e) f)))) $$ [HS HD HO Ht1 Ht2]
  · isplitr; · iexact HI1
    isplitr; · iexact HI2
    isplitl [HS]; · iexact HS
    isplitl [HD]; · iexact HD
    isplitl [HO]; · iexact HO
    isplitl [Ht1]; · iexact Ht1
    isplitr; · iexact HR0
    isplitl [Ht2]; · iexact Ht2
    iexact HR
  iintro ⟨Hc, HO⟩
  rw [wp_ret]
  imodintro
  iapply H
  isplitl [HO]; · iexists _; iexact HO
  iexact Hc

theorem pays_W (e : Fin 8) : pays I c (some (.inr (oW (half e)))) (rd e) 0 = iprop(pv c (vWe (half e)) (WE I c e) ∗ pv c (vEw e) (I c).ew) := by
  show iprop(pv c (vWe (half e)) (WE I c (Fin.ofNat 8 (2 * rd e + (half e).val))) ∗ pv c (vEw (Fin.ofNat 8 (2 * rd e + (half e).val))) (I c).ew) = _
  rw [rd_half]

/-- A half of the weights' buffer: free, being filled, filled. -/
def WF (p : Fin 2) (r : ℕ) : sProp 𝕄 := iprop(pa c (vWe p) ∗ pos c (.inr (oW p)) r ∗ reached ER (cell c (.inr (oW p))) r)
def WQ (p : Fin 2) (r : ℕ) : sProp 𝕄 := iprop(cr c (.inr (oW p)) NW ∗ pos c (.inr (oW p)) r)
def WL (e : Fin 8) : sProp 𝕄 :=
  iprop(pv c (vWe (half e)) (WE I c e) ∗ pos c (.inr (oW (half e))) (rd e + 1) ∗ reached ER (cell c (.inr (oW (half e)))) (rd e + 1))

theorem copy_W (e : Fin 8) (Q : PUnit → sProp 𝕄) :
    iprop(Cx I K c ∗ WF c (half e) (rd e) ∗ (tok c (.inr (oW (half e))) (rd e) ∗ pv c (vEw e) (I c).ew) ∗ (WQ c (half e) (rd e) -∗ Q ⟨⟩)) ⊢ WP c (copyW e) Q := by
  show _ ⊢ WP c (.op (.enqueueDma (vEw e) (.here (vWe (half e))) (.dma (sW (half e))) (xEw e) (xWe (half e)) _) .ret) Q
  unfold WF WQ
  iintro ⟨#HC, ⟨⟨%f, HD⟩, Ha, #HR⟩, ⟨Ht, HS⟩, H⟩
  ihave #HI := (Cx_inv I K c c (.inr (oW (half e)))) $$ HC
  iapply (Rounds.wp_copy_pointsTo 𝒱₀ ER (Rd I) (c : Thread nD τ) none (src := vEw e) (dst := vWe (half e)) (sem := .dma (sW (half e))) (q := fullShare)
      (fs := (I c).ew) (fd := f) (r := rd e) (d := 0) (κ := K (wC c (half e)))
      (mem_duty I c (.inr (oW (half e))) (rd e) (if_pos (rd_lt e))) () NW (NW_we (half e)) (amount_cell I c (.inr (oW (half e))) (rd e) 0)
      (by
        refine BI.BIBase.Entails.trans ?_ (Entails.of_eq ((payload_cell I c (.inr (oW (half e))) (rd e) 0).trans (pays_W I c e)).symm)
        iintro ⟨H1, H2⟩
        isplitl [H1]
        · iapply (Entails.of_eq (pointsTo_congr (land_W I c e (half e) f))); iexact H1
        · iexact H2)) $$ [HS HD Ht]
  · isplitr; · iexact HI
    isplitl [HS]; · iexact HS
    isplitl [HD]; · iexact HD
    isplitl [Ht]; · iexact Ht
    iexact HR
  iintro Hc
  rw [wp_ret]
  imodintro
  iapply H
  isplitl [Hc]; · iexact Hc
  iexact Ha

/-! ## Waits -/

theorem wait_W (e : Fin 8) (l : List Due) (hl : above 0 l) (Q : PUnit → sProp 𝕄) :
    iprop(Cx I K c ∗ OW c l ∗ WQ c (half e) (rd e) ∗ (OW c l ∗ WL I c e ∗ pv c (vEw e) (I c).ew -∗ Q ⟨⟩)) ⊢ WP c (waitW e) Q := by
  unfold WQ WL
  iintro ⟨#HC, HO, HQ, H⟩
  iapply (wait_one I K c (.inr (oW (half e))) (sW (half e)) rfl (rd e) (if_pos (rd_lt e)) (NW_we (half e)) l hl)
  isplitr; · iexact HC
  isplitl [HO]; · iexact HO
  isplitl [HQ]; · iexact HQ
  iintro ⟨HO, Ha, HR, HP⟩
  ihave HP := (Entails.of_eq (pays_W I c e)) $$ HP
  icases HP with ⟨H1, H2⟩
  iapply H
  isplitl [HO]; · iexact HO
  isplitr [H2]
  · isplitl [H1]; · iexact H1
    isplitl [Ha]; · iexact Ha
    iexact HR
  · iexact H2

theorem wait_SX (k : Fin 8) (hk : k ≠ 0) (l : List Due) (hl : above 0 l) (Q : PUnit → sProp 𝕄) :
    iprop(Cx I K c ∗ OW c l ∗ (cr c (.inr (oSX k)) NX ∗ pos c (.inr (oSX k)) 0)
      ∗ (OW c l ∗ (pos c (.inr (oSX k)) 1 ∗ pa c (vSb (sendAt k))) -∗ Q ⟨⟩)) ⊢ WP c (waitSX k) Q := by
  iintro ⟨#HC, HO, HQ, H⟩
  iapply (wait_one I K c (.inr (oSX k)) (sSX k) rfl 0 (if_pos ⟨rfl, hk⟩) (NX_sb (sendAt k)) l hl)
  isplitr; · iexact HC
  isplitl [HO]; · iexact HO
  isplitl [HQ]; · iexact HQ
  iintro ⟨HO, Ha, -, HP⟩
  iapply H
  isplitl [HO]; · iexact HO
  isplitl [Ha]; · iexact Ha
  iapply (Entails.of_eq (show pays I c (some (.inr (oSX k))) 0 0 = pa c (vSb (sendAt k)) from rfl)); iexact HP

theorem wait_RX (k : Fin 8) (hk : k ≠ 0) (l : List Due) (hl : above 2 l) (Q : PUnit → sProp 𝕄) :
    iprop(Cx I K c ∗ OW c l ∗ (cr c (.inr (oRX k)) NX ∗ pos c (.inr (oRX k)) 0)
      ∗ (OW c l ∗ (pos c (.inr (oRX k)) 1 ∗ pv c (vXr k) (XR I c)) -∗ Q ⟨⟩)) ⊢ WP c (waitRX k) Q := by
  iintro ⟨#HC, HO, HQ, H⟩
  iapply (wait_one I K c (.inr (oRX k)) (sRX k) rfl 0 (if_pos ⟨rfl, hk⟩) (NX_xr k) l hl)
  isplitr; · iexact HC
  isplitl [HO]; · iexact HO
  isplitl [HQ]; · iexact HQ
  iintro ⟨HO, Ha, -, HP⟩
  iapply H
  isplitl [HO]; · iexact HO
  isplitl [Ha]; · iexact Ha
  iapply (Entails.of_eq (show pays I c (some (.inr (oRX k))) 0 0 = pv c (vXr k) (XR I c) from rfl)); iexact HP

theorem wait_SY (e k : Fin 8) (hk : k ≠ 0) (l : List Due) (hl : above 0 l) (Q : PUnit → sProp 𝕄) :
    iprop(Cx I K c ∗ OW c l ∗ (cr c (.inr (oSY (half e) k)) NY ∗ pos c (.inr (oSY (half e) k)) (rd e))
      ∗ (OW c l ∗ ((pos c (.inr (oSY (half e) k)) (rd e + 1) ∗ reached ER (cell c (.inr (oSY (half e) k))) (rd e + 1)) ∗ pa c (vYb (half e) k)) -∗ Q ⟨⟩))
    ⊢ WP c (waitSY e k) Q := by
  iintro ⟨#HC, HO, HQ, H⟩
  iapply (wait_one I K c (.inr (oSY (half e) k)) (sSY (half e) k) rfl (rd e) (if_pos ⟨rd_lt e, hk⟩) (NY_yb (half e) k) l hl)
  isplitr; · iexact HC
  isplitl [HO]; · iexact HO
  isplitl [HQ]; · iexact HQ
  iintro ⟨HO, Ha, HR, HP⟩
  iapply H
  isplitl [HO]; · iexact HO
  isplitl [Ha HR]
  · isplitl [Ha]; · iexact Ha
    iexact HR
  iapply (Entails.of_eq (show pays I c (some (.inr (oSY (half e) k))) (rd e) 0 = pa c (vYb (half e) k) from rfl)); iexact HP

theorem wait_RY (e k : Fin 8) (hk : k ≠ 0) (l : List Due) (hl : above (3 + e.val) l) (Q : PUnit → sProp 𝕄) :
    iprop(Cx I K c ∗ OW c l ∗ (cr c (.inr (oRY k e)) NY ∗ pos c (.inr (oRY k e)) 0)
      ∗ (OW c l ∗ (pos c (.inr (oRY k e)) 1 ∗ pv c (vYr k e) (YR I c)) -∗ Q ⟨⟩)) ⊢ WP c (waitRY e k) Q := by
  iintro ⟨#HC, HO, HQ, H⟩
  iapply (wait_one I K c (.inr (oRY k e)) (sRY k e) rfl 0 (if_pos ⟨rfl, hk⟩) (NY_yr k e) l hl)
  isplitr; · iexact HC
  isplitl [HO]; · iexact HO
  isplitl [HQ]; · iexact HQ
  iintro ⟨HO, Ha, -, HP⟩
  iapply H
  isplitl [HO]; · iexact HO
  isplitl [Ha]; · iexact Ha
  iapply (Entails.of_eq (show pays I c (some (.inr (oRY k e))) 0 0 = pv c (vYr k e) (YR I c) from rfl)); iexact HP

end Cert.KernelIdeal.Moe

end
-- ==== Proof.Parts.lean ====
/- A buffer as its parts, and loads and stores through a rectangle. -/
module

public import proofs.«01_k».proof.Proof.Body

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Parts of a buffer -/

section Parts

variable {ℓ : Loc nD τ sig} {T : Type} [Fintype T] [DecidableEq T] (S : Finset (Idx ℓ)) (Kf : T → Finset (Idx ℓ))
  (hS : ∀ i, i ∈ S ↔ ∃ t, i ∈ Kf t) (hd : ∀ t t' i, i ∈ Kf t → i ∈ Kf t' → t = t')

include hS hd

theorem parts_eq (q : PosShare TreeShare) (f : Buf (Elt F) ℓ) :
    (ℓ ↦[S]{q} f : sProp 𝕄) = bigSep Finset.univ fun t => ℓ ↦[Kf t]{q} f := by
  rw [show S = Finset.univ.biUnion Kf from Finset.ext fun i => (hS i).trans (by simp)]
  exact pointsTo_biUnion _ _ fun t _ t' _ hne => Finset.disjoint_left.2 fun i hi hi' => hne (hd t t' i hi hi')

theorem parts_join [Nonempty (Buf (Elt F) ℓ)] :
    (bigSep Finset.univ fun t => iprop(∃ f : Buf (Elt F) ℓ, ℓ ↦[Kf t]{fullShare} f)) ⊢ (iprop(∃ f, ℓ ↦[S]{fullShare} f) : sProp 𝕄) := by
  rw [show S = Finset.univ.biUnion Kf from Finset.ext fun i => (hS i).trans (by simp)]
  iintro H
  ihave H := (bigSep_exists_pi (Finset.univ : Finset T) fun t (f : Buf (Elt F) ℓ) => (ℓ ↦[Kf t]{fullShare} f : sProp 𝕄)) $$ H
  icases H with ⟨%fs, H⟩
  ihave H := (pointsTo_biUnion_join Finset.univ Kf fs (Classical.arbitrary _)
    fun t _ t' _ hne => Finset.disjoint_left.2 fun i hi hi' => hne (hd t t' i hi hi')) $$ H
  icases H with ⟨%g, -, H⟩
  iexists g
  iexact H

end Parts

/-- All of a memref's buffer. -/
abbrev wh {sp : Space} {s : Shape} {e : EltTy} (c : Dev nD) (M : Memref sig .tc sp s e) (f : Buf (Elt F) (M.view.loc (c : Thread nD τ))) : sProp 𝕄 :=
  M.view.loc (c : Thread nD τ) ↦[Finset.univ]{fullShare} f

variable (I : Dev nD → Inp F) (c : Dev nD)

theorem load_step {cs : CoreSpace} {s : Shape} {e : EltTy} {M : Memref sig .tc cs s e} {r : Rect s} {hl : M.view.LoadsAt r.toLoadRect}
    {S : Finset (Idx ((M.access r).loc (c : Thread nD τ)))} {f : Buf (Elt F) ((M.access r).loc (c : Thread nD τ))}
    (hS : (M.access r).set ⊆ S) (v : r.shape.Idx → Elt F e) (hv : (M.access r).read (Elt F) f = v) (Q : (r.shape.Idx → Elt F e) → sProp 𝕄) :
    iprop(((M.access r).loc (c : Thread nD τ) ↦[S]{fullShare} f) ∗ (((M.access r).loc (c : Thread nD τ) ↦[S]{fullShare} f) -∗ Q v))
      ⊢ WP c (Prog.lift (.load M r.toLoadRect hl)) Q := by
  unfold Prog.lift WP
  iintro ⟨Hp, H⟩
  iapply (wp_load_rect 𝒱₀ (c : Thread nD τ) none Set.univ hS) $$ Hp
  iintro Hp
  rw [wp_ret, hv]
  imodintro
  iapply H
  iexact Hp

theorem store_step {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {S : Finset (Idx ((M.access r).loc (c : Thread nD τ)))} {f : Buf (Elt F) ((M.access r).loc (c : Thread nD τ))}
    (hS : (M.access r).set ⊆ S) (g : Buf (Elt F) ((M.access r).loc (c : Thread nD τ)))
    (hg : ∀ i ∈ S, (M.access r).write (Elt F) f w Finset.univ i = g i) (Q : PUnit → sProp 𝕄) :
    iprop(((M.access r).loc (c : Thread nD τ) ↦[S]{fullShare} f) ∗ (((M.access r).loc (c : Thread nD τ) ↦[S]{fullShare} g) -∗ Q ⟨⟩))
      ⊢ WP c (Prog.lift (.store M r w Finset.univ hx hm)) Q := by
  unfold Prog.lift WP
  iintro ⟨Hp, H⟩
  iapply (wp_store 𝒱₀ (c : Thread nD τ) none Set.univ hS) $$ Hp
  iintro Hp
  rw [wp_ret]
  imodintro
  iapply H
  iapply (Entails.of_eq (pointsTo_congr hg))
  iexact Hp

/-! ## The whole windows -/

theorem emb_whole2 {n m : ℕ} (h : ∀ a, (![0, 0] : Fin 2 → ℕ) a + (![n, m] : Fin 2 → ℕ) a ≤ (⟨2, ![n, m]⟩ : Shape).size a)
    (j : (⟨2, ![n, m]⟩ : Shape).Idx) : (Rect.unit (s := ⟨2, ![n, m]⟩) ![0, 0] ![n, m] h).emb j = j := by
  funext a; apply Fin.ext
  refine (ValueKit.rect_emb_unit_val _ _ _ j a).trans ?_
  match a with
  | 0 => exact Nat.zero_add _
  | 1 => exact Nat.zero_add _

theorem load_X (Q : Vec F S2048x1024 .f32 → sProp 𝕄) (f : Vec F S2048x1024 .f32) : iprop(wh c mX f ∗ (wh c mX f -∗ Q f)) ⊢ WP c loadX Q := by
  unfold loadX
  refine load_step c (M := mX) (r := Rect.unit (s := S2048x1024) ![0, 0] S2048x1024.size inb_S2048x1024_S2048x1024_0_0) (Finset.subset_univ _) f ?_ Q
  funext j
  exact congrArg f (emb_whole2 _ j)
theorem load_O (Q : Vec F S2048x1024 .f32 → sProp 𝕄) (f : Vec F S2048x1024 .f32) : iprop(wh c mO f ∗ (wh c mO f -∗ Q f)) ⊢ WP c loadO Q := by
  unfold loadO
  refine load_step c (M := mO) (r := Rect.unit (s := S2048x1024) ![0, 0] S2048x1024.size inb_S2048x1024_S2048x1024_0_0) (Finset.subset_univ _) f ?_ Q
  funext j
  exact congrArg f (emb_whole2 _ j)
theorem load_Sw (Q : Vec F S1024x1024 .f32 → sProp 𝕄) (f : Vec F S1024x1024 .f32) : iprop(wh c mSw f ∗ (wh c mSw f -∗ Q f)) ⊢ WP c loadSw Q := by
  unfold loadSw
  refine load_step c (M := mSw) (r := Rect.unit (s := S1024x1024) ![0, 0] S1024x1024.size inb_S1024x1024_S1024x1024_0_0) (Finset.subset_univ _) f ?_ Q
  funext j
  exact congrArg f (emb_whole2 _ j)
theorem load_Sr (Q : Vec F S1x2048 .i32 → sProp 𝕄) (f : Vec F S1x2048 .i32) : iprop(wh c mSr f ∗ (wh c mSr f -∗ Q f)) ⊢ WP c loadSr Q := by
  unfold loadSr
  refine load_step c (M := mSr) (r := Rect.unit (s := S1x2048) ![0, 0] S1x2048.size inb_S1x2048_S1x2048_0_0) (Finset.subset_univ _) f ?_ Q
  funext j
  exact congrArg f (emb_whole2 _ j)
theorem load_P (Q : Vec F S1x2048 .f32 → sProp 𝕄) (f : Vec F S1x2048 .f32) : iprop(wh c mP f ∗ (wh c mP f -∗ Q f)) ⊢ WP c loadP Q := by
  unfold loadP
  refine load_step c (M := mP) (r := Rect.unit (s := S1x2048) ![0, 0] S1x2048.size inb_S1x2048_S1x2048_0_0) (Finset.subset_univ _) f ?_ Q
  funext j
  exact congrArg f (emb_whole2 _ j)
theorem load_Sc (Q : Vec F S2048x1 .i32 → sProp 𝕄) (f : Vec F S2048x1 .i32) : iprop(wh c mSc f ∗ (wh c mSc f -∗ Q f)) ⊢ WP c loadSc Q := by
  unfold loadSc
  refine load_step c (M := mSc) (r := Rect.unit (s := S2048x1) ![0, 0] S2048x1.size inb_S2048x1_S2048x1_0_0) (Finset.subset_univ _) f ?_ Q
  funext j
  exact congrArg f (emb_whole2 _ j)
theorem store_O (Q : PUnit → sProp 𝕄) (f : Vec F S2048x1024 .f32) (v : FVec F S2048x1024 .f32) :
    iprop(wh c mO f ∗ (wh c mO v -∗ Q ⟨⟩)) ⊢ WP c (storeO v) Q := by
  unfold storeO
  refine store_step c (M := mO) (r := Rect.unit (s := S2048x1024) ![0, 0] S2048x1024.size inb_S2048x1024_S2048x1024_0_0) (Finset.subset_univ _) v (fun i _ => ?_) Q
  · have h : (mO.access (Rect.unit (s := S2048x1024) ![0, 0] S2048x1024.size inb_S2048x1024_S2048x1024_0_0)).emb i = i := emb_whole2 _ i
    conv => lhs; rw [← h]
    rw [View.write_emb_of_mem _ _ (Finset.mem_univ i)]; rfl

/-! ## Where the accesses lie -/

theorem mem_aYb {p : Fin 2} {i : S2x8x64x1024.Idx} : i ∈ (mYb.access (rYb p)).set ↔ (i 0 : Fin 2) = p := by
  refine (Finset.ext_iff.mp (View.set_slice_whole _ _) i).trans (Rect.mem_set_unit.trans ?_)
  constructor
  · intro h; exact Fin.ext (of1 (h 0))
  · rintro rfl a
    match a with
    | 0 => exact at1 (i 0).val
    | 1 => exact at0 (i 1).isLt
    | 2 => exact at0 (i 2).isLt
    | 3 => exact at0 (i 3).isLt
theorem mem_aYr {e : Fin 8} {i : S8x8x64x1024.Idx} : i ∈ (mYr.access (rXc e)).set ↔ (i 1 : Fin 8) = e := by
  refine (Finset.ext_iff.mp (View.set_slice_whole _ _) i).trans (Rect.mem_set_unit.trans ?_)
  constructor
  · intro h; exact Fin.ext (of1 (h 1))
  · rintro rfl a
    match a with
    | 0 => exact at0 (i 0).isLt
    | 1 => exact at1 (i 1).val
    | 2 => exact at0 (i 2).isLt
    | 3 => exact at0 (i 3).isLt

theorem mem_vEw {k : Fin 8} {i : S8x1024x1024.Idx} : i ∈ (vEw k).view.set ↔ (i 0 : Fin 8) = k := by
  have e : (vEw k).view.set = (rEw k).set := (View.set_reshape _ _).trans (View.set_slice_whole _ _)
  refine (Finset.ext_iff.mp e i).trans (Rect.mem_set_unit.trans ?_)
  constructor
  · intro h; exact Fin.ext (of1 (h 0))
  · rintro rfl a
    match a with
    | 0 => exact at1 (i 0).val
    | 1 => exact at0 (i 1).isLt
    | 2 => exact at0 (i 2).isLt

abbrev half_set (p : Fin 2) : Finset S2x8x64x1024.Idx := (mYb.access (rYb p)).set
abbrev col_set (e : Fin 8) : Finset S8x8x64x1024.Idx := (mYr.access (rXc e)).set

/-- Half `p` of the results' buffer, and column `e` of the returned results. -/
abbrev hYb' (c : Dev nD) (p : Fin 2) (f : Vec F S2x8x64x1024 .bf16) : sProp 𝕄 := mYb.view.loc (c : Thread nD τ) ↦[half_set p]{fullShare} f
abbrev cYr (c : Dev nD) (e : Fin 8) (f : Vec F S8x8x64x1024 .bf16) : sProp 𝕄 := mYr.view.loc (c : Thread nD τ) ↦[col_set e]{fullShare} f

theorem Xr_parts (f : Vec F S8x8x64x1024 .bf16) : (wh c mXr f : sProp 𝕄) = bigSep Finset.univ fun k => pv c (vXr k) f :=
  parts_eq (ℓ := mXr.view.loc (c : Thread nD τ)) _ (fun k => (vXr k).view.set) (fun i => ⟨fun _ => ⟨(i : S8x8x64x1024.Idx) 0, mem_vXr.2 rfl⟩, fun _ => Finset.mem_univ _⟩)
    (fun t t' i h h' => (mem_vXr.1 h).symm.trans (mem_vXr.1 h')) _ f
theorem Sb_parts (f : Vec F S4x8x64x1024 .bf16) : (wh c mSb f : sProp 𝕄) = bigSep Finset.univ fun k => pv c (vSb k) f :=
  parts_eq (ℓ := mSb.view.loc (c : Thread nD τ)) _ (fun k => (vSb k).view.set) (fun i => ⟨fun _ => ⟨(i : S4x8x64x1024.Idx) 0, mem_vSb.2 rfl⟩, fun _ => Finset.mem_univ _⟩)
    (fun t t' i h h' => (mem_vSb.1 h).symm.trans (mem_vSb.1 h')) _ f
theorem We_parts (f : Vec F S2x1024x1024 .f32) : (wh c mWe f : sProp 𝕄) = bigSep Finset.univ fun k => pv c (vWe k) f :=
  parts_eq (ℓ := mWe.view.loc (c : Thread nD τ)) _ (fun k => (vWe k).view.set) (fun i => ⟨fun _ => ⟨(i : S2x1024x1024.Idx) 0, mem_vWe.2 rfl⟩, fun _ => Finset.mem_univ _⟩)
    (fun t t' i h h' => (mem_vWe.1 h).symm.trans (mem_vWe.1 h')) _ f
theorem Ew_parts (f : Vec F S8x1024x1024 .f32) : (wh c mEw f : sProp 𝕄) = bigSep Finset.univ fun k => pv c (vEw k) f :=
  parts_eq (ℓ := mEw.view.loc (c : Thread nD τ)) _ (fun k => (vEw k).view.set) (fun i => ⟨fun _ => ⟨(i : S8x1024x1024.Idx) 0, mem_vEw.2 rfl⟩, fun _ => Finset.mem_univ _⟩)
    (fun t t' i h h' => (mem_vEw.1 h).symm.trans (mem_vEw.1 h')) _ f
theorem Yb_halves (f : Vec F S2x8x64x1024 .bf16) : (wh c mYb f : sProp 𝕄) = bigSep Finset.univ fun p => hYb' c p f :=
  parts_eq (ℓ := mYb.view.loc (c : Thread nD τ)) _ half_set (fun i => ⟨fun _ => ⟨(i : S2x8x64x1024.Idx) 0, mem_aYb.2 rfl⟩, fun _ => Finset.mem_univ _⟩)
    (fun t t' i h h' => (mem_aYb.1 h).symm.trans (mem_aYb.1 h')) _ f
theorem Yr_cols (f : Vec F S8x8x64x1024 .bf16) : (wh c mYr f : sProp 𝕄) = bigSep Finset.univ fun e => cYr c e f :=
  parts_eq (ℓ := mYr.view.loc (c : Thread nD τ)) _ col_set (fun i => ⟨fun _ => ⟨(i : S8x8x64x1024.Idx) 1, mem_aYr.2 rfl⟩, fun _ => Finset.mem_univ _⟩)
    (fun t t' i h h' => (mem_aYr.1 h).symm.trans (mem_aYr.1 h')) _ f

theorem half_iff (p : Fin 2) (i : S2x8x64x1024.Idx) : i ∈ half_set p ↔ ∃ k, i ∈ (vYb p k).view.set :=
  ⟨fun h => ⟨(i 1 : Fin 8), mem_vYb.2 (Prod.ext (mem_aYb.1 h) rfl)⟩, fun ⟨k, h⟩ => mem_aYb.2 (Prod.mk.inj (mem_vYb.1 h)).1⟩
theorem half_dis (p : Fin 2) (k k' : Fin 8) (i : S2x8x64x1024.Idx) (h : i ∈ (vYb p k).view.set) (h' : i ∈ (vYb p k').view.set) : k = k' :=
  (Prod.mk.inj (mem_vYb.1 h)).2.symm.trans (Prod.mk.inj (mem_vYb.1 h')).2
theorem col_iff (e : Fin 8) (i : S8x8x64x1024.Idx) : i ∈ col_set e ↔ ∃ k, i ∈ (vYr k e).view.set :=
  ⟨fun h => ⟨(i 0 : Fin 8), mem_vYr.2 (Prod.ext rfl (mem_aYr.1 h))⟩, fun ⟨k, h⟩ => mem_aYr.2 (Prod.mk.inj (mem_vYr.1 h)).2⟩
theorem col_dis (e : Fin 8) (k k' : Fin 8) (i : S8x8x64x1024.Idx) (h : i ∈ (vYr k e).view.set) (h' : i ∈ (vYr k' e).view.set) : k = k' :=
  (Prod.mk.inj (mem_vYr.1 h)).1.symm.trans (Prod.mk.inj (mem_vYr.1 h')).1

theorem half_parts (p : Fin 2) (f : Vec F S2x8x64x1024 .bf16) : (hYb' c p f : sProp 𝕄) = bigSep Finset.univ fun k => pv c (vYb p k) f :=
  parts_eq (ℓ := mYb.view.loc (c : Thread nD τ)) _ (fun k => (vYb p k).view.set) (half_iff p) (half_dis p) _ f
theorem col_parts (e : Fin 8) (f : Vec F S8x8x64x1024 .bf16) : (cYr c e f : sProp 𝕄) = bigSep Finset.univ fun k => pv c (vYr k e) f :=
  parts_eq (ℓ := mYr.view.loc (c : Thread nD τ)) _ (fun k => (vYr k e).view.set) (col_iff e) (col_dis e) _ f

variable [∀ e, Nonempty (Elt F e)]

theorem half_join (p : Fin 2) : (bigSep Finset.univ fun k => pa c (vYb p k)) ⊢ (iprop(∃ f, hYb' c p f) : sProp 𝕄) :=
  parts_join (ℓ := mYb.view.loc (c : Thread nD τ)) _ (fun k => (vYb p k).view.set) (half_iff p) (half_dis p)
theorem Sb_join : (bigSep Finset.univ fun k => pa c (vSb k)) ⊢ (iprop(∃ f, wh c mSb f) : sProp 𝕄) :=
  parts_join (ℓ := mSb.view.loc (c : Thread nD τ)) _ (fun k => (vSb k).view.set) (fun i => ⟨fun _ => ⟨(i : S4x8x64x1024.Idx) 0, mem_vSb.2 rfl⟩, fun _ => Finset.mem_univ _⟩)
    (fun t t' i h h' => (mem_vSb.1 h).symm.trans (mem_vSb.1 h'))
theorem We_join : (bigSep Finset.univ fun k => pa c (vWe k)) ⊢ (iprop(∃ f, wh c mWe f) : sProp 𝕄) :=
  parts_join (ℓ := mWe.view.loc (c : Thread nD τ)) _ (fun k => (vWe k).view.set) (fun i => ⟨fun _ => ⟨(i : S2x1024x1024.Idx) 0, mem_vWe.2 rfl⟩, fun _ => Finset.mem_univ _⟩)
    (fun t t' i h h' => (mem_vWe.1 h).symm.trans (mem_vWe.1 h'))
theorem Yb_join : (bigSep Finset.univ fun p => iprop(∃ f, hYb' c p f)) ⊢ (iprop(∃ f, wh c mYb f) : sProp 𝕄) :=
  parts_join (ℓ := mYb.view.loc (c : Thread nD τ)) _ half_set (fun i => ⟨fun _ => ⟨(i : S2x8x64x1024.Idx) 0, mem_aYb.2 rfl⟩, fun _ => Finset.mem_univ _⟩)
    (fun t t' i h h' => (mem_aYb.1 h).symm.trans (mem_aYb.1 h'))

end Cert.KernelIdeal.Moe

end
-- ==== Proof.Stage.lean ====
/- The stages of the body, each with what it takes and what it gives. -/
module

public import proofs.«01_k».proof.Proof.Parts

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Inp F) (K : GSem nD τ sig → ℕ) (c : Dev nD)

theorem wp_seq {A B : Type} (p : PG F A) (k : A → PG F B) (Q : B → sProp 𝕄) : WP c p (fun x => WP c (k x) Q) ⊢ WP c (p >>= k) Q := by
  rw [WP, WP, wp_bind]

/-! ## Loads and stores of parts -/

theorem set_aSb (p : Fin 4) : (mSb.access (rSb p)).set ⊆ (vSb p).view.set := by rw [show (vSb p).view.set = (mSb.access (rSb p)).set from View.set_reshape _ _]
theorem set_aXs (k : Fin 8) : (mXr.access (rXs k)).set ⊆ (vXr k).view.set := by rw [show (vXr k).view.set = (mXr.access (rXs k)).set from View.set_reshape _ _]
theorem set_aWe (p : Fin 2) : (mWe.access (rWe p)).set ⊆ (vWe p).view.set := by rw [show (vWe p).view.set = (mWe.access (rWe p)).set from View.set_reshape _ _]
theorem set_aYr (k e : Fin 8) : (mYr.access (rYr k e)).set ⊆ (vYr k e).view.set := by rw [show (vYr k e).view.set = (mYr.access (rYr k e)).set from View.set_reshape _ _]

theorem load_Sb (p : Fin 4) (f : Vec F S4x8x64x1024 .bf16) (Q : Vec F S1x8x64x1024 .bf16 → sProp 𝕄) :
    iprop(pv c (vSb p) f ∗ (pv c (vSb p) f -∗ Q ((mSb.access (rSb p)).read (Elt F) f))) ⊢ WP c (loadSb p) Q :=
  load_step c (M := mSb) (r := rSb p) (set_aSb p) _ rfl Q
theorem store_Sb (p : Fin 4) (k : Fin 8) (f : Vec F S4x8x64x1024 .bf16) (Q : PUnit → sProp 𝕄) :
    iprop(pv c (vSb p) f ∗ (pv c (vSb p) (SB I c k) -∗ Q ⟨⟩)) ⊢ WP c (storeSb p (sent I c k)) Q :=
  store_step c (M := mSb) (r := rSb p) (set_aSb p) (SB I c k) (store_SB I c k p f) Q
theorem load_Xs (f : Vec F S8x8x64x1024 .bf16) (Q : Vec F S1x8x64x1024 .bf16 → sProp 𝕄) :
    iprop(pv c (vXr 0) f ∗ (pv c (vXr 0) f -∗ Q ((mXr.access (rXs 0)).read (Elt F) f))) ⊢ WP c (loadXs 0) Q :=
  load_step c (M := mXr) (r := rXs 0) (set_aXs 0) _ rfl Q
theorem store_Xs (f : Vec F S8x8x64x1024 .bf16) (Q : PUnit → sProp 𝕄) :
    iprop(pv c (vXr 0) f ∗ (pv c (vXr 0) (XR I c) -∗ Q ⟨⟩)) ⊢ WP c (storeXs 0 (sent I c 0)) Q :=
  store_step c (M := mXr) (r := rXs 0) (set_aXs 0) (XR I c) (store_XR I c f) Q
theorem load_Xc (e : Fin 8) (Q : Vec F S8x1x64x1024 .bf16 → sProp 𝕄) :
    iprop(wh c mXr (XR I c) ∗ (wh c mXr (XR I c) -∗ Q (XC I c e))) ⊢ WP c (loadXc e) Q :=
  load_step c (M := mXr) (r := rXc e) (Finset.subset_univ _) _ (read_XC I c e) Q
theorem load_We (e : Fin 8) (Q : Vec F S1x1024x1024 .f32 → sProp 𝕄) :
    iprop(pv c (vWe (half e)) (WE I c e) ∗ (pv c (vWe (half e)) (WE I c e) -∗ Q (WV I c e))) ⊢ WP c (loadWe (half e)) Q :=
  load_step c (M := mWe) (r := rWe (half e)) (set_aWe (half e)) _ (read_WV I c (half e) e) Q
theorem load_Yr (e : Fin 8) (f : Vec F S8x8x64x1024 .bf16) (Q : Vec F S1x1x64x1024 .bf16 → sProp 𝕄) :
    iprop(pv c (vYr 0 e) f ∗ (pv c (vYr 0 e) f -∗ Q ((mYr.access (rYr 0 e)).read (Elt F) f))) ⊢ WP c (loadYr 0 e) Q :=
  load_step c (M := mYr) (r := rYr 0 e) (set_aYr 0 e) _ rfl Q
theorem store_Yr (e : Fin 8) (f : Vec F S8x8x64x1024 .bf16) (Q : PUnit → sProp 𝕄) :
    iprop(pv c (vYr 0 e) f ∗ (pv c (vYr 0 e) (YR I c) -∗ Q ⟨⟩)) ⊢ WP c (storeYr 0 e (ownP (XC I c e) (WV I c e))) Q :=
  store_step c (M := mYr) (r := rYr 0 e) (set_aYr 0 e) (YR I c) (store_YR I c e f) Q
theorem load_Yb (p : Fin 2) (f : Vec F S2x8x64x1024 .bf16) (Q : Vec F S1x8x64x1024 .bf16 → sProp 𝕄) :
    iprop(hYb' c p f ∗ (hYb' c p f -∗ Q ((mYb.access (rYb p)).read (Elt F) f))) ⊢ WP c (loadYb p) Q :=
  load_step c (M := mYb) (r := rYb p) (Finset.Subset.refl _) _ rfl Q
theorem store_Yb (p : Fin 2) (e : Fin 8) (f : Vec F S2x8x64x1024 .bf16) (Q : PUnit → sProp 𝕄) :
    iprop(hYb' c p f ∗ (hYb' c p (YB I c e) -∗ Q ⟨⟩)) ⊢ WP c (storeYb p (made I c e)) Q :=
  store_step c (M := mYb) (r := rYb p) (Finset.Subset.refl _) (YB I c e) (store_YB I c e p f) Q
theorem load_Yc (e : Fin 8) (Q : Vec F S8x1x64x1024 .bf16 → sProp 𝕄) :
    iprop(cYr c e (YR I c) ∗ (cYr c e (YR I c) -∗ Q (YC I c e))) ⊢ WP c (loadYc e) Q :=
  load_step c (M := mYr) (r := rXc e) (Finset.Subset.refl _) _ (read_YC I c e) Q

/-! ## Dispatch -/

theorem gather_S (k : Fin 8) (Q : PUnit → sProp 𝕄) :
    iprop(wh c mX (I c).x ∗ pa c (vSb (sendAt k)) ∗ (wh c mX (I c).x ∗ pv c (vSb (sendAt k)) (SB I c k) -∗ Q ⟨⟩))
      ⊢ WP c (gatherS (I c).sr (I c).p k) Q := by
  show _ ⊢ WP c (loadX >>= fun x => loadSb (sendAt k) >>= fun _ => storeSb (sendAt k) (gatherP k (I c).sr (I c).p x)) Q
  iintro ⟨HX, ⟨%f, HS⟩, H⟩
  iapply (wp_seq c)
  iapply (load_X c _ (I c).x)
  isplitl [HX]; · iexact HX
  iintro HX
  iapply (wp_seq c)
  iapply (load_Sb c (sendAt k) f)
  isplitl [HS]; · iexact HS
  iintro HS
  iapply (store_Sb I c (sendAt k) k f)
  isplitl [HS]; · iexact HS
  iintro HS
  iapply H
  isplitl [HX]; · iexact HX
  iexact HS

/-- What sending the tokens of slot `k` needs. -/
def SendXPre (k : Fin 8) : sProp 𝕄 := iprop(slotX (up c k) k ∗ tok c (.inr (oSX k)) 0 ∗ tok (up c k) (.inr (oRX k)) 0)

/-- The state of the dispatch: what is still owed, and the tokens. -/
def DS (l rest : List Due) : sProp 𝕄 := iprop(OW c (l ++ rest) ∗ wh c mX (I c).x)

theorem gather_send (k : Fin 8) (hk : k ≠ 0) (l : List Due) (Q : PUnit → sProp 𝕄) :
    iprop(Cx I K c ∗ (OW c (dueX c k :: l) ∗ wh c mX (I c).x) ∗ (pa c (vSb (sendAt k)) ∗ SendXPre c k)
      ∗ ((OW c l ∗ wh c mX (I c).x) ∗ cr c (.inr (oSX k)) NX -∗ Q ⟨⟩))
    ⊢ WP c (gatherS (I c).sr (I c).p k >>= fun _ => sendX c k) Q := by
  unfold SendXPre
  iintro ⟨#HC, ⟨HO, HX⟩, ⟨HS, HP⟩, H⟩
  iapply (wp_seq c)
  iapply (gather_S I c k)
  isplitl [HX]; · iexact HX
  isplitl [HS]; · iexact HS
  iintro ⟨HX, HS⟩
  iapply (send_X I K c k hk l)
  isplitr; · iexact HC
  isplitl [HO]; · iexact HO
  isplitl [HS HP]
  · isplitl [HS]; · iexact HS
    iexact HP
  iintro ⟨HO, Hc⟩
  iapply H
  isplitr [Hc]
  · isplitl [HO]; · iexact HO
    iexact HX
  · iexact Hc

theorem dispatch_A (rest : List Due) (Q : PUnit → sProp 𝕄) (ks : List (Fin 8)) (hks : ∀ k ∈ ks, k ≠ 0) :
    iprop(Cx I K c ∗ (OW c (ks.map (dueX c) ++ rest) ∗ wh c mX (I c).x) ∗ (bigSepL ks fun k => iprop(pa c (vSb (sendAt k)) ∗ SendXPre c k))
      ∗ ((OW c rest ∗ wh c mX (I c).x) ∗ (bigSepL ks fun k => cr c (.inr (oSX k)) NX) -∗ Q ⟨⟩))
    ⊢ WP c (steps (ks.map (dispatchA c (I c).sr (I c).p))) Q :=
  steps_wp c (dispatchA c (I c).sr (I c).p) (Cx I K c) (fun t => iprop(OW c (t.map (dueX c) ++ rest) ∗ wh c mX (I c).x)) (fun k => k ≠ 0) _ _
    (fun k t Q hk => gather_send I K c k hk (t.map (dueX c) ++ rest) Q) ks Q hks

theorem dispatch_B (rest : List Due) (hr : above 0 rest) (Q : PUnit → sProp 𝕄) (ks : List (Fin 8))
    (hks : ∀ k ∈ ks, k ≠ 0 ∧ k - 4 ≠ 0 ∧ sendAt (k - 4) = sendAt k) :
    iprop(Cx I K c ∗ (OW c (ks.map (dueX c) ++ rest) ∗ wh c mX (I c).x)
      ∗ (bigSepL ks fun k => iprop((cr c (.inr (oSX (k - 4))) NX ∗ pos c (.inr (oSX (k - 4))) 0) ∗ SendXPre c k))
      ∗ ((OW c rest ∗ wh c mX (I c).x) ∗ (bigSepL ks fun k => iprop(cr c (.inr (oSX k)) NX ∗ pos c (.inr (oSX (k - 4))) 1)) -∗ Q ⟨⟩))
    ⊢ WP c (steps (ks.map (dispatchB c (I c).sr (I c).p))) Q := by
  refine steps_wp c (dispatchB c (I c).sr (I c).p) (Cx I K c) (fun t => iprop(OW c (t.map (dueX c) ++ rest) ∗ wh c mX (I c).x))
    (fun k => k ≠ 0 ∧ k - 4 ≠ 0 ∧ sendAt (k - 4) = sendAt k) _ _ (fun k t Q hk => ?_) ks Q hks
  obtain ⟨hk, hk4, hs⟩ := hk
  show iprop(Cx I K c ∗ (OW c (dueX c k :: (t.map (dueX c) ++ rest)) ∗ wh c mX (I c).x) ∗ _) ⊢
    WP c (waitSX (k - 4) >>= fun _ => (gatherS (I c).sr (I c).p k >>= fun _ => sendX c k)) Q
  iintro ⟨#HC, ⟨HO, HX⟩, ⟨Hw, HP⟩, H⟩
  iapply (wp_seq c)
  iapply (wait_SX I K c (k - 4) hk4 (dueX c k :: (t.map (dueX c) ++ rest))
    (above_append (l := (k :: t).map (dueX c)) (above_mono (Nat.zero_le 1) (above_X c (k :: t))) hr))
  isplitr; · iexact HC
  isplitl [HO]; · iexact HO
  isplitl [Hw]; · iexact Hw
  iintro ⟨HO, Hp, HS⟩
  rw [hs]
  iapply (gather_send I K c k hk (t.map (dueX c) ++ rest))
  isplitr; · iexact HC
  isplitl [HO HX]
  · isplitl [HO]; · iexact HO
    iexact HX
  isplitl [HS HP]
  · isplitl [HS]; · iexact HS
    iexact HP
  iintro ⟨HR, Hc⟩
  iapply H
  isplitl [HR]; · iexact HR
  isplitl [Hc]; · iexact Hc
  iexact Hp

/-- The own slot and the shared expert. -/
theorem own_S (Q : PUnit → sProp 𝕄) :
    iprop((wh c mX (I c).x ∗ pa c (vXr 0) ∗ wh c mSw (I c).sw ∗ (∃ f, wh c mO f))
      ∗ (wh c mX (I c).x ∗ pv c (vXr 0) (XR I c) ∗ wh c mSw (I c).sw ∗ wh c mO (OUT I c 0) -∗ Q ⟨⟩))
    ⊢ WP c (ownS (I c).sr (I c).p) Q := by
  show _ ⊢ WP c (loadX >>= fun x => loadXs 0 >>= fun _ => storeXs 0 (gatherP 0 (I c).sr (I c).p x) >>= fun _ => loadX >>= fun x' =>
    loadSw >>= fun sw => loadO >>= fun _ => storeO (k0_pay13 x' sw)) Q
  iintro ⟨⟨HX, ⟨%f, HR⟩, HW, ⟨%g, HO⟩⟩, H⟩
  iapply (wp_seq c)
  iapply (load_X c _ (I c).x)
  isplitl [HX]; · iexact HX
  iintro HX
  iapply (wp_seq c)
  iapply (load_Xs c f)
  isplitl [HR]; · iexact HR
  iintro HR
  iapply (wp_seq c)
  iapply (store_Xs I c f)
  isplitl [HR]; · iexact HR
  iintro HR
  iapply (wp_seq c)
  iapply (load_X c _ (I c).x)
  isplitl [HX]; · iexact HX
  iintro HX
  iapply (wp_seq c)
  iapply (load_Sw c _ (I c).sw)
  isplitl [HW]; · iexact HW
  iintro HW
  iapply (wp_seq c)
  iapply (load_O c _ g)
  isplitl [HO]; · iexact HO
  iintro HO
  iapply (store_O c _ g)
  isplitl [HO]; · iexact HO
  iintro HO
  iapply H
  isplitl [HX]; · iexact HX
  isplitl [HR]; · iexact HR
  isplitl [HW]; · iexact HW
  iexact HO

/-- The tokens of the seven others. -/
theorem wait_RXs (l : List Due) (hl : above 2 l) (Q : PUnit → sProp 𝕄) :
    iprop(Cx I K c ∗ OW c l ∗ (bigSepL others fun k => iprop(cr c (.inr (oRX k)) NX ∗ pos c (.inr (oRX k)) 0))
      ∗ (OW c l ∗ (bigSepL others fun k => iprop(pos c (.inr (oRX k)) 1 ∗ pv c (vXr k) (XR I c))) -∗ Q ⟨⟩))
    ⊢ WP c (steps (others.map waitRX)) Q :=
  steps_wp c waitRX (Cx I K c) (fun _ => OW c l) (fun k => k ≠ 0) _ _
    (fun k t Q hk => wait_RX I K c k hk l hl Q) others Q (by decide)

theorem wait_SXs (l : List Due) (hl : above 0 l) (Q : PUnit → sProp 𝕄) (ks : List (Fin 8)) (hks : ∀ k ∈ ks, k ≠ 0) :
    iprop(Cx I K c ∗ OW c l ∗ (bigSepL ks fun k => iprop(cr c (.inr (oSX k)) NX ∗ pos c (.inr (oSX k)) 0))
      ∗ (OW c l ∗ (bigSepL ks fun k => iprop(pos c (.inr (oSX k)) 1 ∗ pa c (vSb (sendAt k)))) -∗ Q ⟨⟩))
    ⊢ WP c (steps (ks.map waitSX)) Q :=
  steps_wp c waitSX (Cx I K c) (fun _ => OW c l) (fun k => k ≠ 0) _ _
    (fun k t Q hk => wait_SX I K c k hk l hl Q) ks Q hks

end Cert.KernelIdeal.Moe

end
-- ==== Proof.Experts.lean ====
/- The experts: applying one, adding its results in, and the loop over them. -/
module

public import proofs.«01_k».proof.Proof.Stage

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Inp F) (K : GSem nD τ sig → ℕ) (c : Dev nD)

/-- A half of the results' buffer: free at round `r`, and with round `r`'s copies under way. -/
def YF (p : Fin 2) (r : ℕ) : sProp 𝕄 :=
  iprop((∃ f, hYb' c p f) ∗ bigSepL others fun k => iprop(pos c (.inr (oSY p k)) r ∗ reached ER (cell c (.inr (oSY p k))) r))
def YQ (p : Fin 2) (r : ℕ) : sProp 𝕄 :=
  iprop(pa c (vYb p 0) ∗ bigSepL others fun k => iprop(cr c (.inr (oSY p k)) NY ∗ pos c (.inr (oSY p k)) r))
/-- What applying expert `e` needs of its own, adding its results in, and fetching its weights. -/
def PA (e : Fin 8) : sProp 𝕄 := iprop(pa c (vYr 0 e) ∗ bigSepL others (SendYPre c e))
def PC (e : Fin 8) : sProp 𝕄 := bigSepL others fun k => iprop(cr c (.inr (oRY k e)) NY ∗ pos c (.inr (oRY k e)) 0)
def PW (e : Fin 8) : sProp 𝕄 := iprop(tok c (.inr (oW (half e))) (rd e) ∗ pv c (vEw e) (I c).ew)
/-- What is left of expert `e`'s column. -/
def DC (e : Fin 8) : sProp 𝕄 := iprop(cYr c e (YR I c) ∗ bigSepL others fun k => pos c (.inr (oRY k e)) 1)

theorem all8_cons {Φ : Fin 8 → sProp 𝕄} : (bigSep Finset.univ Φ : sProp 𝕄) = iprop(Φ 0 ∗ bigSepL others Φ) :=
  (bigSep_eq_bigSepL_of_eq all8 (by decide) (by decide) Φ).trans (bigSepL_cons' ..)

theorem wait_SYs [∀ e, Nonempty (Elt F e)] (e : Fin 8) (l : List Due) (hl : above 0 l) (Q : PUnit → sProp 𝕄) :
    iprop(Cx I K c ∗ OW c l ∗ YQ c (half e) (rd e) ∗ (OW c l ∗ YF c (half e) (rd e + 1) -∗ Q ⟨⟩)) ⊢ WP c (steps (others.map (waitSY e))) Q := by
  unfold YQ YF
  iintro ⟨#HC, HO, ⟨HS, HP⟩, H⟩
  iapply (steps_wp c (waitSY e) (Cx I K c) (fun _ => OW c l) (fun k => k ≠ 0) _ _
    (fun k t Q hk => wait_SY I K c e k hk l hl Q) others Q (by decide))
  isplitr; · iexact HC
  isplitl [HO]; · iexact HO
  isplitl [HP]; · iexact HP
  iintro ⟨HO, HP⟩
  ihave HP := (bigSepL_sep_out others (fun k => iprop(pos c (.inr (oSY (half e) k)) (rd e + 1) ∗ reached ER (cell c (.inr (oSY (half e) k))) (rd e + 1)))
    fun k => pa c (vYb (half e) k)) $$ HP
  icases HP with ⟨HP, HB⟩
  iapply H
  isplitl [HO]; · iexact HO
  isplitr [HP]
  · iapply (half_join c (half e))
    rw [all8_cons]
    isplitl [HS]; · iexact HS
    iexact HB
  · iexact HP

theorem apply_E (e : Fin 8) (rest : List Due) (Q : PUnit → sProp 𝕄) :
    iprop(Cx I K c ∗ OW c (others.map (dueY c e) ++ rest) ∗ (WL I c e ∗ YF c (half e) (rd e) ∗ PA c e ∗ wh c mXr (XR I c))
      ∗ (OW c rest ∗ (WF c (half e) (rd e + 1) ∗ YQ c (half e) (rd e) ∗ pv c (vYr 0 e) (YR I c) ∗ wh c mXr (XR I c)) -∗ Q ⟨⟩))
    ⊢ WP c (applyE c e) Q := by
  show _ ⊢ WP c (loadXc e >>= fun xc => loadWe (half e) >>= fun we => loadYr 0 e >>= fun _ => storeYr 0 e (ownP xc we) >>= fun _ =>
    loadYb (half e) >>= fun _ => storeYb (half e) (sendP xc we) >>= fun _ => steps (others.map (sendY c e))) Q
  unfold WL YF PA WF YQ
  iintro ⟨#HC, HO, ⟨⟨HW, HWp, #HWr⟩, ⟨⟨%f, HB⟩, HP⟩, ⟨⟨%g, HY⟩, HS⟩, HX⟩, H⟩
  iapply (wp_seq c)
  iapply (load_Xc I c e)
  isplitl [HX]; · iexact HX
  iintro HX
  iapply (wp_seq c)
  iapply (load_We I c e)
  isplitl [HW]; · iexact HW
  iintro HW
  iapply (wp_seq c)
  iapply (load_Yr c e g)
  isplitl [HY]; · iexact HY
  iintro HY
  iapply (wp_seq c)
  iapply (store_Yr I c e g)
  isplitl [HY]; · iexact HY
  iintro HY
  iapply (wp_seq c)
  iapply (load_Yb c (half e) f)
  isplitl [HB]; · iexact HB
  iintro HB
  iapply (wp_seq c)
  iapply (store_Yb I c (half e) e f)
  isplitl [HB]; · iexact HB
  iintro HB
  ihave HB := (Entails.of_eq ((half_parts c (half e) (YB I c e)).trans all8_cons)) $$ HB
  icases HB with ⟨HB0, HB⟩
  ihave HP := (bigSepL_sep_out others (fun k => pos c (.inr (oSY (half e) k)) (rd e)) fun k => reached ER (cell c (.inr (oSY (half e) k))) (rd e)) $$ HP
  icases HP with ⟨HP, HR⟩
  ihave HS := (bigSepL_sep_in others (fun k => reached ER (cell c (.inr (oSY (half e) k))) (rd e)) (SendYPre c e)) $$ [HR HS]
  · isplitl [HR]; · iexact HR
    iexact HS
  ihave HS := (bigSepL_sep_in others (fun k => pv c (vYb (half e) k) (YB I c e))
    fun k => iprop(reached ER (cell c (.inr (oSY (half e) k))) (rd e) ∗ SendYPre c e k)) $$ [HB HS]
  · isplitl [HB]; · iexact HB
    iexact HS
  iapply (steps_wp c (sendY c e) (Cx I K c) (fun t => OW c (t.map (dueY c e) ++ rest)) (fun k => k ≠ 0) _ _
    (fun k t Q hk => send_Y I K c e k hk (t.map (dueY c e) ++ rest) Q) others _ (by decide))
  isplitr; · iexact HC
  isplitl [HO]; · iexact HO
  isplitl [HS]; · iexact HS
  iintro ⟨HO, Hc⟩
  iapply H
  isplitl [HO]; · iexact HO
  isplitl [HW HWp]
  · isplitl [HW]; · iexists _; iexact HW
    isplitl [HWp]; · iexact HWp
    iexact HWr
  isplitl [HB0 HP Hc]
  · isplitl [HB0]; · iexists _; iexact HB0
    iapply (bigSepL_sep_in others (fun k => cr c (.inr (oSY (half e) k)) NY) fun k => pos c (.inr (oSY (half e) k)) (rd e))
    isplitl [Hc]; · iexact Hc
    iexact HP
  isplitl [HY]; · iexact HY
  iexact HX

theorem ofNat_val8 : ∀ e : Fin 8, Fin.ofNat 8 e.val = e := by decide

theorem OUT_succ (e : Fin 8) : OUT I c (e.val + 1) = combineP e (k0_pay14 (I c).sc) (YC I c e) (OUT I c e.val) := by
  show combineP (Fin.ofNat 8 e.val) _ (YC I c (Fin.ofNat 8 e.val)) _ = _
  rw [ofNat_val8]

theorem combine_S (e : Fin 8) (l : List Due) (hl : above (3 + e.val) l) (Q : PUnit → sProp 𝕄) :
    iprop(Cx I K c ∗ OW c l ∗ (pv c (vYr 0 e) (YR I c) ∗ PC c e ∗ wh c mO (OUT I c e.val))
      ∗ (OW c l ∗ (DC I c e ∗ wh c mO (OUT I c (e.val + 1))) -∗ Q ⟨⟩)) ⊢ WP c (combineS (I c).sc e) Q := by
  show _ ⊢ WP c (steps (others.map (waitRY e)) >>= fun _ => loadYc e >>= fun yc => loadO >>= fun o => loadO >>= fun _ =>
    storeO (combineP e (k0_pay14 (I c).sc) yc o)) Q
  unfold PC DC
  iintro ⟨#HC, HO, ⟨HY, HP, HB⟩, H⟩
  iapply (wp_seq c)
  iapply (steps_wp c (waitRY e) (Cx I K c) (fun _ => OW c l) (fun k => k ≠ 0) _ _
    (fun k t Q hk => wait_RY I K c e k hk l hl Q) others _ (by decide))
  isplitr; · iexact HC
  isplitl [HO]; · iexact HO
  isplitl [HP]; · iexact HP
  iintro ⟨HO, HP⟩
  ihave HP := (bigSepL_sep_out others (fun k => pos c (.inr (oRY k e)) 1) fun k => pv c (vYr k e) (YR I c)) $$ HP
  icases HP with ⟨HP, HYs⟩
  ihave HY := (Entails.of_eq ((col_parts c e (YR I c)).trans all8_cons).symm) $$ [HY HYs]
  · isplitl [HY]; · iexact HY
    iexact HYs
  iapply (wp_seq c)
  iapply (load_Yc I c e)
  isplitl [HY]; · iexact HY
  iintro HY
  iapply (wp_seq c)
  iapply (load_O c _ (OUT I c e.val))
  isplitl [HB]; · iexact HB
  iintro HB
  iapply (wp_seq c)
  iapply (load_O c _ (OUT I c e.val))
  isplitl [HB]; · iexact HB
  iintro HB
  iapply (store_O c _ (OUT I c e.val))
  isplitl [HB]; · iexact HB
  iintro HB
  rw [← OUT_succ]
  iapply H
  isplitl [HO]; · iexact HO
  isplitr [HB]
  · isplitl [HY]; · iexact HY
    iexact HP
  · iexact HB

/-! ## The loop -/

/-- The state before expert `e`'s turn. -/
def St (e : Fin 8) : sProp 𝕄 :=
  iprop(OW c (dueYs c (all8.drop e.val)) ∗ WQ c (half e) (rd e) ∗ WF c (half (e + 1)) (rd (e - 1) + 1) ∗ YQ c (half (e - 2)) (rd (e - 2))
    ∗ YQ c (half (e - 1)) (rd (e - 1)) ∗ pv c (vYr 0 (e - 1)) (YR I c) ∗ wh c mO (OUT I c (e - 1).val) ∗ wh c mXr (XR I c))

/-- What an expert's turn takes and gives. -/
def TPre (e : Fin 8) : sProp 𝕄 := iprop(PA c e ∗ PC c (e - 1) ∗ PW I c (e + 1))
def TPost (e : Fin 8) : sProp 𝕄 := iprop(DC I c (e - 1) ∗ pv c (vEw e) (I c).ew)

/-- What the turns use of their expert's number. -/
def turn (e e' : Fin 8) : Prop :=
  e' = e + 1 ∧ half (e - 2) = half e ∧ rd (e - 2) + 1 = rd e ∧ half (e + 1 + 1) = half e ∧ rd (e - 1) + 1 = rd (e + 1)
    ∧ all8.drop e.val = e :: all8.drop (e + 1).val ∧ (∀ x ∈ all8.drop (e + 1).val, 3 + (e - 1).val < 3 + x.val)
    ∧ (e - 1).val + 1 = e.val ∧ e + 1 - 1 = e ∧ e + 1 - 2 = e - 1

theorem turn_wp [∀ e, Nonempty (Elt F e)] (e e' : Fin 8) (h : turn e e') (Q : PUnit → sProp 𝕄) :
    iprop(Cx I K c ∗ St I c e ∗ TPre I c e ∗ (St I c e' ∗ TPost I c e -∗ Q ⟨⟩)) ⊢ WP c (expertS c (I c).sc e) Q := by
  obtain ⟨rfl, h1, h2, h3, h4, h5, h6, h7, h8, h9⟩ := h
  show _ ⊢ WP c (waitW e >>= fun _ => copyW (e + 1) >>= fun _ => steps (others.map (waitSY (e - 2))) >>= fun _ => applyE c e >>= fun _ =>
    combineS (I c).sc (e - 1)) Q
  unfold St TPre TPost PW
  rw [h3, h4, h8, h9, h5, ← h7]
  iintro ⟨#HC, ⟨HO, HW, HF, HY2, HY1, HYr, HB, HX⟩, ⟨HPA, HPC, HPW⟩, H⟩
  iapply (wp_seq c)
  iapply (wait_W I K c e _ (above_Ys c 0 _ fun _ _ => by omega))
  isplitr; · iexact HC
  isplitl [HO]; · iexact HO
  isplitl [HW]; · iexact HW
  iintro ⟨HO, HL, HE⟩
  iapply (wp_seq c)
  iapply (copy_W I K c (e + 1))
  isplitr; · iexact HC
  isplitl [HF]; · iexact HF
  isplitl [HPW]; · iexact HPW
  iintro HW
  iapply (wp_seq c)
  iapply (wait_SYs I K c (e - 2) _ (above_Ys c 0 _ fun _ _ => by omega))
  isplitr; · iexact HC
  isplitl [HO]; · iexact HO
  isplitl [HY2]; · iexact HY2
  rw [h1, h2]
  iintro ⟨HO, HF2⟩
  iapply (wp_seq c)
  iapply (apply_E I K c e (dueYs c (all8.drop (e + 1).val)))
  isplitr; · iexact HC
  isplitl [HO]; · iexact HO
  isplitl [HL HF2 HPA HX]
  · isplitl [HL]; · iexact HL
    isplitl [HF2]; · iexact HF2
    isplitl [HPA]; · iexact HPA
    iexact HX
  iintro ⟨HO, HF, HY, HYe, HX⟩
  iapply (combine_S I K c (e - 1) _ (above_Ys c _ _ h6))
  isplitr; · iexact HC
  isplitl [HO]; · iexact HO
  isplitl [HYr HPC HB]
  · isplitl [HYr]; · iexact HYr
    isplitl [HPC]; · iexact HPC
    iexact HB
  iintro ⟨HO, HD, HB⟩
  iapply H
  isplitr [HD HE]
  · isplitl [HO]; · iexact HO
    isplitl [HW]; · iexact HW
    isplitl [HF]; · iexact HF
    isplitl [HY1]; · iexact HY1
    isplitl [HY]; · iexact HY
    isplitl [HYe]; · iexact HYe
    isplitl [HB]; · iexact HB
    iexact HX
  · isplitl [HD]; · iexact HD
    iexact HE

theorem loop_cons [∀ e, Nonempty (Elt F e)] (e e' z : Fin 8) (t : List (Fin 8)) (h : turn e e')
    (ih : ∀ Q : PUnit → sProp 𝕄, iprop(Cx I K c ∗ St I c e' ∗ bigSepL t (TPre I c) ∗ (St I c z ∗ bigSepL t (TPost I c) -∗ Q ⟨⟩))
      ⊢ WP c (steps (t.map (expertS c (I c).sc))) Q) (Q : PUnit → sProp 𝕄) :
    iprop(Cx I K c ∗ St I c e ∗ bigSepL (e :: t) (TPre I c) ∗ (St I c z ∗ bigSepL (e :: t) (TPost I c) -∗ Q ⟨⟩))
      ⊢ WP c (steps ((e :: t).map (expertS c (I c).sc))) Q := by
  show _ ⊢ WP c (expertS c (I c).sc e >>= fun _ => steps (t.map (expertS c (I c).sc))) Q
  rw [bigSepL_cons', bigSepL_cons']
  iintro ⟨#HC, HS, ⟨HP, HT⟩, H⟩
  iapply (wp_seq c)
  iapply (turn_wp I K c e e' h)
  isplitr; · iexact HC
  isplitl [HS]; · iexact HS
  isplitl [HP]; · iexact HP
  iintro ⟨HS, HP⟩
  iapply ih
  isplitr; · iexact HC
  isplitl [HS]; · iexact HS
  isplitl [HT]; · iexact HT
  iintro ⟨HS, HT⟩
  iapply H
  isplitl [HS]; · iexact HS
  isplitl [HP]; · iexact HP
  iexact HT

theorem loop_wp [∀ e, Nonempty (Elt F e)] (Q : PUnit → sProp 𝕄) :
    iprop(Cx I K c ∗ St I c 2 ∗ bigSepL [2, 3, 4, 5, 6] (TPre I c) ∗ (St I c 7 ∗ bigSepL [2, 3, 4, 5, 6] (TPost I c) -∗ Q ⟨⟩))
      ⊢ WP c (steps (([2, 3, 4, 5, 6] : List (Fin 8)).map (expertS c (I c).sc))) Q := by
  refine loop_cons I K c 2 3 7 _ (by unfold turn; decide) ?_ Q
  refine loop_cons I K c 3 4 7 _ (by unfold turn; decide) ?_
  refine loop_cons I K c 4 5 7 _ (by unfold turn; decide) ?_
  refine loop_cons I K c 5 6 7 _ (by unfold turn; decide) ?_
  refine loop_cons I K c 6 7 7 _ (by unfold turn; decide) ?_
  intro Q
  show _ ⊢ WP c (.ret ⟨⟩) Q
  rw [WP, wp_ret]
  iintro ⟨-, HS, HT, H⟩
  imodintro
  iapply H
  isplitl [HS]; · iexact HS
  iexact HT

end Cert.KernelIdeal.Moe

end
-- ==== Proof.Whole.lean ====
/- The body on one device. -/
module

public import proofs.«01_k».proof.Proof.Experts

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Inp F) (K : GSem nD τ sig → ℕ) (c : Dev nD)

/-! ## Families by their turns -/

theorem fam_A (Φ : Fin 8 → sProp 𝕄) : bigSepL all8 Φ = iprop(Φ 0 ∗ Φ 1 ∗ bigSepL [2, 3, 4, 5, 6] Φ ∗ Φ 7) := by
  rw [show all8 = 0 :: 1 :: ([2, 3, 4, 5, 6] ++ [7]) from rfl, bigSepL_cons', bigSepL_cons', bigSepL_append, bigSepL_singleton]
theorem fam_C (Φ : Fin 8 → sProp 𝕄) : bigSepL all8 Φ = iprop(Φ 0 ∗ (bigSepL [2, 3, 4, 5, 6] fun e => Φ (e - 1)) ∗ Φ 6 ∗ Φ 7) := by
  rw [show all8 = 0 :: (([2, 3, 4, 5, 6] : List (Fin 8)).map (fun e => e - 1) ++ [6, 7]) by decide, bigSepL_cons', bigSepL_append, bigSepL_map,
    show bigSepL [6, 7] Φ = iprop(Φ 6 ∗ Φ 7) by rw [bigSepL_cons', bigSepL_singleton]]
theorem fam_W (Φ : Fin 8 → sProp 𝕄) : bigSepL others Φ = iprop(Φ 1 ∗ Φ 2 ∗ bigSepL [2, 3, 4, 5, 6] fun e => Φ (e + 1)) := by
  rw [show others = 1 :: 2 :: (([2, 3, 4, 5, 6] : List (Fin 8)).map (fun e => e + 1)) by decide, bigSepL_cons', bigSepL_cons', bigSepL_map]

/-! ## After the loop -/

def tailQ (d : Dev nD) (scol : Vec F S2048x1 .i32) : PG F PUnit := do
  waitW 7
  steps (others.map (waitSY 5))
  applyE d 7
  combineS scol 6
  combineS scol 7
  steps (others.map (waitSY 6))
  steps (others.map (waitSY 7))
  steps (([4, 5, 6, 7] : List (Fin 8)).map waitSX)

def EndPre : sProp 𝕄 :=
  iprop(PA c 7 ∗ PC c 6 ∗ PC c 7 ∗ bigSepL [4, 5, 6, 7] fun k => iprop(cr c (.inr (oSX k)) NX ∗ pos c (.inr (oSX k)) 0))
def EndPost : sProp 𝕄 :=
  iprop(OW c [] ∗ DC I c 6 ∗ DC I c 7 ∗ pv c (vEw 7) (I c).ew ∗ WF c (half 0) 4 ∗ WF c (half 1) 4 ∗ YF c (half 0) 4 ∗ YF c (half 1) 4
    ∗ (bigSepL [4, 5, 6, 7] fun k => iprop(pos c (.inr (oSX k)) 1 ∗ pa c (vSb (sendAt k)))) ∗ wh c mO (OUT I c 8) ∗ wh c mXr (XR I c))

theorem tailQ_wp [∀ e, Nonempty (Elt F e)] (Q : PUnit → sProp 𝕄) :
    iprop(Cx I K c ∗ St I c 7 ∗ EndPre c ∗ (EndPost I c -∗ Q ⟨⟩)) ⊢ WP c (tailQ c (I c).sc) Q := by
  show _ ⊢ WP c (waitW 7 >>= fun _ => steps (others.map (waitSY 5)) >>= fun _ => applyE c 7 >>= fun _ => combineS (I c).sc 6 >>= fun _ =>
    combineS (I c).sc 7 >>= fun _ => steps (others.map (waitSY 6)) >>= fun _ => steps (others.map (waitSY 7)) >>= fun _ =>
    steps (([4, 5, 6, 7] : List (Fin 8)).map waitSX)) Q
  have e2 : YF (F := F) c (half 5) (rd 5 + 1) = YF c (half 7) (rd 7) := rfl
  unfold St EndPre EndPost
  rw [show dueYs c (all8.drop (7 : Fin 8).val) = others.map (dueY c 7) ++ [] from rfl, show (7 : Fin 8) + 1 = 0 by decide,
    show (7 : Fin 8) - 1 = 6 by decide, show (7 : Fin 8) - 2 = 5 by decide]
  iintro ⟨#HC, ⟨HO, HW, HF, HY2, HY1, HYr, HB, HX⟩, ⟨HPA, HP6, HP7, HS⟩, H⟩
  iapply (wp_seq c)
  iapply (wait_W I K c 7 (others.map (dueY c 7) ++ []) (above_append (above_Y c 0 7 _ (by decide)) fun _ h => absurd h List.not_mem_nil))
  isplitr; · iexact HC
  isplitl [HO]; · iexact HO
  isplitl [HW]; · iexact HW
  iintro ⟨HO, HL, HE⟩
  iapply (wp_seq c)
  iapply (wait_SYs I K c 5 (others.map (dueY c 7) ++ []) (above_append (above_Y c 0 7 _ (by decide)) fun _ h => absurd h List.not_mem_nil))
  isplitr; · iexact HC
  isplitl [HO]; · iexact HO
  isplitl [HY2]; · iexact HY2
  iintro ⟨HO, HF2⟩
  iapply (wp_seq c)
  iapply (apply_E I K c 7 [])
  isplitr; · iexact HC
  isplitl [HO]; · iexact HO
  isplitl [HL HF2 HPA HX]
  · isplitl [HL]; · iexact HL
    isplitl [HF2]; · iapply (Entails.of_eq e2); iexact HF2
    isplitl [HPA]; · iexact HPA
    iexact HX
  iintro ⟨HO, HF', HY, HYe, HX⟩
  iapply (wp_seq c)
  iapply (combine_S I K c 6 [] (fun _ h => absurd h List.not_mem_nil))
  isplitr; · iexact HC
  isplitl [HO]; · iexact HO
  isplitl [HYr HP6 HB]
  · isplitl [HYr]; · iexact HYr
    isplitl [HP6]; · iexact HP6
    iexact HB
  iintro ⟨HO, HD6, HB⟩
  iapply (wp_seq c)
  iapply (combine_S I K c 7 [] (fun _ h => absurd h List.not_mem_nil))
  isplitr; · iexact HC
  isplitl [HO]; · iexact HO
  isplitl [HYe HP7 HB]
  · isplitl [HYe]; · iexact HYe
    isplitl [HP7]; · iexact HP7
    iexact HB
  iintro ⟨HO, HD7, HB⟩
  iapply (wp_seq c)
  iapply (wait_SYs I K c 6 [] (fun _ h => absurd h List.not_mem_nil))
  isplitr; · iexact HC
  isplitl [HO]; · iexact HO
  isplitl [HY1]; · iexact HY1
  iintro ⟨HO, HF6⟩
  iapply (wp_seq c)
  iapply (wait_SYs I K c 7 [] (fun _ h => absurd h List.not_mem_nil))
  isplitr; · iexact HC
  isplitl [HO]; · iexact HO
  isplitl [HY]; · iexact HY
  iintro ⟨HO, HF7⟩
  iapply (wait_SXs I K c [] (fun _ h => absurd h List.not_mem_nil) _ [4, 5, 6, 7] (by decide))
  isplitr; · iexact HC
  isplitl [HO]; · iexact HO
  isplitl [HS]; · iexact HS
  iintro ⟨HO, HS⟩
  iapply H
  isplitl [HO]; · iexact HO
  isplitl [HD6]; · iexact HD6
  isplitl [HD7]; · iexact HD7
  isplitl [HE]; · iexact HE
  isplitl [HF]
  · iapply (Entails.of_eq (show WF (F := F) c (half 0) (rd 6 + 1) = WF c (half 0) 4 from rfl)); iexact HF
  isplitl [HF']
  · iapply (Entails.of_eq (show WF (F := F) c (half 7) (rd 7 + 1) = WF c (half 1) 4 from rfl)); iexact HF'
  isplitl [HF6]
  · iapply (Entails.of_eq (show YF (F := F) c (half 6) (rd 6 + 1) = YF c (half 0) 4 from rfl)); iexact HF6
  isplitl [HF7]
  · iapply (Entails.of_eq (show YF (F := F) c (half 7) (rd 7 + 1) = YF c (half 1) 4 from rfl)); iexact HF7
  isplitl [HS]; · iexact HS
  isplitl [HB]; · iexact HB
  iexact HX

/-! ## From the first expert on -/

def tailP (d : Dev nD) (scol : Vec F S2048x1 .i32) : PG F PUnit := do
  waitW 0
  copyW 1
  applyE d 0
  waitW 1
  copyW 2
  applyE d 1
  combineS scol 0
  steps (([2, 3, 4, 5, 6] : List (Fin 8)).map (expertS d scol))
  tailQ d scol

def MidPre : sProp 𝕄 :=
  iprop(OW c (dueYs c all8) ∗ WQ c (half 0) 0 ∗ WF c (half 1) 0 ∗ YF c (half 0) 0 ∗ YF c (half 1) 0 ∗ bigSepL all8 (PA c) ∗ bigSepL all8 (PC c)
    ∗ bigSepL others (PW I c) ∗ wh c mO (OUT I c 0) ∗ wh c mXr (XR I c)
    ∗ bigSepL [4, 5, 6, 7] fun k => iprop(cr c (.inr (oSX k)) NX ∗ pos c (.inr (oSX k)) 0))
def MidPost : sProp 𝕄 :=
  iprop(OW c [] ∗ bigSepL all8 (DC I c) ∗ (bigSepL all8 fun e => pv c (vEw e) (I c).ew)
    ∗ WF c (half 0) 4 ∗ WF c (half 1) 4 ∗ YF c (half 0) 4 ∗ YF c (half 1) 4
    ∗ (bigSepL [4, 5, 6, 7] fun k => iprop(pos c (.inr (oSX k)) 1 ∗ pa c (vSb (sendAt k)))) ∗ wh c mO (OUT I c 8) ∗ wh c mXr (XR I c))

theorem tailP_wp [∀ e, Nonempty (Elt F e)] (Q : PUnit → sProp 𝕄) :
    iprop(Cx I K c ∗ MidPre I c ∗ (MidPost I c -∗ Q ⟨⟩)) ⊢ WP c (tailP c (I c).sc) Q := by
  unfold tailP
  unfold MidPre MidPost
  rw [fam_A (PA c), fam_C (PC c), fam_W (PW I c), fam_C (DC I c), fam_A (fun e => pv c (vEw e) (I c).ew)]
  have e0 : dueYs c all8 = others.map (dueY c 0) ++ dueYs c (all8.drop 1) := rfl
  have e1 : dueYs c (all8.drop 1) = others.map (dueY c 1) ++ dueYs c (all8.drop 2) := rfl
  rw [e0]
  iintro ⟨#HC, ⟨HO, HW, HF, HY0, HY1, ⟨HA0, HA1, HA, HA7⟩, ⟨HC0, HCs, HC6, HC7⟩, ⟨HW1, HW2, HWs⟩, HB, HX, HS⟩, H⟩
  iapply (wp_seq c)
  iapply (wait_W I K c 0 (others.map (dueY c 0) ++ dueYs c (all8.drop 1)) (above_append (above_Y c 0 0 _ (by decide)) (above_Ys c 0 _ fun _ _ => by omega)))
  isplitr; · iexact HC
  isplitl [HO]; · iexact HO
  isplitl [HW]; · iexact HW
  iintro ⟨HO, HL, HE0⟩
  iapply (wp_seq c)
  iapply (copy_W I K c 1)
  isplitr; · iexact HC
  isplitl [HF]; · iexact HF
  isplitl [HW1]; · iapply (Entails.of_eq (show PW I c 1 = iprop(tok c (.inr (oW (half 1))) (rd 1) ∗ pv c (vEw 1) (I c).ew) from rfl)); iexact HW1
  iintro HW
  iapply (wp_seq c)
  iapply (apply_E I K c 0 (dueYs c (all8.drop 1)))
  isplitr; · iexact HC
  isplitl [HO]; · iexact HO
  isplitl [HL HY0 HA0 HX]
  · isplitl [HL]; · iexact HL
    isplitl [HY0]; · iexact HY0
    isplitl [HA0]; · iexact HA0
    iexact HX
  rw [e1]
  iintro ⟨HO, HF, HY0, HYr0, HX⟩
  iapply (wp_seq c)
  iapply (wait_W I K c 1 (others.map (dueY c 1) ++ dueYs c (all8.drop 2)) (above_append (above_Y c 0 1 _ (by decide)) (above_Ys c 0 _ fun _ _ => by omega)))
  isplitr; · iexact HC
  isplitl [HO]; · iexact HO
  isplitl [HW]; · iexact HW
  iintro ⟨HO, HL, HE1⟩
  iapply (wp_seq c)
  iapply (copy_W I K c 2)
  isplitr; · iexact HC
  isplitl [HF]; · iapply (Entails.of_eq (show WF (F := F) c (half 0) (rd 0 + 1) = WF c (half 2) (rd 2) from rfl)); iexact HF
  isplitl [HW2]; · iapply (Entails.of_eq (show PW I c 2 = iprop(tok c (.inr (oW (half 2))) (rd 2) ∗ pv c (vEw 2) (I c).ew) from rfl)); iexact HW2
  iintro HW
  iapply (wp_seq c)
  iapply (apply_E I K c 1 (dueYs c (all8.drop 2)))
  isplitr; · iexact HC
  isplitl [HO]; · iexact HO
  isplitl [HL HY1 HA1 HX]
  · isplitl [HL]; · iexact HL
    isplitl [HY1]; · iexact HY1
    isplitl [HA1]; · iexact HA1
    iexact HX
  iintro ⟨HO, HF, HY1, HYr1, HX⟩
  iapply (wp_seq c)
  iapply (combine_S I K c 0 (dueYs c (all8.drop 2)) (above_Ys c _ _ (by decide)))
  isplitr; · iexact HC
  isplitl [HO]; · iexact HO
  isplitl [HYr0 HC0 HB]
  · isplitl [HYr0]; · iexact HYr0
    isplitl [HC0]; · iexact HC0
    iexact HB
  iintro ⟨HO, HD0, HB⟩
  iapply (wp_seq c)
  iapply (loop_wp I K c)
  isplitr; · iexact HC
  isplitl [HO HW HF HY0 HY1 HYr1 HB HX]
  · unfold St
    rw [show (2 : Fin 8) + 1 = 3 by decide, show (2 : Fin 8) - 1 = 1 by decide, show (2 : Fin 8) - 2 = 0 by decide]
    isplitl [HO]; · iexact HO
    isplitl [HW]; · iexact HW
    isplitl [HF]; · iapply (Entails.of_eq (show WF (F := F) c (half 1) (rd 1 + 1) = WF c (half 3) (rd 1 + 1) from rfl)); iexact HF
    isplitl [HY0]; · iexact HY0
    isplitl [HY1]; · iexact HY1
    isplitl [HYr1]; · iexact HYr1
    isplitl [HB]; · iexact HB
    iexact HX
  isplitl [HA HCs HWs]
  · ihave HT := (bigSepL_sep_in [2, 3, 4, 5, 6] (fun e => PC c (e - 1)) fun e => PW I c (e + 1)) $$ [HCs HWs]
    · isplitl [HCs]; · iexact HCs
      iexact HWs
    ihave HT := (bigSepL_sep_in [2, 3, 4, 5, 6] (PA c) fun e => iprop(PC c (e - 1) ∗ PW I c (e + 1))) $$ [HA HT]
    · isplitl [HA]; · iexact HA
      iexact HT
    iexact HT
  iintro ⟨HSt, HT⟩
  ihave HT := (Entails.of_eq (show bigSepL [2, 3, 4, 5, 6] (TPost I c) = bigSepL [2, 3, 4, 5, 6] fun e => iprop(DC I c (e - 1) ∗ pv c (vEw e) (I c).ew) from rfl)) $$ HT
  ihave HT := (bigSepL_sep_out [2, 3, 4, 5, 6] (fun e => DC I c (e - 1)) fun e => pv c (vEw e) (I c).ew) $$ HT
  icases HT with ⟨HD, HE⟩
  iapply (tailQ_wp I K c)
  isplitr; · iexact HC
  isplitl [HSt]; · iexact HSt
  isplitl [HA7 HC6 HC7 HS]
  · unfold EndPre
    isplitl [HA7]; · iexact HA7
    isplitl [HC6]; · iexact HC6
    isplitl [HC7]; · iexact HC7
    iexact HS
  unfold EndPost
  iintro ⟨HO, HD6, HD7, HE7, HR⟩
  iapply H
  isplitl [HO]; · iexact HO
  isplitl [HD0 HD HD6 HD7]
  · isplitl [HD0]; · iexact HD0
    isplitl [HD]; · iexact HD
    isplitl [HD6]; · iexact HD6
    iexact HD7
  isplitl [HE0 HE1 HE HE7]
  · isplitl [HE0]; · iexact HE0
    isplitl [HE1]; · iexact HE1
    isplitl [HE]; · iexact HE
    iexact HE7
  iexact HR

/-! ## The whole body -/

theorem nice_eq : nice (F := F) = (Prog.lift .deviceId >>= fun d => steps (others.map fun k => semSignalWord (devB d k) sBar 1#32) >>= fun _ =>
    semWaitWord sBar 7#32 >>= fun _ => loadSr >>= fun srow => loadP >>= fun prow =>
    steps (([1, 2, 3, 4] : List (Fin 8)).map (dispatchA d srow prow)) >>= fun _ =>
    steps (([5, 6, 7] : List (Fin 8)).map (dispatchB d srow prow)) >>= fun _ => copyW 0 >>= fun _ => ownS srow prow >>= fun _ =>
    steps (others.map waitRX) >>= fun _ => loadSc >>= fun scol => tailP d scol) := rfl

/-- What sending expert `e`'s results needs apart from the receivers' slots. -/
def YTok (e : Fin 8) : sProp 𝕄 := iprop(pa c (vYr 0 e) ∗ bigSepL others fun k => iprop(tok c (.inr (oSY (half e) k)) (rd e) ∗ tok (dn c k) (.inr (oRY k e)) 0))

theorem PA_of (e : Fin 8) : iprop((bigSepL others fun k => slotY (F := F) (dn c k) k e) ∗ YTok c e) ⊢ PA c e := by
  unfold YTok PA
  iintro ⟨HS, HY, HT⟩
  isplitl [HY]; · iexact HY
  iapply (bigSepL_sep_in others (fun k => slotY (F := F) (dn c k) k e) fun k => iprop(tok c (.inr (oSY (half e) k)) (rd e) ∗ tok (dn c k) (.inr (oRY k e)) 0))
  isplitl [HS]; · iexact HS
  iexact HT

theorem PA_all : iprop((bigSepL all8 fun e => bigSepL others fun k => slotY (F := F) (dn c k) k e) ∗ bigSepL all8 (YTok c)) ⊢ bigSepL all8 (PA c) := by
  iintro ⟨HS, HT⟩
  iapply (BI.BIBase.Entails.trans (bigSepL_sep_in all8 (fun e => bigSepL others fun k => slotY (F := F) (dn c k) k e) (YTok c))
    (bigSepL_mono fun e _ => PA_of c e))
  isplitl [HS]; · iexact HS
  iexact HT

def BodyPre : sProp 𝕄 :=
  iprop(OW c (dues c) ∗ (cr c (.inl ()) 7 ∗ pos c (.inl ()) 0) ∗ bigSepL others (SigPre c)
    ∗ wh c mSr (I c).sr ∗ wh c mP (I c).p ∗ wh c mX (I c).x ∗ wh c mSw (I c).sw ∗ wh c mSc (I c).sc ∗ (∃ f, wh c mO f)
    ∗ (bigSepL [1, 2, 3, 4] fun k => pa c (vSb (sendAt k)))
    ∗ (bigSepL others fun k => iprop(tok c (.inr (oSX k)) 0 ∗ tok (up c k) (.inr (oRX k)) 0))
    ∗ (bigSepL others fun k => pos c (.inr (oSX k)) 0)
    ∗ pa c (vXr 0) ∗ (bigSepL others fun k => iprop(cr c (.inr (oRX k)) NX ∗ pos c (.inr (oRX k)) 0))
    ∗ WF c (half 0) 0 ∗ WF c (half 1) 0 ∗ YF c (half 0) 0 ∗ YF c (half 1) 0 ∗ bigSepL all8 (YTok c) ∗ bigSepL all8 (PC c) ∗ bigSepL all8 (PW I c))
def BodyPost : sProp 𝕄 :=
  iprop(OW c [] ∗ pos c (.inl ()) 1 ∗ wh c mSr (I c).sr ∗ wh c mP (I c).p ∗ wh c mX (I c).x ∗ wh c mSw (I c).sw ∗ wh c mSc (I c).sc
    ∗ (bigSepL others fun k => pos c (.inr (oSX k)) 1) ∗ (bigSepL others fun k => pos c (.inr (oRX k)) 1)
    ∗ bigSepL all8 (DC I c) ∗ (bigSepL all8 fun e => pv c (vEw e) (I c).ew)
    ∗ WF c (half 0) 4 ∗ WF c (half 1) 4 ∗ YF c (half 0) 4 ∗ YF c (half 1) 4
    ∗ (bigSepL [4, 5, 6, 7] fun k => pa c (vSb (sendAt k))) ∗ wh c mO (OUT I c 8) ∗ wh c mXr (XR I c))

theorem fam_S (Φ : Fin 8 → sProp 𝕄) : bigSepL others Φ = iprop(bigSepL [1, 2, 3, 4] Φ ∗ bigSepL [5, 6, 7] Φ) := by
  rw [show others = [1, 2, 3, 4] ++ [5, 6, 7] from rfl, bigSepL_append]
theorem fam_T (Φ : Fin 8 → sProp 𝕄) : bigSepL others Φ = iprop((bigSepL [5, 6, 7] fun k => Φ (k - 4)) ∗ bigSepL [4, 5, 6, 7] Φ) := by
  rw [show others = ([5, 6, 7] : List (Fin 8)).map (fun k => k - 4) ++ [4, 5, 6, 7] by decide, bigSepL_append, bigSepL_map]
theorem fam_4 (Φ : Fin 8 → sProp 𝕄) : bigSepL [1, 2, 3, 4] Φ = iprop((bigSepL [5, 6, 7] fun k => Φ (k - 4)) ∗ Φ 4) := by
  rw [show ([1, 2, 3, 4] : List (Fin 8)) = ([5, 6, 7] : List (Fin 8)).map (fun k => k - 4) ++ [4] by decide, bigSepL_append, bigSepL_map, bigSepL_singleton]

theorem nice_wp [∀ e, Nonempty (Elt F e)] (Q : PUnit → sProp 𝕄) :
    iprop(Cx I K c ∗ BodyPre I c ∗ (BodyPost I c -∗ Q ⟨⟩)) ⊢ WP c (nice (F := F)) Q := by
  rw [nice_eq]
  refine BI.BIBase.Entails.trans ?_ (wp_seq c _ _ Q)
  show _ ⊢ WP c (.op .deviceId .ret) _
  rw [WP, wp_deviceId, wp_ret]
  unfold BodyPre BodyPost dues
  rw [fam_T (fun k => pos c (.inr (oSX k)) 0), show bigSepL all8 (PW I c) = iprop(PW I c 0 ∗ bigSepL others (PW I c)) from bigSepL_cons' ..,
    fam_T (fun k => pos c (.inr (oSX k)) 1)]
  iintro ⟨#HC, ⟨HO, HBar, HSig, HSr, HP, HX, HSw, HSc, HOut, HSb, HTX, ⟨HpA, HpB⟩, HXr, HRX, HF0, HF1, HY0, HY1, HYT, HPC, ⟨HW0, HW⟩⟩, H⟩
  imodintro
  iapply (wp_seq c)
  iapply (steps_wp c (fun k => semSignalWord (devB c k) sBar 1#32) (Cx I K c) (fun t => OW c (t.map (dueB c) ++ (others.map (dueX c) ++ dueYs c all8)))
    (fun k => k ≠ 0) _ _ (fun k t Q hk => sig_step I K c k hk (t.map (dueB c) ++ (others.map (dueX c) ++ dueYs c all8)) Q) others _ (by decide))
  isplitr; · iexact HC
  isplitl [HO]; · iexact HO
  isplitl [HSig]; · iexact HSig
  iintro ⟨HO, -⟩
  iapply (wp_seq c)
  iapply (bar_wait I K c (others.map (dueX c) ++ dueYs c all8) (above_append (above_X c _) (above_Ys c 1 _ fun _ _ => by omega)))
  isplitr; · iexact HC
  isplitl [HO]; · iexact HO
  isplitl [HBar]; · iexact HBar
  iintro ⟨HO, HBar, HSX, HSY⟩
  ihave HA := (PA_all c) $$ [HSY HYT]
  · isplitl [HSY]; · iexact HSY
    iexact HYT
  ihave HXs := (bigSepL_sep_in others (fun k => slotX (F := F) (up c k) k) fun k => iprop(tok c (.inr (oSX k)) 0 ∗ tok (up c k) (.inr (oRX k)) 0)) $$ [HSX HTX]
  · isplitl [HSX]; · iexact HSX
    iexact HTX
  ihave HXs := (Entails.of_eq (show (bigSepL others fun k => iprop(slotX (F := F) (up c k) k ∗ tok c (.inr (oSX k)) 0 ∗ tok (up c k) (.inr (oRX k)) 0)) = _
    from fam_S (SendXPre c))) $$ HXs
  icases HXs with ⟨HXa, HXb⟩
  ihave HXa := (bigSepL_sep_in [1, 2, 3, 4] (fun k => pa c (vSb (sendAt k))) (SendXPre c)) $$ [HSb HXa]
  · isplitl [HSb]; · iexact HSb
    iexact HXa
  iapply (wp_seq c)
  iapply (load_Sr c _ (I c).sr)
  isplitl [HSr]; · iexact HSr
  iintro HSr
  iapply (wp_seq c)
  iapply (load_P c _ (I c).p)
  isplitl [HP]; · iexact HP
  iintro HP
  iapply (wp_seq c)
  iapply (dispatch_A I K c (([5, 6, 7] : List (Fin 8)).map (dueX c) ++ dueYs c all8) _ [1, 2, 3, 4] (by decide))
  isplitr; · iexact HC
  isplitl [HO HX]
  · isplitl [HO]; · iexact HO
    iexact HX
  isplitl [HXa]; · iexact HXa
  iintro ⟨HR, Hc⟩
  ihave Hc := (Entails.of_eq (fam_4 (fun k => cr c (.inr (oSX k)) NX))) $$ Hc
  icases Hc with ⟨Hc, Hc4⟩
  ihave Hc := (bigSepL_sep_in [5, 6, 7] (fun k => cr c (.inr (oSX (k - 4))) NX) fun k => pos c (.inr (oSX (k - 4))) 0) $$ [Hc HpA]
  · isplitl [Hc]; · iexact Hc
    iexact HpA
  ihave HXb := (bigSepL_sep_in [5, 6, 7] (fun k => iprop(cr c (.inr (oSX (k - 4))) NX ∗ pos c (.inr (oSX (k - 4))) 0)) (SendXPre c)) $$ [Hc HXb]
  · isplitl [Hc]; · iexact Hc
    iexact HXb
  iapply (wp_seq c)
  iapply (dispatch_B I K c (dueYs c all8) (above_Ys c 0 _ fun _ _ => by omega) _ [5, 6, 7] (by decide))
  isplitr; · iexact HC
  isplitl [HR]; · iexact HR
  isplitl [HXb]; · iexact HXb
  iintro ⟨⟨HO, HX⟩, Hc⟩
  ihave Hc := (bigSepL_sep_out [5, 6, 7] (fun k => cr c (.inr (oSX k)) NX) fun k => pos c (.inr (oSX (k - 4))) 1) $$ Hc
  icases Hc with ⟨Hc, HpA⟩
  iapply (wp_seq c)
  iapply (copy_W I K c 0)
  isplitr; · iexact HC
  isplitl [HF0]; · iexact HF0
  isplitl [HW0]; · iapply (Entails.of_eq (show PW I c 0 = iprop(tok c (.inr (oW (half 0))) (rd 0) ∗ pv c (vEw 0) (I c).ew) from rfl)); iexact HW0
  iintro HWQ
  iapply (wp_seq c)
  iapply (own_S I c)
  isplitl [HX HXr HSw HOut]
  · isplitl [HX]; · iexact HX
    isplitl [HXr]; · iexact HXr
    isplitl [HSw]; · iexact HSw
    iexact HOut
  iintro ⟨HX, HXr, HSw, HOut⟩
  iapply (wp_seq c)
  iapply (wait_RXs I K c (dueYs c all8) (above_Ys c 2 _ fun _ _ => by omega))
  isplitr; · iexact HC
  isplitl [HO]; · iexact HO
  isplitl [HRX]; · iexact HRX
  iintro ⟨HO, HRX⟩
  ihave HRX := (bigSepL_sep_out others (fun k => pos c (.inr (oRX k)) 1) fun k => pv c (vXr k) (XR I c)) $$ HRX
  icases HRX with ⟨HRX, HXs⟩
  ihave HXr := (Entails.of_eq ((Xr_parts c (XR I c)).trans all8_cons).symm) $$ [HXr HXs]
  · isplitl [HXr]; · iexact HXr
    iexact HXs
  iapply (wp_seq c)
  iapply (load_Sc c _ (I c).sc)
  isplitl [HSc]; · iexact HSc
  iintro HSc
  iapply (tailP_wp I K c)
  isplitr; · iexact HC
  isplitl [HO HWQ HF1 HY0 HY1 HA HPC HW HOut HXr Hc4 Hc HpB]
  · unfold MidPre
    isplitl [HO]; · iexact HO
    isplitl [HWQ]; · iexact HWQ
    isplitl [HF1]; · iexact HF1
    isplitl [HY0]; · iexact HY0
    isplitl [HY1]; · iexact HY1
    isplitl [HA]; · iexact HA
    isplitl [HPC]; · iexact HPC
    isplitl [HW]; · iexact HW
    isplitl [HOut]; · iexact HOut
    isplitl [HXr]; · iexact HXr
    iapply (bigSepL_sep_in [4, 5, 6, 7] (fun k => cr c (.inr (oSX k)) NX) fun k => pos c (.inr (oSX k)) 0)
    isplitr [HpB]
    · iapply (Entails.of_eq (show bigSepL [4, 5, 6, 7] (fun k => cr c (.inr (oSX k)) NX) = _ from bigSepL_cons' ..).symm)
      isplitl [Hc4]; · iexact Hc4
      iexact Hc
    · iexact HpB
  unfold MidPost
  iintro ⟨HO, HD, HE, HF0, HF1, HY0, HY1, HS, HOut, HXr⟩
  ihave HS := (bigSepL_sep_out [4, 5, 6, 7] (fun k => pos c (.inr (oSX k)) 1) fun k => pa c (vSb (sendAt k))) $$ HS
  icases HS with ⟨HpB, HS⟩
  iapply H
  isplitl [HO]; · iexact HO
  isplitl [HBar]; · iexact HBar
  isplitl [HSr]; · iexact HSr
  isplitl [HP]; · iexact HP
  isplitl [HX]; · iexact HX
  isplitl [HSw]; · iexact HSw
  isplitl [HSc]; · iexact HSc
  isplitl [HpA HpB]
  · isplitl [HpA]; · iexact HpA
    iexact HpB
  isplitl [HRX]; · iexact HRX
  isplitl [HD]; · iexact HD
  isplitl [HE]; · iexact HE
  isplitl [HF0]; · iexact HF0
  isplitl [HF1]; · iexact HF1
  isplitl [HY0]; · iexact HY0
  isplitl [HY1]; · iexact HY1
  isplitl [HS]; · iexact HS
  isplitl [HOut]; · iexact HOut
  iexact HXr

end Cert.KernelIdeal.Moe

end
-- ==== Proof.Deal.lean ====
/- What a device holds on entering the region, sorted into what the body takes; what the body leaves, put together again. -/
module

public import proofs.«01_k».proof.Proof.Whole

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Dev nD → Inp F) (K : GSem nD τ sig → ℕ) (c : Dev nD)

/-! ## Families -/

theorem all_list {Φ : Fin 8 → sProp 𝕄} : (bigSep Finset.univ Φ : sProp 𝕄) = bigSepL all8 Φ :=
  bigSep_eq_bigSepL_of_eq all8 (by decide) (by decide) Φ
theorem list_cons {Φ : Fin 8 → sProp 𝕄} : (bigSepL all8 Φ : sProp 𝕄) = iprop(Φ 0 ∗ bigSepL others Φ) := all_list.symm.trans all8_cons
theorem others_neg (Φ : Fin 8 → sProp 𝕄) : (bigSepL others Φ : sProp 𝕄) = bigSepL others fun k => Φ (-k) :=
  ((bigSep_eq_bigSepL_of_eq (S := Finset.univ.erase 0) others (by decide) (by decide) Φ).symm.trans
    (bigSep_eq_bigSepL_of_eq (others.map fun k => -k) (by decide) (by decide) Φ)).trans (by rw [bigSepL_map])
theorem swap_eq {A B : Type} (l : List A) (l' : List B) (Φ : A → B → sProp 𝕄) :
    (bigSepL l (fun a => bigSepL l' (Φ a)) : sProp 𝕄) = bigSepL l' (fun b => bigSepL l fun a => Φ a b) :=
  BI.equiv_iff.mp ⟨bigSepL_swap l l' Φ, bigSepL_swap l' l fun b a => Φ a b⟩
theorem sep_eqL {A : Type} (l : List A) (Φ Ψ : A → sProp 𝕄) :
    (bigSepL l (fun a => iprop(Φ a ∗ Ψ a)) : sProp 𝕄) = iprop(bigSepL l Φ ∗ bigSepL l Ψ) :=
  BI.equiv_iff.mp ⟨bigSepL_sep_out l Φ Ψ, bigSepL_sep_in l Φ Ψ⟩

/-- A family over the kernel's own semaphores, by their roles. -/
theorem os_split (Φ : Os → sProp 𝕄) : (bigSep Finset.univ Φ : sProp 𝕄) =
    iprop(((Φ (oSX 0) ∗ bigSepL others fun k => Φ (oSX k)) ∗ (Φ (oRX 0) ∗ bigSepL others fun k => Φ (oRX k)))
      ∗ (((Φ (oSY 0 0) ∗ bigSepL others fun k => Φ (oSY 0 k)) ∗ (Φ (oSY 1 0) ∗ bigSepL others fun k => Φ (oSY 1 k)))
        ∗ (((bigSepL all8 fun e => Φ (oRY 0 e)) ∗ bigSepL all8 fun e => bigSepL others fun k => Φ (oRY k e))
          ∗ (Φ (oW 0) ∗ Φ (oW 1))))) := by
  rw [bigSep_univ_sum, bigSep_univ_sum, bigSep_univ_sum, bigSep_univ_sum, bigSep_univ_prod, bigSep_univ_prod, bigSep_fin_two, bigSep_fin_two,
    all8_cons, all8_cons, all8_cons, all8_cons, all8_cons, all_list, swap_eq all8 others]
  rw [show (bigSepL others fun a : Fin 8 => bigSep Finset.univ fun b : Fin 8 => Φ (.inr (.inr (.inl (a, b)))))
    = bigSepL others fun k => bigSepL all8 fun e => Φ (oRY k e) from congrArg (bigSepL others) (funext fun k => all_list)]
  rfl

/-! ## The buffers the kernel keeps to itself -/

theorem some_parts {T A : Type} [Fintype T] (X : A → sProp 𝕄) (Φ : T → A → sProp 𝕄) (h : ∀ f, X f = bigSep Finset.univ fun k => Φ k f) :
    (iprop(∃ f, X f) : sProp 𝕄) ⊢ bigSep Finset.univ fun k => iprop(∃ f, Φ k f) :=
  by
  have one (f : A) (k : T) : Φ k f ⊢ (iprop(∃ f, Φ k f) : sProp 𝕄) := by iintro H; iexists f; iexact H
  have all (f : A) : X f ⊢ bigSep Finset.univ fun k => iprop(∃ f, Φ k f) := (Entails.of_eq (h f)).trans (bigSep_mono fun k _ => one f k)
  iintro ⟨%f, H⟩
  iapply (all f) $$ H

theorem Xr_some : (iprop(∃ f, wh c mXr f) : sProp 𝕄) ⊢ iprop(pa c (vXr 0) ∗ bigSepL others fun k => pa (F := F) c (vXr (-k))) :=
  (some_parts _ _ (Xr_parts c)).trans (Entails.of_eq (all8_cons.trans (by rw [← others_neg (F := F) (fun k => pa c (vXr k))]; rfl)))
theorem Sb_some : (iprop(∃ f, wh c mSb f) : sProp 𝕄) ⊢ bigSepL [1, 2, 3, 4] fun k => pa (F := F) c (vSb (sendAt k)) := by
  have h : (bigSep Finset.univ fun k => pa (F := F) c (vSb k) : sProp 𝕄) = bigSepL [1, 2, 3, 4] fun k => pa (F := F) c (vSb (sendAt k)) :=
    (bigSep_eq_bigSepL_of_eq ([1, 2, 3, 4].map sendAt) (by decide) (by decide) _).trans (by rw [bigSepL_map])
  exact (some_parts _ _ (Sb_parts c)).trans (Entails.of_eq h)
theorem We_some : (iprop(∃ f, wh c mWe f) : sProp 𝕄) ⊢ iprop(pa (F := F) c (vWe 0) ∗ pa c (vWe 1)) :=
  (some_parts _ _ (We_parts c)).trans (Entails.of_eq (bigSep_fin_two _))
theorem Yb_some : (iprop(∃ f, wh c mYb f) : sProp 𝕄) ⊢ iprop((∃ f, hYb' (F := F) c 0 f) ∗ (∃ f, hYb' c 1 f)) :=
  (some_parts _ _ (Yb_halves c)).trans (Entails.of_eq (bigSep_fin_two _))
theorem Yr_some : (iprop(∃ f, wh c mYr f) : sProp 𝕄)
    ⊢ iprop((bigSepL all8 fun e => pa (F := F) c (vYr 0 e)) ∗ bigSepL others fun k => bigSepL all8 fun e => pa c (vYr k e)) := by
  rw [swap_eq others all8, ← sep_eqL, ← all_list]
  refine (some_parts _ _ (Yr_cols c)).trans (bigSep_mono fun e _ => ?_)
  exact (some_parts _ _ (col_parts c e)).trans (Entails.of_eq all8_cons)

theorem Sb_again [∀ e, Nonempty (Elt F e)] : (bigSepL [4, 5, 6, 7] fun k => pa (F := F) c (vSb (sendAt k))) ⊢ (iprop(∃ f, wh c mSb f) : sProp 𝕄) := by
  have h : (bigSep Finset.univ fun k => pa (F := F) c (vSb k) : sProp 𝕄) = bigSepL [4, 5, 6, 7] fun k => pa (F := F) c (vSb (sendAt k)) :=
    (bigSep_eq_bigSepL_of_eq ([4, 5, 6, 7].map sendAt) (by decide) (by decide) _).trans (by rw [bigSepL_map])
  rw [← h]
  exact Sb_join c

/-! ## Entering and leaving the body -/

/-- The rounds of the kernel's own semaphores. -/
def OPos (f : Os → ℕ) : sProp 𝕄 := bigSep Finset.univ fun s : Os => pos c (.inr s) (f s)
/-- The buffers no window stages. -/
def Scr : sProp 𝕄 :=
  iprop((∃ f, wh c mXr f) ∗ (∃ f, wh c mSb f) ∗ (∃ f, wh c mWe f) ∗ (∃ f, wh c mYb f) ∗ (∃ f, wh c mYr f))
/-- The tokens of what device `c` pays. -/
def Toks : sProp 𝕄 :=
  iprop((bigSepL others fun k => dutyTok ER (barC (up c k)) 0 k)
    ∗ (bigSepL others fun k => iprop(tok c (.inr (oSX k)) 0 ∗ tok (up c k) (.inr (oRX k)) 0))
    ∗ (bigSepL all8 fun e => bigSepL others fun k => iprop(tok c (.inr (oSY (half e) k)) (rd e) ∗ tok (dn c k) (.inr (oRY k e)) 0))
    ∗ bigSepL all8 fun e => tok c (.inr (oW (half e))) (rd e))
/-- The credits of what is paid to device `c` by others. -/
def Creds : sProp 𝕄 :=
  iprop(cr c (.inl ()) 7 ∗ (bigSepL others fun k => cr c (.inr (oRX k)) NX)
    ∗ bigSepL all8 fun e => bigSepL others fun k => cr c (.inr (oRY k e)) NY)
/-- The staged inputs. -/
def Ins : sProp 𝕄 :=
  iprop(wh c mX (I c).x ∗ wh c mP (I c).p ∗ wh c mSr (I c).sr ∗ wh c mSc (I c).sc ∗ wh c mSw (I c).sw)
/-- The cells that carry nothing. -/
def Idle : sProp 𝕄 :=
  iprop(pos c (.inr (oSX 0)) 0 ∗ pos c (.inr (oRX 0)) 0 ∗ pos c (.inr (oSY 0 0)) 0 ∗ pos c (.inr (oSY 1 0)) 0
    ∗ bigSepL all8 fun e => pos c (.inr (oRY 0 e)) 0)

theorem Own_others (p : Fin 2) : Cx I K c ⊢ bigSepL others fun k => reached ER (cell c (.inr (oSY p k))) 0 := by
  have h := bigSepL_with (Cx I K c) others (fun _ => iprop(emp)) (fun k => reached ER (cell c (.inr (oSY p k))) 0) fun k _ => (by
    iintro ⟨#HC, -⟩; iapply (Cx_own I K c (oSY p k)) $$ HC)
  iintro #HC
  iapply h
  isplitr; · iexact HC
  iapply (bigSepL_emp others)
  iempintro

theorem pre_intro : iprop(Cx I K c ∗ OW c (dues c) ∗ Ins I c ∗ (∃ f, wh c mO f) ∗ wh c mEw (I c).ew ∗ Scr c ∗ Toks c ∗ Creds c
    ∗ pos c (.inl ()) 0 ∗ OPos c fun _ => 0) ⊢ iprop(BodyPre I c ∗ Idle (F := F) c) := by
  unfold OPos
  rw [os_split, Ew_parts, all_list]
  unfold Scr Toks Creds Ins BodyPre Idle
  iintro ⟨#HC, HO, ⟨Hx, Hp, Hsr, Hsc, Hsw⟩, Ho, Hew, ⟨HXr, HSb, HWe, HYb, HYr⟩, ⟨HtB, HtX, HtY, HtW⟩, ⟨HcB, HcX, HcY⟩, HpB,
    ⟨⟨Hsx0, Hsx⟩, Hrx0, Hrx⟩, ⟨⟨Hsy00, Hsy0⟩, Hsy10, Hsy1⟩, ⟨Hry0, Hry⟩, Hw0, Hw1⟩
  ihave HXr := (Xr_some (F := F) c) $$ HXr; icases HXr with ⟨HXr0, HXr⟩
  ihave HSb := (Sb_some (F := F) c) $$ HSb
  ihave HWe := (We_some (F := F) c) $$ HWe; icases HWe with ⟨HWe0, HWe1⟩
  ihave HYb := (Yb_some (F := F) c) $$ HYb; icases HYb with ⟨HYb0, HYb1⟩
  ihave HYr := (Yr_some (F := F) c) $$ HYr; icases HYr with ⟨HYr0, HYr⟩
  isplitr [Hsx0 Hrx0 Hsy00 Hsy10 Hry0]
  · isplitl [HO]; · iexact HO
    isplitl [HcB HpB]; · isplitl [HcB] <;> iassumption
    isplitl [HtB HXr HYr]
    · unfold SigPre
      rw [sep_eqL, sep_eqL]
      isplitl [HtB]; · iexact HtB
      isplitl [HXr] <;> iassumption
    isplitl [Hsr]; · iexact Hsr
    isplitl [Hp]; · iexact Hp
    isplitl [Hx]; · iexact Hx
    isplitl [Hsw]; · iexact Hsw
    isplitl [Hsc]; · iexact Hsc
    isplitl [Ho]; · iexact Ho
    isplitl [HSb]; · iexact HSb
    isplitl [HtX]; · iexact HtX
    isplitl [Hsx]; · iexact Hsx
    isplitl [HXr0]; · iexact HXr0
    isplitl [HcX Hrx]
    · rw [sep_eqL]; isplitl [HcX] <;> iassumption
    isplitl [HWe0 Hw0]
    · unfold WF
      isplitl [HWe0]; · iexact HWe0
      isplitl [Hw0]; · iexact Hw0
      iapply (Cx_own I K c (oW 0)) $$ HC
    isplitl [HWe1 Hw1]
    · unfold WF
      isplitl [HWe1]; · iexact HWe1
      isplitl [Hw1]; · iexact Hw1
      iapply (Cx_own I K c (oW 1)) $$ HC
    isplitl [HYb0 Hsy0]
    · unfold YF
      isplitl [HYb0]; · iexact HYb0
      rw [sep_eqL]
      isplitl [Hsy0]; · iexact Hsy0
      iapply (Own_others I K c 0) $$ HC
    isplitl [HYb1 Hsy1]
    · unfold YF
      isplitl [HYb1]; · iexact HYb1
      rw [sep_eqL]
      isplitl [Hsy1]; · iexact Hsy1
      iapply (Own_others I K c 1) $$ HC
    isplitl [HYr0 HtY]
    · unfold YTok
      rw [sep_eqL]
      isplitl [HYr0] <;> iassumption
    isplitl [HcY Hry]
    · unfold PC
      rw [show (fun e => bigSepL others fun k => iprop(cr c (.inr (oRY k e)) NY ∗ pos c (.inr (oRY k e)) 0) : Fin 8 → sProp 𝕄)
        = fun e => iprop((bigSepL others fun k => cr c (.inr (oRY k e)) NY) ∗ bigSepL others fun k => pos c (.inr (oRY k e)) 0)
        from funext fun e => sep_eqL _ _ _, sep_eqL]
      isplitl [HcY] <;> iassumption
    unfold PW
    rw [sep_eqL]
    isplitl [HtW] <;> iassumption
  isplitl [Hsx0]; · iexact Hsx0
  isplitl [Hrx0]; · iexact Hrx0
  isplitl [Hsy00]; · iexact Hsy00
  isplitl [Hsy10] <;> iassumption

theorem post_elim [∀ e, Nonempty (Elt F e)] : iprop(BodyPost I c ∗ Idle c)
    ⊢ iprop(OW c [] ∗ Ins I c ∗ wh c mO (OUT I c 8) ∗ wh c mEw (I c).ew ∗ Scr c ∗ pos c (.inl ()) 1 ∗ OPos (F := F) c fin) := by
  unfold OPos
  rw [os_split, Ew_parts, all_list]
  unfold Scr Ins BodyPost Idle WF YF DC
  rw [sep_eqL, sep_eqL, sep_eqL]
  iintro ⟨⟨HO, HpB, Hsr, Hp, Hx, Hsw, Hsc, Hsx, Hrx, ⟨HYr, Hry⟩, Hew, ⟨HWe0, Hw0, -⟩, ⟨HWe1, Hw1, -⟩, ⟨HYb0, Hsy0, -⟩, ⟨HYb1, Hsy1, -⟩, HSb, Ho, HXr⟩,
    Hsx0, Hrx0, Hsy00, Hsy10, Hry0⟩
  isplitl [HO]; · iexact HO
  isplitl [Hsr Hp Hx Hsw Hsc]
  · isplitl [Hx]; · iexact Hx
    isplitl [Hp]; · iexact Hp
    isplitl [Hsr]; · iexact Hsr
    isplitl [Hsc] <;> iassumption
  isplitl [Ho]; · iexact Ho
  isplitl [Hew]; · iexact Hew
  isplitl [HXr HSb HWe0 HWe1 HYb0 HYb1 HYr]
  · isplitl [HXr]; · iexists _; iexact HXr
    isplitl [HSb]; · iapply (Sb_again (F := F) c) $$ HSb
    isplitl [HWe0 HWe1]
    · iapply (We_join (F := F) c)
      iapply (show iprop(pa (F := F) c (vWe 0) ∗ pa c (vWe 1)) ⊢ _ from Entails.of_eq (bigSep_fin_two fun k => pa (F := F) c (vWe k)).symm)
      isplitl [HWe0]; · iexact HWe0
      iexact HWe1
    isplitl [HYb0 HYb1]
    · iapply (Yb_join (F := F) c)
      iapply (show iprop((∃ f, hYb' (F := F) c 0 f) ∗ (∃ f, hYb' c 1 f)) ⊢ _ from Entails.of_eq (bigSep_fin_two fun p => iprop(∃ f, hYb' (F := F) c p f)).symm)
      isplitl [HYb0]; · iexact HYb0
      iexact HYb1
    iexists (YR I c)
    iapply (Entails.of_eq (Yr_cols (F := F) c (YR I c)).symm)
    iapply (Entails.of_eq (all_list (F := F) (Φ := fun e => cYr c e (YR I c))).symm) $$ HYr
  isplitl [HpB]; · iexact HpB
  isplitl [Hsx0 Hsx Hrx0 Hrx]
  · isplitl [Hsx0 Hsx]
    · isplitl [Hsx0]; · iexact Hsx0
      iexact Hsx
    · isplitl [Hrx0]; · iexact Hrx0
      iexact Hrx
  isplitl [Hsy00 Hsy0 Hsy10 Hsy1]
  · isplitl [Hsy00 Hsy0]
    · isplitl [Hsy00]; · iexact Hsy00
      iexact Hsy0
    · isplitl [Hsy10]; · iexact Hsy10
      iexact Hsy1
  isplitl [Hry0 Hry]
  · isplitl [Hry0]; · iexact Hry0
    iexact Hry
  isplitl [Hw0]; · iexact Hw0
  iexact Hw1

/-! ## Opening and closing the cells -/

theorem close_all : iprop(Cx I K c ∗ pos c (.inl ()) 1 ∗ OPos c fin)
    ⊢ (|={Set.univ}=> iprop(semVal (barC c) 0 ∗ bigSep Finset.univ fun s : Os => semVal (cell c (.inr s)) 0) : sProp 𝕄) := by
  have one (s : Os) : iprop(Cx I K c ∗ pos c (.inr s) (fin s)) ⊢ (|={Set.univ}=> semVal (cell c (.inr s)) 0 : sProp 𝕄) := by
    iintro ⟨#HC, Hp⟩
    ihave #HI := (Cx_inv I K c c (.inr s)) $$ HC
    iapply (Rounds.cell_close ER (Rd I) (Set.mem_univ (K (cell c (.inr s)))) (fun h => h) (R := fin s) (later I c s))
    isplitr; · iexact HI
    iexact Hp
  have all := bigSep_with_persistent (S := Finset.univ) (R := Cx I K c) fun s _ => one s
  iintro ⟨#HC, HpB, Hp⟩
  ihave #HI := (Cx_inv I K c c (.inl ())) $$ HC
  imod (Rounds.cell_close ER (Rd I) (Set.mem_univ (K (barC c))) (fun h => h) (R := 1) (later_bar I c)) $$ [HpB] with HB
  · isplitr; · iexact HI
    iexact HpB
  imod ((all).trans (bigSep_fupd _ _)) $$ [Hp] with Hs
  · isplitr; · iexact HC
    unfold OPos
    iexact Hp
  imodintro
  isplitl [HB] <;> iassumption

end Cert.KernelIdeal.Moe

end
-- ==== Proof.Region.lean ====
/- The region: its windows before and after, the body at its one point, and what enters and leaves. -/
module

public import proofs.«01_k».proof.Proof.BodyEq
public import proofs.«01_k».proof.Proof.Deal
public import proofs.«01_k».proof.Proof.Gen.KernelIdeal.Regions

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (W : Dev nD → Valuation τ sig (Elt F))

/-- What the region finds on device `c`. -/
def inp (c : Dev nD) : Inp F where
  sr := W c (Proc.devRef .tc main_v47)
  p := W c (Proc.devRef .tc main_v46)
  sc := W c (Proc.devRef .tc main_v48)
  x := W c (Proc.devRef .tc main_arg0)
  sw := W c (Proc.devRef .tc main_arg4)
  ew := W c (Proc.devRef .tc main_arg3)

/-- What it leaves. -/
def Wout (c : Dev nD) : Valuation τ sig (Elt F) := Function.update (W c) (Proc.devRef .tc main_v49) (OUT (inp W) c 8)

/-- Launched: the invariants, the bar cell's round, tokens, credits; the other cells still to open. -/
def Tk (c : Dev nD) : sProp 𝕄 :=
  iprop((∃ K : GSem nD τ sig → ℕ, (bigSep Finset.univ fun x : Dev nD × Cs => cellInv ER (Rd (inp W)) (K (cell x.1 x.2)) (cell x.1 x.2))
      ∗ bigSep Finset.univ fun d : Dev nD => reached ER (barC d) 0)
    ∗ pos c (.inl ()) 0 ∗ (bigSep Finset.univ fun s : Os => openTok ER (cell c (.inr s))) ∗ Toks c ∗ Creds c)
/-- Opened. -/
def Xk (c : Dev nD) : sProp 𝕄 :=
  iprop((∃ K : GSem nD τ sig → ℕ, Cx (inp W) K c) ∗ pos c (.inl ()) 0 ∗ OPos c (fun _ => 0) ∗ Toks c ∗ Creds c)
def Yk (c : Dev nD) : sProp 𝕄 := semVal (barC c) 0

theorem own_eq (c : Dev nD) : (bigSep Finset.univ fun s : Os => semVal (cell c (.inr s)) 0) ⊢ (Pipeline.ownSems0 osem c : sProp 𝕄) := by
  unfold Pipeline.ownSems0; exact .rfl
theorem own_eq' (c : Dev nD) : (Pipeline.ownSems0 osem c : sProp 𝕄) ⊢ bigSep Finset.univ fun s : Os => semVal (cell c (.inr s)) 0 := by
  unfold Pipeline.ownSems0; exact .rfl

theorem hopen (c : Dev nD) : iprop(Tk W c ∗ Pipeline.ownSems0 osem c ∗ levAts L lv) ⊢ (|={Set.univ}=> Xk W c : sProp 𝕄) := by
  unfold Tk Xk
  iintro ⟨⟨⟨%K, #HI, #HB⟩, HpB, Ho, Ht, Hc⟩, Hs, #HL⟩
  have one (s : Os) : iprop((bigSep Finset.univ fun x : Dev nD × Cs => cellInv ER (Rd (inp W)) (K (cell x.1 x.2)) (cell x.1 x.2))
      ∗ openTok ER (cell c (.inr s)) ∗ semVal (cell c (.inr s)) 0)
      ⊢ (|={Set.univ}=> iprop(pos c (.inr s) 0 ∗ reached ER (cell c (.inr s)) 0) : sProp 𝕄) := by
    iintro ⟨#HI, Ho, Hs⟩
    ihave #Hi := (bigSep_get (i := ((c, .inr s) : Dev nD × Cs)) (Finset.mem_univ _)
      (fun x : Dev nD × Cs => cellInv ER (Rd (inp W)) (K (cell x.1 x.2)) (cell x.1 x.2))) $$ HI
    iapply (Rounds.cell_open ER (Rd (inp W)) (g := cell c (.inr s)) (Set.mem_univ (K (cell c (.inr s)))))
    isplitr; · iexact Hi
    isplitl [Ho] <;> iassumption
  have all : iprop((bigSep Finset.univ fun x : Dev nD × Cs => cellInv ER (Rd (inp W)) (K (cell x.1 x.2)) (cell x.1 x.2))
      ∗ (bigSep Finset.univ fun s : Os => openTok ER (cell c (.inr s))) ∗ (bigSep Finset.univ fun s : Os => semVal (cell c (.inr s)) 0))
      ⊢ (|={Set.univ}=> iprop(OPos c (fun _ => 0) ∗ bigSep Finset.univ fun s : Os => reached ER (cell c (.inr s)) 0) : sProp 𝕄) := by
    unfold OPos
    rw [← bigSep_sep', ← bigSep_sep']
    exact (bigSep_with_persistent fun s _ => one s).trans (bigSep_fupd _ _)
  ihave Hs := (own_eq' c) $$ Hs
  imod all $$ [Ho Hs] with ⟨Hp, #Hr⟩
  · isplitr; · iexact HI
    isplitl [Ho]; · iexact Ho
    iexact Hs
  imodintro
  isplitr
  · iexists K; unfold Cx
    isplitr; · iexact HI
    isplitr; · iexact HB
    isplitr; · iexact Hr
    iexact HL
  isplitl [HpB]; · iexact HpB
  isplitl [Hp]; · iexact Hp
  isplitl [Ht] <;> iassumption

/-! ## The windows -/

/-- The region's invariant before its point, and after it. -/
def Enter (c : Dev nD) : sProp 𝕄 := iprop(Xk W c ∗ wh c mEw (inp W c).ew ∗ Scr c ∗ ∃ r, prngReg c r)
def Exit (c : Dev nD) : sProp 𝕄 := iprop(Yk c ∗ Pipeline.ownSems0 osem c ∗ wh c mEw (inp W c).ew ∗ Scr c ∗ ∃ r, prngReg c r)

def dat (c : Dev nD) : Pipeline.Dat τ (Elt F) Unit ℕ UU ℕ cfg0 c where
  A w := W c (Proc.devRef .tc (Pipeline.arrRef spec0 w))
  after w _ := match w with
    | ⟨0, _⟩ => (inp W c).x
    | ⟨1, _⟩ => (inp W c).p
    | ⟨2, _⟩ => (inp W c).sr
    | ⟨3, _⟩ => (inp W c).sc
    | ⟨4, _⟩ => (inp W c).sw
    | ⟨5, _⟩ => OUT (inp W) c 8
  Φ t := if t.val = 0 then Enter W c else Exit W c
  q _ := fullShare
  owed t := if t.val = 0 then O₀ c else 0

def pdats : (p : Fin 1) → (c : Dev nD) → Pipeline.Dat τ (Elt F) Unit ℕ UU ℕ (Pipeline.pin (pcfgs (F := F)) adm p) c
  | 0 => dat W

theorem blk0 (j : (cfg0.win 0).block.Idx) : ((cfg0.win 0).blk t0_0).view.emb j = j := by
  funext a; apply Fin.ext
  show 0 * _ + 1 * (j a).val = (j a).val
  omega
theorem before0 (c : Dev nD) (d) : (dat W c).before 0 t0_0 d = (inp W c).x := by
  unfold Pipeline.Dat.before; rw [if_pos (by decide)]
  funext j
  show (inp W c).x (((cfg0.win 0).blk t0_0).view.emb j) = _
  rw [blk0]
theorem blk1 (j : (cfg0.win 1).block.Idx) : ((cfg0.win 1).blk t0_0).view.emb j = j := by
  funext a; apply Fin.ext
  show 0 * _ + 1 * (j a).val = (j a).val
  omega
theorem before1 (c : Dev nD) (d) : (dat W c).before 1 t0_0 d = (inp W c).p := by
  unfold Pipeline.Dat.before; rw [if_pos (by decide)]
  funext j
  show (inp W c).p (((cfg0.win 1).blk t0_0).view.emb j) = _
  rw [blk1]
theorem blk2 (j : (cfg0.win 2).block.Idx) : ((cfg0.win 2).blk t0_0).view.emb j = j := by
  funext a; apply Fin.ext
  show 0 * _ + 1 * (j a).val = (j a).val
  omega
theorem before2 (c : Dev nD) (d) : (dat W c).before 2 t0_0 d = (inp W c).sr := by
  unfold Pipeline.Dat.before; rw [if_pos (by decide)]
  funext j
  show (inp W c).sr (((cfg0.win 2).blk t0_0).view.emb j) = _
  rw [blk2]
theorem blk3 (j : (cfg0.win 3).block.Idx) : ((cfg0.win 3).blk t0_0).view.emb j = j := by
  funext a; apply Fin.ext
  show 0 * _ + 1 * (j a).val = (j a).val
  omega
theorem before3 (c : Dev nD) (d) : (dat W c).before 3 t0_0 d = (inp W c).sc := by
  unfold Pipeline.Dat.before; rw [if_pos (by decide)]
  funext j
  show (inp W c).sc (((cfg0.win 3).blk t0_0).view.emb j) = _
  rw [blk3]
theorem blk4 (j : (cfg0.win 4).block.Idx) : ((cfg0.win 4).blk t0_0).view.emb j = j := by
  funext a; apply Fin.ext
  show 0 * _ + 1 * (j a).val = (j a).val
  omega
theorem before4 (c : Dev nD) (d) : (dat W c).before 4 t0_0 d = (inp W c).sw := by
  unfold Pipeline.Dat.before; rw [if_pos (by decide)]
  funext j
  show (inp W c).sw (((cfg0.win 4).blk t0_0).view.emb j) = _
  rw [blk4]
theorem blk5 (j : (cfg0.win 5).block.Idx) : ((cfg0.win 5).blk t0_0).view.emb j = j := by
  funext a; apply Fin.ext
  show 0 * _ + 1 * (j a).val = (j a).val
  omega

theorem fin_one (t t' : Fin cfg0.N) (h : t ≠ t') : False := h ((fin_N0 t).trans (fin_N0 t').symm)

theorem result5 (c : Dev nD) : (dat W c).arrAt 5 cfg0.N = OUT (inp W) c 8 := by
  funext j
  have h := (dat W c).arrAt_emb_eq_flushed 5 (fun t t' _ _ h => (fin_one t t' h).elim) t0_0 (by decide) j
  rw [blk5] at h
  exact h

theorem entry (c : Dev nD) (w : Fin 6) : (dat W c).arrAt w 0 = W c (Proc.devRef .tc (Pipeline.arrRef spec0 w)) := rfl

theorem Wout_of (c : Dev nD) (b : DevRef τ sig) (h : b ≠ Proc.devRef .tc main_v49) : Wout W c b = W c b := Function.update_of_ne h _ _
theorem Wout_self (c : Dev nD) : Wout W c (Proc.devRef .tc main_v49) = OUT (inp W) c 8 := Function.update_self (Proc.devRef .tc main_v49) _ _

theorem leave (c : Dev nD) (w : Fin 6) : (dat W c).arrAt w cfg0.N = Wout W c (Proc.devRef .tc (Pipeline.arrRef spec0 w)) := by
  match w with
  | 0 => exact ((dat W c).arrAt_in 0 rfl _).trans (Wout_of W c (Proc.devRef .tc main_arg0) (by decide)).symm
  | 1 => exact ((dat W c).arrAt_in 1 rfl _).trans (Wout_of W c (Proc.devRef .tc main_v46) (by decide)).symm
  | 2 => exact ((dat W c).arrAt_in 2 rfl _).trans (Wout_of W c (Proc.devRef .tc main_v47) (by decide)).symm
  | 3 => exact ((dat W c).arrAt_in 3 rfl _).trans (Wout_of W c (Proc.devRef .tc main_v48) (by decide)).symm
  | 4 => exact ((dat W c).arrAt_in 4 rfl _).trans (Wout_of W c (Proc.devRef .tc main_arg4) (by decide)).symm
  | 5 => exact (result5 W c).trans (Wout_self W c).symm

theorem owed_first (c : Dev nD) : (dat W c).owed t0_0.castSucc = O₀ c := by
  show (if (t0_0.castSucc : Fin (cfg0.N + 1)).val = 0 then O₀ c else 0) = O₀ c; exact if_pos rfl
theorem owed_last (c : Dev nD) : (dat W c).owed (Fin.last _) = 0 := by
  show (if (Fin.last cfg0.N).val = 0 then O₀ c else 0) = 0
  rw [Fin.val_last, if_neg (by rw [show cfg0.N = 1 from N_0]; decide)]

theorem owes_intro (c : Dev nD) (t : Fin (cfg0.N + 1)) (O : CellTallies nD τ sig Unit) (h0 : (dat W c).owed t = O) (X : Waits sig Unit) :
    (owes (c : Thread nD τ) O X : sProp 𝕄) ⊢ ((dat W c).owesAt () t : sProp 𝕄) := by
  unfold Pipeline.Dat.owesAt Pipeline.owesWithin Pipeline.Dat.bound; rw [h0]
  iintro HO; iexists X; isplitr; · ipureintro; exact fun _ _ => Or.inl trivial
  iexact HO
theorem owes_elim (c : Dev nD) (t : Fin (cfg0.N + 1)) (O : CellTallies nD τ sig Unit) (h0 : (dat W c).owed t = O) :
    ((dat W c).owesAt () t : sProp 𝕄) ⊢ iprop(∃ X, owes (c : Thread nD τ) O X) := by
  unfold Pipeline.Dat.owesAt Pipeline.owesWithin; rw [h0]
  iintro ⟨%X, -, HO⟩; iexists X; iexact HO

/-! ## The body -/

theorem first (c : Dev nD) : (dat W c).Φ t0_0.castSucc = Enter W c := by
  show (if (t0_0.castSucc : Fin (cfg0.N + 1)).val = 0 then Enter W c else Exit W c) = _; exact if_pos rfl
theorem last (c : Dev nD) : (dat W c).Φ t0_0.succ = Exit W c := by
  show (if (t0_0.succ : Fin (cfg0.N + 1)).val = 0 then Enter W c else Exit W c) = _; exact if_neg (Nat.succ_ne_zero _)

theorem body_wp [∀ e, Nonempty (Elt F e)] (I : Dev nD → Inp F) (K : GSem nD τ sig → ℕ) (c : Dev nD) (Q : PUnit → sProp 𝕄) :
    iprop(Cx I K c ∗ OW c (dues c) ∗ Ins I c ∗ (∃ f, wh c mO f) ∗ wh c mEw (I c).ew ∗ Scr c ∗ Toks c ∗ Creds c
      ∗ pos c (.inl ()) 0 ∗ OPos c (fun _ => 0)
      ∗ (OW c [] ∗ Ins I c ∗ wh c mO (OUT I c 8) ∗ wh c mEw (I c).ew ∗ Scr c ∗ semVal (barC c) 0 ∗ Pipeline.ownSems0 osem c -∗ Q ⟨⟩))
      ⊢ WP c (bodyAt0 (F := F) t0_0) Q := by
  rw [body_eq]
  iintro ⟨#HC, HO, HI, Ho, Hew, Hs, Ht, Hc, HpB, Hp, Hk⟩
  ihave Hb := (pre_intro I K c) $$ [HO HI Ho Hew Hs Ht Hc HpB Hp]
  · isplitr; · iexact HC
    isplitl [HO]; · iexact HO
    isplitl [HI]; · iexact HI
    isplitl [Ho]; · iexact Ho
    isplitl [Hew]; · iexact Hew
    isplitl [Hs]; · iexact Hs
    isplitl [Ht]; · iexact Ht
    isplitl [Hc]; · iexact Hc
    isplitl [HpB]; · iexact HpB
    iexact Hp
  icases Hb with ⟨Hb, Hi⟩
  unfold WP
  iapply wp_fupd
  iapply (nice_wp I K c _)
  isplitr; · iexact HC
  isplitl [Hb]; · iexact Hb
  iintro Hb
  ihave Hb := (post_elim I c) $$ [Hb Hi]
  · isplitl [Hb] <;> iassumption
  icases Hb with ⟨HO, HI, Ho, Hew, Hs, HpB, Hp⟩
  imod (close_all I K c) $$ [HpB Hp] with ⟨HB, HS⟩
  · isplitr; · iexact HC
    isplitl [HpB] <;> iassumption
  imodintro
  iapply Hk
  isplitl [HO]; · iexact HO
  isplitl [HI]; · iexact HI
  isplitl [Ho]; · iexact Ho
  isplitl [Hew]; · iexact Hew
  isplitl [Hs]; · iexact Hs
  isplitl [HB]; · iexact HB
  iapply (own_eq c) $$ HS

omit [FloatOps F] in
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole _ _ _ _

set_option maxRecDepth 4000 in
theorem body_ob [∀ e, Nonempty (Elt F e)] (c : Dev nD) : Pipeline.BodyObligation (dat W c) (defs₀ (F := F)) 𝒱₀ () Set.univ := fun t => by
  obtain rfl := fin_N0 t
  rw [bigSep_W0, bigSep_W0, first, last]
  simp only [owns_eq]
  unfold Enter Exit Xk Yk
  iintro ⟨⟨⟨⟨%K, #HC⟩, HpB, Hp, Ht, Hc⟩, Hew, Hs, Hr⟩, HO, ⟨%d0, H0⟩, ⟨%d1, H1⟩, ⟨%d2, H2⟩, ⟨%d3, H3⟩, ⟨%d4, H4⟩, ⟨%d5, H5⟩⟩
  rw [before0, before1, before2, before3, before4]
  ihave HO := (owes_elim W c _ (O₀ c) (owed_first W c)) $$ HO
  iapply (body_wp (inp W) K c _)
  isplitr; · iexact HC
  isplitl [HO]; · unfold OW; iexact HO
  isplitl [H0 H1 H2 H3 H4]
  · unfold Ins
    isplitl [H0]; · iexact H0
    isplitl [H1]; · iexact H1
    isplitl [H2]; · iexact H2
    isplitl [H3]; · iexact H3
    iexact H4
  isplitl [H5]; · iexists _; iexact H5
  isplitl [Hew]; · iexact Hew
  isplitl [Hs]; · iexact Hs
  isplitl [Ht]; · iexact Ht
  isplitl [Hc]; · iexact Hc
  isplitl [HpB]; · iexact HpB
  isplitl [Hp]; · iexact Hp
  unfold OW Ins
  iintro ⟨⟨%X, HO⟩, ⟨H0, H1, H2, H3, H4⟩, H5, Hew, Hs, HB, HS⟩
  isplitl [Hew Hs HB HS Hr]
  · isplitl [HB]; · iexact HB
    isplitl [HS]; · iexact HS
    isplitl [Hew]; · iexact Hew
    isplitl [Hs]; · iexact Hs
    iexact Hr
  isplitl [HO]; · iapply (owes_intro W c t0_0.succ 0 (owed_last W c) X); iexact HO
  isplitl [H0]; · iexact H0
  isplitl [H1]; · iexact H1
  isplitl [H2]; · iexact H2
  isplitl [H3]; · iexact H3
  isplitl [H4]; · iexact H4
  iexact H5

/-! ## The segment -/

/-- What the body addresses itself, and the buffers no window stages. -/
def Hs : Finset (DevRef τ sig) := {Proc.devRef .tc main_arg3}
def Sr : Finset (DevRef τ sig) := Pipeline.ucRefs τ sig \ Pipeline.arrRefs (τ := τ) spec0

theorem Hs_sub : Hs ⊆ Sr := fun b hb => by
  rw [Finset.mem_singleton.mp hb]; unfold Sr
  exact Finset.mem_sdiff.mpr ⟨by decide, by decide⟩

theorem held_Hs (c : Dev nD) (V : Valuation τ sig (Elt F)) :
    (StableHlo.held (c.tc : Thread nD τ) Hs V : sProp 𝕄) = wh c mEw (V (Proc.devRef .tc main_arg3)) := by
  unfold StableHlo.held Hs; rw [BI.bigSep_singleton]

theorem rest_eq (c : Dev nD) :
    (Pipeline.scopedRest (Ix := Unit) (Name := ℕ) (U := UU) (Lvl := ℕ) (Val := Elt F) (Pipeline.pin (pcfgs (F := F)) adm 0).spec c : sProp 𝕄) = Scr c :=
  scopedRest0_eq c

theorem enter (c : Dev nD) : iprop(Pipeline.scopedRest (Pipeline.pin (pcfgs (F := F)) adm 0).spec c ∗ (∃ r, prngReg c r)
      ∗ StableHlo.held (c.tc : Thread nD τ) Hs (W c) ∗ Xk W c) ⊢ (pdats W 0 c).Φ 0 := by
  rw [show (pdats W 0 c).Φ 0 = Enter W c from first W c, rest_eq, held_Hs]
  unfold Enter
  iintro ⟨Hs, Hp, Hew, HX⟩
  isplitl [HX]; · iexact HX
  isplitl [Hew]; · iexact Hew
  isplitl [Hs]; · iexact Hs
  iexact Hp

theorem exit (c : Dev nD) : (pdats W 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (Wout W c) ∗ Pipeline.ownSems0 osem c ∗ Yk c) := by
  rw [show (pdats W 0 c).Φ (Fin.last _) = Exit W c from last W c, rest_eq, held_Hs, Wout_of W c _ (by decide)]
  unfold Exit
  iintro ⟨HB, HS, Hew, Hs, Hp⟩
  isplitl [Hs]; · iexact Hs
  isplitl [Hp]; · iexact Hp
  isplitl [Hew]; · iexact Hew
  isplitl [HS]; · iexact HS
  iexact HB

theorem lv_dma_stage (c : Dev nD) (w : Fin 6) (s : Fin ((cfg0.win w).nbuf)) : lv ((c : Thread nD τ), .dma ((cfg0.win w).sem s)) () = 0 := by
  show lvO (dec (.dma ((cfg0.win w).sem s))) = 0
  revert w; decide

theorem above_zero (c : Dev nD) : ∀ x ∈ dues c, 0 < lvO (some x.2.1) := fun x hx => by
  unfold dues at hx
  rcases List.mem_append.mp hx with h | h
  · obtain ⟨k, -, rfl⟩ := List.mem_map.mp h; exact Nat.one_pos
  · exact above_append (above_mono (Nat.zero_le 1) (above_X c others)) (above_Ys c 0 all8 fun e _ => by omega) x h

theorem cut (c : Dev nD) (t : Fin ((Pipeline.pin (pcfgs (F := F)) adm 0).N + 1)) (g : GSem nD τ sig) (i : Unit)
    (h : 0 < (pdats W 0 c).owed t g i) : i ∈ L g ∧ (0 : ℕ) < lv g i := by
  have e : (pdats W 0 c).owed t = if t.val = 0 then O₀ c else 0 := rfl
  rw [e] at h
  split at h
  · obtain ⟨x, hx, rfl⟩ := ow_pos h
    exact ⟨by rw [L_tc]; exact Finset.mem_singleton_self _, by rw [lv_cell]; exact above_zero c x hx⟩
  · exact absurd h (Nat.lt_irrefl 0)

theorem owns_own : Pipeline.OwnSemFacts spec0 osem := by decide

set_option backward.isDefEq.respectTransparency.types false in
def reg [∀ e, Nonempty (Elt F e)] : Pipeline.RegionSeg (pcfgs (F := F)) adm (pdats W) () defs₀ 𝒱₀ L lv 0 :=
  Pipeline.RegionSeg.ofTalk (pcfgs (F := F)) adm (pdats W) () defs₀ 𝒱₀ L lv 0 osem owns_own
    Hs Sr Hs_sub launch0.toP rfl (fun c => (body_ob W c).loose)
    (fun _ => 0) O₀ (fun c => (owed_first W c).trans (zero_add _).symm) (owed_last W) (fun _ => rfl) (fun c w => by
      unfold Pipeline.Dat.share; split <;> rfl)
    W (Wout W) (fun c b hb => Wout_of W c b fun h => by
      subst h; exact (Finset.mem_sdiff.mp (Finset.mem_sdiff.mp hb).1).2 (by decide))
    (Tk W) Yk (Xk W) Yk (hopen W) (enter W) (exit W)
    (fun c => by iintro H; imodintro; iexact H)
    (fun _ => 0)
    ⟨fun c w s => by rw [L_tc]; exact Finset.mem_singleton_self _, fun c w s => Nat.le_of_eq (lv_dma_stage c w s), fun c t g i h => cut W c t g i h⟩
    (fun _ => iprop(emp))
    (entry W) (leave W)

end Cert.KernelIdeal.Moe
-- ==== Proof.Launch.lean ====
/- The launch: every cell funded, and tokens, credits and positions handed to the devices that use them. -/
module

public import proofs.«01_k».proof.Proof.Region

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cells and tokens -/

def barEmb : Dev nD ↪ GSem nD τ sig := ⟨fun c => barC c, fun _ _ h => congrArg (fun g : GSem nD τ sig => g.1.1) h⟩
def ownEmb : Dev nD × Os ↪ GSem nD τ sig := ⟨fun x => cell x.1 (.inr x.2), fun _ _ h =>
  Prod.ext (cell_inj h).1 (Sum.inr.inj (cell_inj h).2)⟩
abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact absurd (cell_inj (c := x.1) (c' := c) (s := .inr x.2) (s' := .inl ()) h).2 (fun h => by cases h)

theorem cell_mem (d : Dev nD) : (s : Cs) → cell d s ∈ (barCells ∪ ownCells : Finset (GSem nD τ sig))
  | .inl () => Finset.mem_union_left _ (Finset.mem_map_of_mem barEmb (Finset.mem_univ d))
  | .inr s => Finset.mem_union_right _ (Finset.mem_map_of_mem ownEmb (Finset.mem_univ (d, s)))

/-- The duties: signals, token sends and receives, result sends and receives, weights. -/
abbrev TI : Type := Fin 8 ⊕ (Fin 8 ⊕ (Fin 8 ⊕ ((Fin 8 × Fin 8) ⊕ ((Fin 8 × Fin 8) ⊕ Fin 8))))
def duty : TI → Cs × ℕ × Fin 8
  | .inl k => (.inl (), 0, k)
  | .inr (.inl k) => (.inr (oSX k), 0, 0)
  | .inr (.inr (.inl k)) => (.inr (oRX k), 0, 0)
  | .inr (.inr (.inr (.inl (e, k)))) => (.inr (oSY (half e) k), rd e, 0)
  | .inr (.inr (.inr (.inr (.inl (e, k))))) => (.inr (oRY k e), 0, 0)
  | .inr (.inr (.inr (.inr (.inr e)))) => (.inr (oW (half e)), rd e, 0)

theorem half_rd {e e' : Fin 8} (h : half e = half e') (h' : rd e = rd e') : e = e' := by
  rw [← rd_half e, ← rd_half e', h, h']

theorem duty_inj : Function.Injective duty := by
  rintro (k | k | k | ⟨e, k⟩ | ⟨e, k⟩ | e) (k' | k' | k' | ⟨e', k'⟩ | ⟨e', k'⟩ | e') h <;>
    simp only [duty, Prod.mk.injEq, Sum.inr.injEq, Sum.inl.injEq, reduceCtorEq, false_and, and_true, true_and] at h
  · rw [h]
  · rw [h]
  · rw [h]
  · rw [half_rd h.1.1 h.2, h.1.2]
  · rw [h.1, h.2]
  · rw [half_rd h.1 h.2]

def tokEmb : Dev nD × TI ↪ GSem nD τ sig × ℕ × Fin 8 :=
  ⟨fun x => (cell x.1 (duty x.2).1, (duty x.2).2), fun x y h => by
    have h1 := cell_inj (congrArg Prod.fst h)
    exact Prod.ext h1.1 (duty_inj (Prod.ext h1.2 (Prod.mk.inj h).2))⟩
def allToks : Finset (GSem nD τ sig × ℕ × Fin 8) := Finset.univ.map tokEmb

/-! ## Tokens to whoever pays -/

theorem comm {A B : Type} [Fintype A] [Fintype B] [DecidableEq A] [DecidableEq B] (Φ : A → B → sProp 𝕄) :
    (bigSep Finset.univ fun a => bigSep Finset.univ (Φ a) : sProp 𝕄) = bigSep Finset.univ fun b => bigSep Finset.univ fun a => Φ a b :=
  (bigSep_univ_prod (fun x : A × B => Φ x.1 x.2)).symm.trans ((bigSep_univ_equiv (Equiv.prodComm B A) _).trans (bigSep_univ_prod _))

theorem shift_up (Φ : Dev nD → Fin 8 → sProp 𝕄) : (bigSep Finset.univ fun d => bigSep Finset.univ (Φ d) : sProp 𝕄)
    = bigSep Finset.univ fun d => bigSep Finset.univ fun k => Φ (up d k) k := by
  rw [comm, comm (fun d k => Φ (up d k) k)]
  exact bigSep_congr fun k _ => bigSep_univ_equiv (Equiv.addRight (k : Fin 8)) (fun d : Fin 8 => Φ d k)
theorem shift_dn (Φ : Dev nD → Fin 8 → sProp 𝕄) : (bigSep Finset.univ fun d => bigSep Finset.univ (Φ d) : sProp 𝕄)
    = bigSep Finset.univ fun d => bigSep Finset.univ fun k => Φ (dn d k) k := by
  rw [comm, comm (fun d k => Φ (dn d k) k)]
  exact bigSep_congr fun k _ => bigSep_univ_equiv (Equiv.subRight (k : Fin 8)) (fun d : Fin 8 => Φ d k)

/-- With what nobody pays. -/
def ToksAll (c : Dev nD) : sProp 𝕄 :=
  iprop((bigSep Finset.univ fun k : Fin 8 => dutyTok ER (barC (up c k)) 0 k) ∗ (bigSep Finset.univ fun k : Fin 8 => tok c (.inr (oSX k)) 0)
    ∗ (bigSep Finset.univ fun k : Fin 8 => tok (up c k) (.inr (oRX k)) 0)
    ∗ (bigSep Finset.univ fun e : Fin 8 => bigSep Finset.univ fun k : Fin 8 => tok c (.inr (oSY (half e) k)) (rd e))
    ∗ (bigSep Finset.univ fun e : Fin 8 => bigSep Finset.univ fun k : Fin 8 => tok (dn c k) (.inr (oRY k e)) 0)
    ∗ bigSep Finset.univ fun e : Fin 8 => tok c (.inr (oW (half e))) (rd e))

theorem toks_split (d : Dev nD) : (bigSep Finset.univ fun t : TI => dutyTok ER (cell d (duty t).1) (duty t).2.1 (duty t).2.2 : sProp 𝕄)
    = iprop((bigSep Finset.univ fun k : Fin 8 => dutyTok ER (barC d) 0 k) ∗ (bigSep Finset.univ fun k : Fin 8 => tok d (.inr (oSX k)) 0)
    ∗ (bigSep Finset.univ fun k : Fin 8 => tok d (.inr (oRX k)) 0)
    ∗ (bigSep Finset.univ fun e : Fin 8 => bigSep Finset.univ fun k : Fin 8 => tok d (.inr (oSY (half e) k)) (rd e))
    ∗ (bigSep Finset.univ fun e : Fin 8 => bigSep Finset.univ fun k : Fin 8 => tok d (.inr (oRY k e)) 0)
    ∗ bigSep Finset.univ fun e : Fin 8 => tok d (.inr (oW (half e))) (rd e)) := by
  rw [bigSep_univ_sum, bigSep_univ_sum, bigSep_univ_sum, bigSep_univ_sum, bigSep_univ_sum, bigSep_univ_prod, bigSep_univ_prod]
  rfl

theorem toks_eq : bigSep allToks (fun x => (dutyTok ER x.1 x.2.1 x.2.2 : sProp 𝕄)) = bigSep Finset.univ fun c : Dev nD => ToksAll c := by
  unfold allToks ToksAll
  rw [bigSep_map, bigSep_univ_prod]
  refine (bigSep_congr fun d _ => toks_split d).trans ?_
  rw [bigSep_sep', bigSep_sep', bigSep_sep', bigSep_sep', bigSep_sep', bigSep_sep', bigSep_sep', bigSep_sep', bigSep_sep', bigSep_sep',
    shift_up (fun d k => dutyTok ER (barC d) 0 k), shift_up (fun d k => tok d (.inr (oRX k)) 0),
    comm (fun (d : Dev nD) (e : Fin 8) => bigSep Finset.univ fun k : Fin 8 => tok d (.inr (oRY k e)) 0),
    bigSep_congr fun e _ => shift_dn (fun d k => tok d (.inr (oRY k e)) 0),
    comm (fun (d : Dev nD) (e : Fin 8) => bigSep Finset.univ fun k : Fin 8 => tok (dn d k) (.inr (oRY k e)) 0)]

theorem drop (Φ : Fin 8 → sProp 𝕄) : (bigSep Finset.univ Φ : sProp 𝕄) ⊢ bigSepL others Φ := by
  rw [all8_cons]; iintro ⟨-, H⟩; iexact H
theorem drop2 (Φ : Fin 8 → Fin 8 → sProp 𝕄) : (bigSep Finset.univ fun e => bigSep Finset.univ (Φ e) : sProp 𝕄) ⊢ bigSepL all8 fun e => bigSepL others (Φ e) := by
  rw [← all_list]; exact bigSep_mono fun e _ => drop (Φ e)

theorem toks_of (c : Dev nD) : ToksAll c ⊢ (Toks c : sProp 𝕄) := by
  unfold ToksAll Toks
  rw [sep_eqL, show (bigSepL all8 fun e => bigSepL others fun k => iprop(tok c (.inr (oSY (half e) k)) (rd e) ∗ tok (dn c k) (.inr (oRY k e)) 0) : sProp 𝕄)
    = iprop((bigSepL all8 fun e => bigSepL others fun k => tok c (.inr (oSY (half e) k)) (rd e)) ∗ bigSepL all8 fun e => bigSepL others fun k => tok (dn c k) (.inr (oRY k e)) 0)
    from (congrArg (bigSepL all8) (funext fun e => sep_eqL _ _ _)).trans (sep_eqL _ _ _)]
  iintro ⟨H1, H2, H3, H4, H5, H6⟩
  isplitl [H1]; · iapply (drop _) $$ H1
  isplitl [H2 H3]
  · isplitl [H2]; · iapply (drop _) $$ H2
    iapply (drop _) $$ H3
  isplitl [H4 H5]
  · isplitl [H4]; · iapply (drop2 _) $$ H4
    iapply (drop2 _) $$ H5
  iapply (Entails.of_eq all_list) $$ H6

/-! ## Credits to whoever is paid -/

theorem sum_zero {A : Type} (l : List A) (f : A → ℕ) (h : ∀ a ∈ l, f a = 0) : (l.map f).sum = 0 :=
  List.sum_eq_zero fun n hn => by obtain ⟨a, ha, rfl⟩ := List.mem_map.mp hn; exact h a ha

theorem sum_flat {A : Type} (l : List A) (g : A → List Due) (f : Due → ℕ) : ((l.flatMap g).map f).sum = (l.map fun a => ((g a).map f).sum).sum := by
  induction l with
  | nil => rfl
  | cons a l ih => rw [List.flatMap_cons, List.map_append, List.sum_append, ih, List.map_cons, List.sum_cons]

theorem owed_parts (d c : Dev nD) (s : Cs) : O₀ d (cell c s) () =
    (others.map fun k => if cell c s = cell (up d k) (.inl ()) then 1 else 0).sum
      + ((others.map fun k => if cell c s = cell (up d k) (.inr (oRX k)) then NX else 0).sum
        + (all8.map fun e => (others.map fun k => if cell c s = cell (dn d k) (.inr (oRY k e)) then NY else 0).sum).sum) := by
  unfold O₀ dues dueYs
  rw [ow_apply, List.map_append, List.map_append, List.sum_append, List.sum_append, sum_flat, List.map_map, List.map_map]
  simp only [List.map_map]
  rfl

theorem sum_all8 (f : Fin 8 → ℕ) : (all8.map f).sum = ∑ k, f k := by
  rw [← List.sum_toFinset f (by decide : all8.Nodup)]; rfl
theorem sum_others (f : Fin 8 → ℕ) : (others.map f).sum = ∑ k ∈ Finset.univ.erase 0, f k := by
  rw [← List.sum_toFinset f (by decide : others.Nodup)]; rfl
theorem eq_up : ∀ c d k : Fin 8, c = up d k ↔ d = dn c k := by decide
theorem eq_dn : ∀ c d k : Fin 8, c = dn d k ↔ d = up c k := by decide

theorem cell_eq (c c' : Dev nD) (s s' : Cs) : cell c s = cell c' s' ↔ c = c' ∧ s = s' :=
  ⟨cell_inj, fun h => by rw [h.1, h.2]⟩

theorem same (c c' : Dev nD) (s : Cs) (n : ℕ) : (if cell c s = cell c' s then n else 0) = if c = c' then n else 0 :=
  if_congr ⟨fun h => (cell_inj h).1, fun h => by rw [h]⟩ rfl rfl
theorem diff (c c' : Dev nD) {s s' : Cs} (n : ℕ) (h : s ≠ s') : (if cell c s = cell c' s' then n else 0) = 0 :=
  if_neg fun h' => h (cell_inj h').2
theorem same_up (c d : Dev nD) (k : Fin 8) (s : Cs) (n : ℕ) : (if cell c s = cell (up d k) s then n else 0) = if d = dn c k then n else 0 :=
  (same c (up d k) s n).trans (if_congr (eq_up c d k) rfl rfl)
theorem same_dn (c d : Dev nD) (k : Fin 8) (s : Cs) (n : ℕ) : (if cell c s = cell (dn d k) s then n else 0) = if d = up c k then n else 0 :=
  (same c (dn d k) s n).trans (if_congr (eq_dn c d k) rfl rfl)

theorem owed_bar (c : Dev nD) : ∑ d, O₀ d (cell c (.inl ())) () = 7 := by
  have h (d : Dev nD) : O₀ d (cell c (.inl ())) () = ∑ k ∈ Finset.univ.erase 0, if d = dn c k then 1 else 0 := by
    have hx : (others.map fun k => if cell c (.inl ()) = cell (up d k) (.inr (oRX k)) then NX else 0).sum = 0 :=
      sum_zero others _ fun k _ => diff _ _ _ (fun h => by cases h)
    have hy : (all8.map fun e => (others.map fun k => if cell c (.inl ()) = cell (dn d k) (.inr (oRY k e)) then NY else 0).sum).sum = 0 :=
      sum_zero all8 _ fun e _ => sum_zero others _ fun k _ => diff _ _ _ (fun h => by cases h)
    rw [owed_parts, hx, hy, sum_others, Nat.zero_add, Nat.add_zero]
    exact Finset.sum_congr rfl fun k _ => same_up _ _ _ _ _
  rw [Finset.sum_congr rfl fun d _ => h d, Finset.sum_comm, Finset.sum_congr rfl fun k _ => Finset.sum_ite_eq' Finset.univ (dn c k) fun _ => 1]
  simp only [Finset.mem_univ, if_true]
  rfl

theorem owed_rx (c : Dev nD) (k : Fin 8) (hk : k ≠ 0) : ∑ d, O₀ d (cell c (.inr (oRX k))) () = NX := by
  have h (d : Dev nD) : O₀ d (cell c (.inr (oRX k))) () = if d = dn c k then NX else 0 := by
    have hb : (others.map fun k' => if cell c (.inr (oRX k)) = cell (up d k') (.inl ()) then 1 else 0).sum = 0 :=
      sum_zero others _ fun k' _ => diff _ _ _ (fun h => by cases h)
    have hy : (all8.map fun e => (others.map fun k' => if cell c (.inr (oRX k)) = cell (dn d k') (.inr (oRY k' e)) then NY else 0).sum).sum = 0 :=
      sum_zero all8 _ fun e _ => sum_zero others _ fun k' _ => diff _ _ _ (fun h => by cases h)
    rw [owed_parts, hb, hy, sum_others,
      Finset.sum_eq_single_of_mem k (Finset.mem_erase.mpr ⟨hk, Finset.mem_univ _⟩) (fun k' _ hn => diff _ _ _ fun h => hn (by cases h; rfl)), Nat.zero_add, Nat.add_zero]
    exact same_up _ _ _ _ _
  rw [Finset.sum_congr rfl fun d _ => h d, Finset.sum_ite_eq' Finset.univ (dn c k) fun _ => NX, if_pos (Finset.mem_univ _)]

theorem owed_ry (c : Dev nD) (k e : Fin 8) (hk : k ≠ 0) : ∑ d, O₀ d (cell c (.inr (oRY k e))) () = NY := by
  have h (d : Dev nD) : O₀ d (cell c (.inr (oRY k e))) () = if d = up c k then NY else 0 := by
    have hb : (others.map fun k' => if cell c (.inr (oRY k e)) = cell (up d k') (.inl ()) then 1 else 0).sum = 0 :=
      sum_zero others _ fun k' _ => diff _ _ _ (fun h => by cases h)
    have hx : (others.map fun k' => if cell c (.inr (oRY k e)) = cell (up d k') (.inr (oRX k')) then NX else 0).sum = 0 :=
      sum_zero others _ fun k' _ => diff _ _ _ (fun h => by cases h)
    rw [owed_parts, hb, hx, sum_all8,
      Finset.sum_eq_single_of_mem e (Finset.mem_univ _) (fun e' _ hn => sum_zero others _ fun k' _ => diff _ _ _ fun h => hn (by cases h; rfl)), sum_others,
      Finset.sum_eq_single_of_mem k (Finset.mem_erase.mpr ⟨hk, Finset.mem_univ _⟩) (fun k' _ hn => diff _ _ _ fun h => hn (by cases h; rfl)), Nat.zero_add, Nat.zero_add]
    exact same_dn _ _ _ _ _
  rw [Finset.sum_congr rfl fun d _ => h d, Finset.sum_ite_eq' Finset.univ (up c k) fun _ => NY, if_pos (Finset.mem_univ _)]

theorem launch_cell (c : Dev nD) (s : Cs) (n : ℕ) (h : ∑ d, O₀ d (cell c s) () = n) :
    tallyOn (cell c s) (launchCredit (Pipeline.owing O₀) 0 (cell c s)) = (tallyAt (cell c s) () n : CellTallies nD τ sig Unit) := by
  unfold tallyAt; refine congrArg _ (Finsupp.ext fun u => ?_); cases u
  rw [Pipeline.launchCredit_owing, Finsupp.single_eq_same, h]

def csemEmb : Cs ↪ SemLoc sig := ⟨csem, csem_inj⟩

theorem congr_others {Φ Ψ : Fin 8 → sProp 𝕄} (h : ∀ k, k ≠ 0 → Φ k = Ψ k) : (bigSepL others Φ : sProp 𝕄) = bigSepL others Ψ := by
  rw [← bigSep_eq_bigSepL_of_eq (S := Finset.univ.erase 0) others (by decide) (by decide) Φ,
    ← bigSep_eq_bigSepL_of_eq (S := Finset.univ.erase 0) others (by decide) (by decide) Ψ]
  exact bigSep_congr fun k hk => h k (Finset.ne_of_mem_erase hk)

theorem cs_split (Φ : Cs → sProp 𝕄) : (bigSep Finset.univ Φ : sProp 𝕄) = iprop(Φ (.inl ()) ∗ bigSep Finset.univ fun s : Os => Φ (.inr s)) := by
  rw [bigSep_univ_sum, show (Finset.univ : Finset Unit) = {()} from rfl, bigSep_singleton]; rfl

theorem creds (c : Dev nD) : (Pipeline.launchCred O₀ c : sProp 𝕄) ⊢ Creds c := by
  unfold Pipeline.launchCred
  refine (bigSep_subset (Finset.subset_univ (Finset.univ.map csemEmb))).trans ?_
  refine (Entails.of_eq ((bigSep_map csemEmb).trans (show _ = bigSep Finset.univ fun s : Cs =>
    (cred (tallyOn (cell c s) (launchCredit (Pipeline.owing O₀) 0 (cell c s))) : sProp 𝕄) from rfl))).trans ?_
  refine (Entails.of_eq (cs_split _)).trans ?_
  rw [os_split]
  unfold Creds
  iintro ⟨HB, ⟨-, ⟨-, HX⟩⟩, -, ⟨-, HY⟩, -⟩
  isplitl [HB]
  · iapply (Entails.of_eq (congrArg cred (launch_cell c (.inl ()) 7 (owed_bar c)))) $$ HB
  isplitl [HX]
  · iapply (Entails.of_eq (congr_others (fun k hk => congrArg cred (launch_cell c (.inr (oRX k)) NX (owed_rx c k hk))))) $$ HX
  iapply (Entails.of_eq (congrArg (bigSepL all8) (funext fun e =>
    congr_others (fun k hk => congrArg cred (launch_cell c (.inr (oRY k e)) NY (owed_ry c k e hk)))))) $$ HY

/-! ## The launch -/

theorem pair {A : Type} {s : Finset A} {Φ Ψ : A → sProp 𝕄} : iprop(bigSep s Φ ∗ bigSep s Ψ) ⊢ bigSep s fun a => iprop(Φ a ∗ Ψ a) := by
  rw [bigSep_sep']
theorem unpair {A : Type} {s : Finset A} {Φ Ψ : A → sProp 𝕄} : (bigSep s fun a => iprop(Φ a ∗ Ψ a)) ⊢ iprop(bigSep s Φ ∗ bigSep s Ψ) := by
  rw [bigSep_sep']

def u₀ : UU :=
  (initOf (Pipeline.cells (Pipeline.pin (pcfgs (F := F)) adm) cellOf_inj) (Pipeline.launchToks (Pipeline.pin (pcfgs (F := F)) adm) cellOf_inj),
    launchOf barCells ownCells allToks)

/-- All of a resource on one device. -/
def onZero (X : sProp 𝕄) (c : Dev nD) : sProp 𝕄 := if c = 0 then X else iprop(emp)
theorem onZero_all (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp
def G : Dev nD → sProp 𝕄 := onZero (BI.own (ER (launchOf barCells ownCells allToks)))

theorem unscoped_eq : ∀ sm : SemLoc sig, sm.isScoped .tc = false → sm = .reg sBar := by decide
theorem unscopedSems0_eq (c : Dev nD) : (unscopedSems0 c : sProp 𝕄) = semVal (barC c) 0 := by
  unfold unscopedSems0
  rw [show (Finset.univ.filter fun sm : SemLoc sig => ¬ sm.isScoped .tc) = {SemLoc.reg sBar} from by decide, BI.bigSep_singleton]

variable (W : Dev nD → Valuation τ sig (Elt F))

/-- What rides beside the buffers before the region. -/
def E0 (c : Dev nD) : sProp 𝕄 := iprop((∃ r, prngReg c r) ∗ Tk W c ∗ ∃ X, owes (c : Thread nD τ) (O₀ c) X)
/-- And after it. -/
def E1 (c : Dev nD) : sProp 𝕄 := iprop(semVal (barC c) 0 ∗ ∃ X, owes (c : Thread nD τ) (0 : CellTallies nD τ sig Unit) X)

/-- The records, known to all. -/
def Rec (K : GSem nD τ sig → ℕ) : sProp 𝕄 :=
  iprop((bigSep (barCells ∪ ownCells) fun g => cellInv ER (Rd (inp W)) (K g) g) ∗ bigSep barCells fun g => reached ER g 0)
instance Rec_persistent (K : GSem nD τ sig → ℕ) : BI.Persistent (Rec W K) := by unfold Rec; infer_instance

/-- What each device gets. -/
def Mine (c : Dev nD) : sProp 𝕄 :=
  iprop((pos c (.inl ()) 0 ∗ (bigSep Finset.univ fun s : Os => openTok ER (cell c (.inr s))) ∗ ToksAll c)
    ∗ (owes (c : Thread nD τ) (O₀ c) ∅ ∗ Creds c ∗ ∃ r, prngReg c r))

theorem Rec_cells (K : GSem nD τ sig → ℕ) : (bigSep (barCells ∪ ownCells) fun g => (cellInv ER (Rd (inp W)) (K g) g : sProp 𝕄))
    ⊢ bigSep Finset.univ fun x : Dev nD × Cs => cellInv ER (Rd (inp W)) (K (cell x.1 x.2)) (cell x.1 x.2) :=
  by
  classical
  exact (bigSep_of_persistent Finset.univ _).trans (bigSep_mono fun x _ => bigSep_elim (cell_mem x.1 x.2))

theorem E0_intro (K : GSem nD τ sig → ℕ) (c : Dev nD) : iprop(Rec W K ∗ Mine c) ⊢ E0 W c := by
  unfold Rec Mine E0 Tk
  iintro ⟨⟨#HI, #HR⟩, ⟨Hp, Ho, Ht⟩, HO, Hc, Hr⟩
  isplitl [Hr]; · iexact Hr
  isplitr [HO]
  · isplitr
    · iexists K
      isplitr; · iapply (Rec_cells W K) $$ HI
      iapply (Entails.of_eq (bigSep_map (s := Finset.univ) barEmb (Φ := fun g : GSem nD τ sig => (reached ER g 0 : sProp 𝕄)))) $$ HR
    isplitl [Hp]; · iexact Hp
    isplitl [Ho]; · iexact Ho
    isplitl [Ht]; · iapply (toks_of c) $$ Ht
    iexact Hc
  iexists ∅; iexact HO

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 W) : sProp 𝕄) := by
  have core (c : Dev nD) : iprop(unscopedSems0 c ∗ owes (c : Thread nD τ) (O₀ c) ∅ ∗ Pipeline.launchCred O₀ c ∗ prngReg c (ρ c) ∗ G c)
      ⊢ (iprop((owes (c : Thread nD τ) (O₀ c) ∅ ∗ Creds c ∗ ∃ r, prngReg c r) ∗ (semVal (barC c) 0 ∗ G c)) : sProp 𝕄) := by
    rw [unscopedSems0_eq]
    iintro ⟨Hu, HO, Hc, Hp, HG⟩
    isplitl [HO Hc Hp]
    · isplitl [HO]; · iexact HO
      isplitl [Hc]; · iapply (creds c) $$ Hc
      iexists (ρ c); iexact Hp
    isplitl [Hu] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (pos c (.inl ()) 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun s : Os => openTok ER (cell c (.inr s))) :=
    Entails.of_eq ((bigSep_map ownEmb).trans (bigSep_univ_prod _))
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop((owes (c : Thread nD τ) (O₀ c) ∅ ∗ Creds c ∗ ∃ r, prngReg c r) ∗ (semVal (barC c) 0 ∗ G c)) : sProp 𝕄)
    from bigSep_mono fun c _ => core c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells ownCells allToks)) from
    Entails.of_eq (onZero_all (F := F) (BI.own (ER (launchOf barCells ownCells allToks))))) $$ HG
  imod (Rounds.fund_launch ER (Rd (inp W)) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := Rec W K) (Φ := fun c => Mine c) fun c _ => E0_intro W K c)
  isplitr
  · unfold Rec
    isplitr; · iexact Hinv
    iexact Hr
  unfold Mine
  iapply pair
  isplitr [HB]
  · iapply pair; isplitl [Hat]; · iapply hat $$ Hat
    iapply pair; isplitl [Hopen]; · iapply hopen $$ Hopen
    iapply (Entails.of_eq (toks_eq (F := F))) $$ Htok
  · iexact HB

/-! ## The region's two ends -/

theorem arr_sub : Pipeline.arrRefs (τ := τ) spec0 ⊆ Pipeline.ucRefs τ sig := by decide

set_option backward.isDefEq.respectTransparency.types false in
theorem reg_pre [∀ e, Nonempty (Elt F e)] (c : Dev nD) :
    iprop(StableHlo.held (c : Thread nD τ) (Pipeline.ucRefs τ sig) (W c) ∗ E0 W c) ⊢ (reg W).pre c := by
  show _ ⊢ iprop(StableHlo.held (c.tc : Thread nD τ) (Pipeline.arrRefs (τ := τ) spec0) (W c) ∗ (∃ r, prngReg c r)
    ∗ (StableHlo.held (c.tc : Thread nD τ) Sr (W c) ∗ emp) ∗ Tk W c ∗ ∃ Wd, owes (c : Thread nD τ) (0 + O₀ c) Wd)
  rw [StableHlo.held_sub_split (c.tc : Thread nD τ) arr_sub (W c), zero_add]
  unfold E0 Sr
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem reg_post [∀ e, Nonempty (Elt F e)] (c : Dev nD) :
    (reg W).post c ⊢ iprop(StableHlo.held (c : Thread nD τ) (Pipeline.ucRefs τ sig) (Wout W c) ∗ E1 c) := by
  show iprop(StableHlo.held (c.tc : Thread nD τ) (Pipeline.arrRefs (τ := τ) spec0) (Wout W c) ∗ (∃ r, prngReg c r)
    ∗ (StableHlo.held (c.tc : Thread nD τ) Sr (Wout W c) ∗ emp) ∗ Yk c ∗ ∃ Wd, owes (c : Thread nD τ) (0 : CellTallies nD τ sig Unit) Wd) ⊢ _
  rw [StableHlo.held_sub_split (c.tc : Thread nD τ) arr_sub (Wout W c)]
  unfold E1 Sr Yk
  iintro ⟨Ha, -, ⟨Hr, -⟩, HB, HO⟩
  isplitl [Ha Hr]
  · isplitl [Ha] <;> iassumption
  isplitl [HB]; · iexact HB
  iexact HO

end Cert.KernelIdeal.Moe
-- ==== Proof.Run.lean ====
/- The run of the whole program: the result, the arguments unchanged, every counter at zero. -/
module

public import proofs.«01_k».proof.Proof.Launch

@[expose] public section

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The valuation at exit. -/
abbrev Vend (c : Dev nD) : Valuation τ sig (Elt F) := Wout (fun c => V13 m c) c

def outs : Outs (F := F) := fun _ b c => Vend m c (Proc.devRef .tc b)

theorem Vend_eq (c : Dev nD) : Vend m c = V14 m (outs m) c := by
  show Function.update _ _ _ = Function.update _ _ _
  exact congrArg (Function.update (V13 m c) (Proc.devRef .tc main_v49)) (Wout_self (fun c => V13 m c) c).symm

def Eb : Fin 2 → Dev nD → sProp 𝕄
  | 0 => E0 fun c => V13 m c
  | 1 => E1

set_option backward.isDefEq.respectTransparency.types false in
theorem run_main [∀ e, Nonempty (Elt F e)] : θ_run defs (onTc (τ := τ) (main (F := F))) ⟨m, fun _ => 0, ρ⟩ (fun r =>
    (∀ c : Dev nD, r.2.mem ((c.tc : Thread nD τ).loc main_v49) = OUT (inp fun c => V13 m c) c 8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine Pipeline.θ_run_regions_kit_dev_sems (pcfgs (F := F)) adm (pdats fun c => V13 m c) () cellOf_inj EP defs₀ 𝒱₀ L lv m ρ main
    (segs m 𝒱₀ L lv (Eb m) () (pdats fun c => V13 m c) (reg fun c => V13 m c))
    (fun c Q => by
      rewrite [main_chain c, Pipeline.Seg.run_eq_chain,
        show (segs m 𝒱₀ L lv (Eb m) () (pdats fun c => V13 m c) (reg fun c => V13 m c) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [onZero_all]; iexact HX)
    (T₀ := fun c => iprop(StableHlo.held (c : Thread nD τ) (Pipeline.ucRefs τ sig) (V0 m c) ∗ Eb m 0 c))
    (Tₙ := fun c => iprop(StableHlo.held (c : Thread nD τ) (Pipeline.ucRefs τ sig) (Vend m c) ∗ semVal (barC c) 0))
    (hch := fun c => ⟨.rfl, .rfl, .rfl, .rfl, .rfl, .rfl, .rfl, .rfl, .rfl, .rfl, .rfl, .rfl, .rfl, reg_pre (fun c => V13 m c) c,
      (reg_post (fun c => V13 m c) c).trans (by
        unfold E1
        iintro ⟨Hh, HB, HO⟩
        isplitr [HO]
        · isplitl [Hh] <;> iassumption
        iexact HO)⟩)
    (hinit := ?_)
    (QY := fun c s => (∀ b : Ref sig .tc, Proc.devRef .tc b ∈ Pipeline.ucRefs τ sig → s.mem ((c.tc : Thread nD τ).loc b) = Vend m c (Proc.devRef .tc b))
      ∧ s.sem (barC c) = 0)
    (hfin := fun c s' => ?_) (hQ := fun s h hs => ⟨fun c => ?_, sem_eq_zero hs fun c sm hsm => ?_⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init (fun c => V13 m c) ρ) $$ [Hr Hla] with HE
    · isplitl [Hr]; · iexact Hr
      iexact Hla
    imodintro
    rw [bigSep_sep']
    isplitl [Hh]; · iexact Hh
    iexact HE
  · unfold StableHlo.held
    iintro ⟨⟨Hh, HB⟩, HSI⟩
    icombine HSI HB gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨fun b hb => h (Proc.devRef .tc b) hb, by simpa using hb⟩
    iexact HSI
  · have hb (b : Ref sig .tc) := (h c).1 b
    refine ⟨(hb main_v49 (by decide)).trans (Wout_self (fun c => V13 m c) c), ?_, ?_, ?_, ?_, ?_⟩
    · exact (hb main_arg0 (by decide)).trans ((congrFun (Vend_eq m c) _).trans (V14_main_arg0 m (outs m) c))
    · exact (hb main_arg1 (by decide)).trans ((congrFun (Vend_eq m c) _).trans (V14_main_arg1 m (outs m) c))
    · exact (hb main_arg2 (by decide)).trans ((congrFun (Vend_eq m c) _).trans (V14_main_arg2 m (outs m) c))
    · exact (hb main_arg3 (by decide)).trans ((congrFun (Vend_eq m c) _).trans (V14_main_arg3 m (outs m) c))
    · exact (hb main_arg4 (by decide)).trans ((congrFun (Vend_eq m c) _).trans (V14_main_arg4 m (outs m) c))
  · obtain rfl := unscoped_eq sm hsm
    exact (h c).2

end Cert.KernelIdeal.Moe
-- ==== Proof.Bits.BodyEq.lean ====
/- The printed body is the structured program of `Nice`. -/
module

public import proofs.«01_k».proof.Proof.Bits.Nice

@[expose] public section

set_option maxRecDepth 65536

noncomputable section

namespace Cert.Kernel.Moe

open Idealize.ShloMosaic Idealize.ShloMosaic.TcCoe
open Idealize.SL Idealize.SL.Sem
open Cert.Kernel.Gen

variable {F : FTy → Type} [FloatOps F]

set_option maxHeartbeats 4000000 in
theorem body_eq : bodyAt0 (F := F) t0_0 = nice := by
  show cc0__body mX (Memref.isWhole_whole _) mP (Memref.isWhole_whole _) mSr (Memref.isWhole_whole _) mSc (Memref.isWhole_whole _)
    mSw (Memref.isWhole_whole _) mEw (Memref.isWhole_whole _) mO (Memref.isWhole_whole _) mXr (Memref.isWhole_whole _)
    mSb (Memref.isWhole_whole _) mWe (Memref.isWhole_whole _) mYb (Memref.isWhole_whole _) mYr (Memref.isWhole_whole _)
    cc0_scratch5 cc0_scratch6 cc0_scratch7 cc0_scratch8 cc0_scratch9 = nice
  rw [cc0__body_eq_skeleton]
  rfl

end Cert.Kernel.Moe

end
-- ==== Proof.Ready.lean ====
/- The shape facts that the two preconditions' functions take, and the runs' frames. -/
module

public import proofs.«01_k».proof.Defs
public import proofs.«01_k».proof.Proof.Run
public import proofs.«01_k».proof.Proof.Bits.Run
public import proofs.«01_k».proof.Proof.Gen.ReferenceIdeal.Run
public import Idealize.ShloMosaic.Lib.StableHlo.RunHlo

@[expose] public section

noncomputable section

namespace Cert.Proof

open Idealize.ShloMosaic Idealize.SL.Sem

theorem fitsK : Cert.Pre_fits_KernelIdeal.Facts := by
  constructor <;> decide

theorem fitsR : Cert.Pre_fits_ReferenceIdeal.Facts := by
  constructor <;> decide

theorem quiet (s : MemSt Cert.ReferenceIdeal.nD Cert.ReferenceIdeal.τ Cert.ReferenceIdeal.sig (Elt Ideal)) : s.sem = fun _ => 0 := by
  funext g
  exact ((by decide : ∀ g : GSem Cert.ReferenceIdeal.nD Cert.ReferenceIdeal.τ Cert.ReferenceIdeal.sig, False) g).elim

instance elts : ∀ e, Nonempty (Elt Ideal e) := fun e => by
  cases e <;> (first | exact ⟨(0 : EReal)⟩ | exact ⟨(0 : BitVec _)⟩)

instance eltsB : ∀ e, Nonempty (Elt Bits e) := fun e => by
  cases e <;> exact ⟨(0 : BitVec _)⟩

theorem frame_K [Cert.Kernel.Facts] : Cert.quiescent_Kernel := fun m g _ =>
  θ_run_mono (Cert.Kernel.Moe.run_main (F := Bits) m g) fun _ h => ⟨fun c => (h.1 c).2, h.2⟩

theorem frame_KI : Cert.quiescent_KernelIdeal := fun m g _ =>
  θ_run_mono (Cert.KernelIdeal.Moe.run_main (F := Ideal) m g) fun _ h => ⟨fun c => (h.1 c).2, h.2⟩

theorem frame_KI' [Cert.Pre_fits_KernelIdeal.Facts] : Cert.quiescent_KernelIdeal_pre_fits_KernelIdeal := fun m g _ =>
  θ_run_mono (Cert.KernelIdeal.Moe.run_main (F := Ideal) m g) fun _ h => ⟨fun c => (h.1 c).2, h.2⟩

theorem frame_RI : Cert.quiescent_ReferenceIdeal := fun m g _ =>
  θ_run_mono (Cert.ReferenceIdeal.Value.run (F := Ideal) m g) fun r h => ⟨fun c => (h c).2, quiet r.2⟩

theorem frame_RI' [Cert.Pre_fits_ReferenceIdeal.Facts] : Cert.quiescent_ReferenceIdeal_pre_fits_ReferenceIdeal := fun m g _ =>
  θ_run_mono (Cert.ReferenceIdeal.Value.run (F := Ideal) m g) fun r h => ⟨fun c => (h c).2, quiet r.2⟩

end Cert.Proof

end
-- ==== Proof.Val.lean ====
/- What the pieces of the kernel compute over the reals, index by index. -/
module

public import proofs.«01_k».proof.Proof.Run
public import Idealize.ShloMosaic.Lib.ValueIdx
public import Idealize.ShloMosaic.Lib.Pointwise
public import Idealize.ShloMosaic.Lib.StableHlo.ReadAt
public import Idealize.ShloMosaic.Lib.Tactic.WordOmega

@[expose] public section

noncomputable section
open Idealize.ShloMosaic Idealize.SL.Sem Cert.KernelIdeal.Gen
namespace Cert.KernelIdeal.Moe

theorem pay13_at (x : Vec Ideal S2048x1024 .f32) (sw : Vec Ideal S1024x1024 .f32) (i : S2048x1024.Idx) :
    k0_pay13 x sw i = ∑ d : Fin 1024, x (ix2 (i 0) d) * sw (ix2 d (i 1)) := by
  pointwise [k0_pay13]

/-- The word that `slotOf` computes at column `j`. -/
def slotW (e : Fin 8) (j : Fin 512) : BitVec 32 :=
  IntOp.addi
      (IntOp.muli
        (IntOp.addi
          (IntOp.muli
            (Scalar.select
              (IntOp.andi
                (IntOp.cmpi .ne
                  (IntOp.subi (BitVec.setWidth 32 (IntOp.cmpi .sgt (BitVec.ofNat 32 j.val) 0#32))
                    (BitVec.setWidth 32 (IntOp.cmpi .slt (BitVec.ofNat 32 j.val) 0#32)))
                  (Scalar.subi (Scalar.extui (Scalar.cmpi .sgt 64#32 0#32))
                    (Scalar.extui (Scalar.cmpi .slt 64#32 0#32))))
                (IntOp.cmpi .ne (IntOp.remsi .vector (BitVec.ofNat 32 j.val) 64#32) 0#32))
              (IntOp.subi (IntOp.divsi .vector (BitVec.ofNat 32 j.val) 64#32) 1#32)
              (IntOp.divsi .vector (BitVec.ofNat 32 j.val) 64#32))
            8#32)
          (BitVec.ofNat 32 e.val))
        64#32)
      (Scalar.select
        (IntOp.andi
          (IntOp.xori
            (IntOp.cmpi .slt
              (IntOp.remsi .vector (BitVec.ofNat 32 j.val)
                (Scalar.select (Scalar.cmpi .eq 64#32 0#32) 1#32 64#32))
              0#32)
            (Scalar.cmpi .slt (Scalar.select (Scalar.cmpi .eq 64#32 0#32) 1#32 64#32) 0#32))
          (IntOp.cmpi .ne
            (IntOp.remsi .vector (BitVec.ofNat 32 j.val)
              (Scalar.select (Scalar.cmpi .eq 64#32 0#32) 1#32 64#32))
            0#32))
        (IntOp.addi
          (IntOp.remsi .vector (BitVec.ofNat 32 j.val)
            (Scalar.select (Scalar.cmpi .eq 64#32 0#32) 1#32 64#32))
          (Scalar.select (Scalar.cmpi .eq 64#32 0#32) 1#32 64#32))
        (IntOp.remsi .vector (BitVec.ofNat 32 j.val)
          (Scalar.select (Scalar.cmpi .eq 64#32 0#32) 1#32 64#32)))

theorem slotOf_at (e : Fin 8) (i : S2048x512.Idx) :
    slotOf e i = BitVec.ofNat 32 (((i 1).val / 64 * 8 + e.val) * 64 + (i 1).val % 64) := by
  pointwise [slotOf]
  have h : ∀ (e : Fin 8) (j : Fin 512), slotW e j = BitVec.ofNat 32 ((j.val / 64 * 8 + e.val) * 64 + j.val % 64) := by decide +kernel
  exact h e (i 1)

theorem ix3_at {n0 n1 n2 : ℕ} (a : Fin n0) (b : Fin n1) (c : Fin n2) : Idealize.ShloMosaic.ix3 a b c = ix3 a b c := by
  funext d; fin_cases d <;> rfl
theorem ix4_at {n0 n1 n2 n3 : ℕ} (a : Fin n0) (b : Fin n1) (c : Fin n2) (d : Fin n3) : Idealize.ShloMosaic.ix4 a b c d = ix4 a b c d := by
  funext d; fin_cases d <;> rfl

theorem bit_at (a b : BitVec 32) : (FloatOps.sitofp .f32 (BitVec.setWidth 32 (IntOp.cmpi .eq a b)) : Ideal .f32) = if a = b then (1 : EReal) else 0 := by
  have h0 : (FloatOps.sitofp .f32 (0#32 : BitVec 32) : Ideal .f32) = (0 : EReal) := by
    show (((0#32 : BitVec 32).toInt : ℝ) : EReal) = 0
    simp
  have h1 : (FloatOps.sitofp .f32 (1#32 : BitVec 32) : Ideal .f32) = (1 : EReal) := by
    show (((1#32 : BitVec 32).toInt : ℝ) : EReal) = 1
    simp
  split
  · next h => rw [show IntOp.cmpi .eq a b = 1#1 by simp [IntOp.cmpi, h]]; exact h1
  · next h => rw [show IntOp.cmpi .eq a b = 0#1 by simp [IntOp.cmpi, beq_false_of_ne h]]; exact h0

theorem combine_at (e : Fin 8) (sc : Vec Ideal S2048x1 .i32) (yc : Vec Ideal S8x1x64x1024 .bf16) (o : Vec Ideal S2048x1024 .f32) (i : S2048x1024.Idx) :
    combineP e (k0_pay14 sc) yc o i = o i + ∑ j : Fin 512,
      (if BitVec.ofNat 32 ((j.val / 64 * 8 + e.val) * 64 + j.val % 64) = sc (ix2 (i 0) 0) then (1 : EReal) else 0)
        * yc (ix4 (⟨j.val / 64, by omega⟩ : Fin 8) (0 : Fin 1) (⟨j.val % 64, by omega⟩ : Fin 64) (i 1)) := by
  unfold combineP
  generalize hs : slotOf e = s
  pointwise [k0_pay14]
  subst hs
  simp only [slotOf_at, bit_at]
  refine congrArg (o i + ·) (Finset.sum_congr rfl fun j _ => ?_)
  exact congrArg _ (congrArg yc (ix4_at ..))

theorem select_at {α : Type} (a b : BitVec 32) (u v : α) : Scalar.select (IntOp.cmpi .eq a b) u v = if a = b then u else v := by
  split
  · next h => rw [show IntOp.cmpi .eq a b = 1#1 by simp [IntOp.cmpi, h]]; rfl
  · next h => rw [show IntOp.cmpi .eq a b = 0#1 by simp [IntOp.cmpi, beq_false_of_ne h]]; rfl

theorem gather_at (k : Fin 8) (sr : Vec Ideal S1x2048 .i32) (p : Vec Ideal S1x2048 .f32) (x : Vec Ideal S2048x1024 .f32) (i : S1x8x64x1024.Idx) :
    gatherP k sr p x i = ∑ t : Fin 2048, if BitVec.ofNat 32 ((k.val * 8 + (i 1).val) * 64 + (i 2).val) = sr (ix2 0 t)
      then (p (ix2 0 t) * x (ix2 t (i 3)) : EReal) else 0 := by
  pointwise [gatherP, gatherM, k0_pay1, k0_pay2, gatherW]
  simp only [select_at, IntOp.addi, ← BitVec.ofNat_add]
  rw [show (k.val * 8 + (i 1).val) * 64 + (i 2).val = (i 1).val * 64 + (i 2).val + 512 * k.val by omega]

theorem send_at (xc : Vec Ideal S8x1x64x1024 .bf16) (we : Vec Ideal S1x1024x1024 .f32) (i : S1x8x64x1024.Idx) :
    sendP xc we i = ∑ d : Fin 1024, xc (ix4 (i 1) (0 : Fin 1) (i 2) d) * we (ix3 (0 : Fin 1) d (i 3)) := by
  pointwise [sendP, expertP, k0_pay15]
  exact Finset.sum_congr rfl fun d _ => congrArg₂ (· * ·) (congrArg xc (ix4_at ..)) (congrArg we (ix3_at ..))

end Cert.KernelIdeal.Moe
-- ==== Proof.Total.lean ====
/- What the kernel computes of a token, where no two tokens share a slot. -/
module

public import proofs.«01_k».proof.Proof.Val
public import Mathlib.Data.EReal.Operations

@[expose] public section

noncomputable section
open Idealize.ShloMosaic Idealize.SL.Sem Cert.KernelIdeal.Gen
namespace Cert.KernelIdeal.Moe

variable (I : Dev nD → Inp Ideal)

/-- What the combination of expert `e` adds to the output. -/
def added (c : Dev nD) (i : S2048x1024.Idx) (e : ℕ) : EReal :=
  ∑ j : Fin 512, (if BitVec.ofNat 32 ((j.val / 64 * 8 + (Fin.ofNat 8 e).val) * 64 + j.val % 64) = (I c).sc (ix2 (i 0) 0) then (1 : EReal) else 0)
    * YC I c (Fin.ofNat 8 e) (ix4 (⟨j.val / 64, by omega⟩ : Fin 8) (0 : Fin 1) (⟨j.val % 64, by omega⟩ : Fin 64) (i 1))

theorem OUT_sum (c : Dev nD) (i : S2048x1024.Idx) (n : ℕ) :
    OUT I c n i = (∑ d : Fin 1024, (I c).x (ix2 (i 0) d) * (I c).sw (ix2 d (i 1)) : EReal) + ∑ e ∈ Finset.range n, added I c i e := by
  induction n with
  | zero => rw [Finset.range_zero, Finset.sum_empty, add_zero]; exact pay13_at ..
  | succ n ih =>
    rw [Finset.sum_range_succ, ← add_assoc, ← ih]
    exact combine_at ..

theorem sum_left {n : ℕ} (p : EReal) (h0 : 0 ≤ p) (h1 : p ≠ ⊤) (f : Fin n → EReal) : ∑ d, p * f d = p * ∑ d, f d := by
  classical
  have : ∀ s : Finset (Fin n), ∑ d ∈ s, p * f d = p * ∑ d ∈ s, f d := by
    intro s
    induction s using Finset.induction_on with
    | empty => simp
    | insert a s ha ih => rw [Finset.sum_insert ha, Finset.sum_insert ha, ih, EReal.left_distrib_of_nonneg_of_ne_top h0 h1]
  exact this _

variable {I} {c : Dev nD} {S : Fin 2048 → ℕ}

theorem word_inj {a b : ℕ} (ha : a < 4096) (hb : b < 4096) (h : BitVec.ofNat 32 a = BitVec.ofNat 32 b) : a = b := by
  have := congrArg BitVec.toNat h
  simp only [BitVec.toNat_ofNat] at this
  omega

theorem sent_at (hS : ∀ t, S t < 4096) (hinj : Function.Injective S) (hsr : ∀ t, (I c).sr (ix2 0 t) = BitVec.ofNat 32 (S t))
    (t : Fin 2048) (k le : Fin 8) (r : Fin 64) (hk : S t = (k.val * 8 + le.val) * 64 + r.val) (d : Fin 1024) :
    sent I c k (ix4 (0 : Fin 1) le r d) = ((I c).p (ix2 0 t) * (I c).x (ix2 t d) : EReal) := by
  refine (gather_at ..).trans ?_
  show (∑ t' : Fin 2048, if BitVec.ofNat 32 ((k.val * 8 + le.val) * 64 + r.val) = (I c).sr (ix2 0 t')
      then ((I c).p (ix2 0 t') * (I c).x (ix2 t' d) : EReal) else 0) = _
  rw [Finset.sum_eq_single t]
  · rw [if_pos (by rw [hsr, hk])]
  · intro t' _ hne
    rw [if_neg]
    intro h
    rw [hsr, ← hk] at h
    exact hne (hinj (word_inj (hS _) (hS _) h)).symm
  · intro h; exact absurd (Finset.mem_univ _) h

theorem YC_at (hS : ∀ t, S t < 4096) (hinj : Function.Injective S) (hsr : ∀ t, (I c).sr (ix2 0 t) = BitVec.ofNat 32 (S t))
    (hp : ∀ t, (0 : EReal) ≤ (I c).p (ix2 0 t) ∧ ((I c).p (ix2 0 t) : EReal) ≠ ⊤)
    (t : Fin 2048) (k le : Fin 8) (r : Fin 64) (hk : S t = (k.val * 8 + le.val) * 64 + r.val) (h : Fin 1024) :
    YC I c le (ix4 k (0 : Fin 1) r h)
      = ((I c).p (ix2 0 t) * ∑ d : Fin 1024, (I c).x (ix2 t d) * (I (up c k)).ew (ix3 le d h) : EReal) := by
  show made I (up c k) le (ix4 (0 : Fin 1) k r h) = _
  refine (send_at ..).trans ?_
  refine Eq.trans ?_ (sum_left _ (hp t).1 (hp t).2 _)
  refine Finset.sum_congr rfl fun d _ => ?_
  show (sent I (dn (up c k) k) k (ix4 (0 : Fin 1) le r d) * (I (up c k)).ew (ix3 le d h) : EReal) = _
  rw [dn_up, sent_at hS hinj hsr t k le r hk d]
  exact mul_assoc _ _ _

theorem OUT_at (hS : ∀ t, S t < 4096) (hinj : Function.Injective S) (hsr : ∀ t, (I c).sr (ix2 0 t) = BitVec.ofNat 32 (S t))
    (hsc : ∀ t, (I c).sc (ix2 t 0) = BitVec.ofNat 32 (S t))
    (hp : ∀ t, (0 : EReal) ≤ (I c).p (ix2 0 t) ∧ ((I c).p (ix2 0 t) : EReal) ≠ ⊤)
    (t : Fin 2048) (k le : Fin 8) (r : Fin 64) (hk : S t = (k.val * 8 + le.val) * 64 + r.val) (h : Fin 1024) :
    OUT I c 8 (ix2 t h) = ((∑ d : Fin 1024, (I c).x (ix2 t d) * (I c).sw (ix2 d h))
      + (I c).p (ix2 0 t) * ∑ d : Fin 1024, (I c).x (ix2 t d) * (I (up c k)).ew (ix3 le d h) : EReal) := by
  refine (OUT_sum I c (ix2 t h) 8).trans ?_
  refine congrArg₂ (· + ·) rfl ?_
  rw [Finset.sum_eq_single le.val]
  · show (∑ j : Fin 512, (if BitVec.ofNat 32 ((j.val / 64 * 8 + (Fin.ofNat 8 le.val).val) * 64 + j.val % 64) = (I c).sc (ix2 t 0) then (1 : EReal) else 0)
      * YC I c (Fin.ofNat 8 le.val) (ix4 (⟨j.val / 64, by omega⟩ : Fin 8) (0 : Fin 1) (⟨j.val % 64, by omega⟩ : Fin 64) h)) = _
    have hle : Fin.ofNat 8 le.val = le := Fin.ext (by simp)
    rw [hle, Finset.sum_eq_single (⟨k.val * 64 + r.val, by omega⟩ : Fin 512)]
    · rw [if_pos (by rw [hsc, hk]; congr 1; show ((k.val * 64 + r.val) / 64 * 8 + le.val) * 64 + (k.val * 64 + r.val) % 64 = _; omega), one_mul]
      rw [← YC_at hS hinj hsr hp t k le r hk h]
      refine congrArg (YC I c le) ?_
      have h1 : (⟨(k.val * 64 + r.val) / 64, by omega⟩ : Fin 8) = k := Fin.ext (by show (k.val * 64 + r.val) / 64 = k.val; omega)
      have h2 : (⟨(k.val * 64 + r.val) % 64, by omega⟩ : Fin 64) = r := Fin.ext (by show (k.val * 64 + r.val) % 64 = r.val; omega)
      rw [h1, h2]
    · intro j _ hne
      rw [if_neg, zero_mul]
      intro hw
      rw [hsc] at hw
      have := word_inj (by omega) (hS _) hw
      exact hne (Fin.ext (by show j.val = k.val * 64 + r.val; omega))
    · intro h'; exact absurd (Finset.mem_univ _) h'
  · intro e he hne
    have he8 : e < 8 := Finset.mem_range.mp he
    refine Finset.sum_eq_zero fun j _ => ?_
    rw [if_neg, zero_mul]
    intro hw
    have hw' : BitVec.ofNat 32 ((j.val / 64 * 8 + (Fin.ofNat 8 e).val) * 64 + j.val % 64) = (I c).sc (ix2 t 0) := hw
    rw [hsc, show (Fin.ofNat 8 e).val = e from Nat.mod_eq_of_lt he8] at hw'
    have := word_inj (by omega) (hS _) hw'
    omega
  · intro h'; exact absurd (Finset.mem_range.mpr le.isLt) h'

end Cert.KernelIdeal.Moe
-- ==== Proof.Steps.lean ====
module

public import proofs.«01_k».proof.Proof.Val
public import Idealize.ShloMosaic.Lib.Routing.Ops

@[expose] public section

noncomputable section
open Idealize.ShloMosaic Idealize.SL.Sem Cert.KernelIdeal.Gen Idealize.ShloMosaic.TcCoe
namespace Cert.KernelIdeal.Moe
variable (V : Valuation τ sig (Elt Ideal))

theorem ops4_31 (t : Fin 2048) : (StableHlo.after hostOps0_4 V (Proc.devRef .tc main_v31) (ix1 t) : BitVec 32) = V (Proc.devRef .tc main_arg2) (ix2 t 0) := by
  after_reads_at
theorem ops8_35 (t : Fin 2048) : (StableHlo.after hostOps0_8 V (Proc.devRef .tc main_v35) (ix1 t) : BitVec 32) = IntOp.subi (V (Proc.devRef .tc main_v32) (ix1 t)) (V (Proc.devRef .tc main_v4) ix0) := by
  after_reads_at
theorem ops8_c9 : (StableHlo.after hostOps0_8 V (Proc.devRef .tc main_c_9) ix0 : BitVec 32) = 8#32 := by
  after_reads_at
def fdiv (a b : BitVec 32) : BitVec 32 :=
  Scalar.select
      (IntOp.andi (IntOp.cmpi .ne (if a = 0 then 0 else if BitVec.msb a = true then -1 else 1) (if b = 0 then 0 else if BitVec.msb b = true then -1 else (1 : BitVec 32)))
        (IntOp.cmpi .ne (IntOp.remsi .host a b) 0#32))
      (IntOp.subi (IntOp.divsi .host a b) 1#32) (IntOp.divsi .host a b)
def fmod (a b : BitVec 32) : BitVec 32 :=
  let d : BitVec 32 := Scalar.select (IntOp.cmpi .eq b 0#32) (1#32) b
  Scalar.select
      (IntOp.andi (IntOp.cmpi .ne (IntOp.cmpi .slt (IntOp.remsi .host a d) 0#32) (IntOp.cmpi .slt d 0#32))
        (IntOp.cmpi .ne (IntOp.remsi .host a d) 0#32))
      (IntOp.addi (IntOp.remsi .host a d) d) (IntOp.remsi .host a d)
theorem ops5_32 (i : S2048.Idx) : StableHlo.after hostOps0_5 V (Proc.devRef .tc main_v32) i = fdiv (V (Proc.devRef .tc main_v31) i) (V (Proc.devRef .tc main_c_7) ix0) := by
  after_reads_at
  rfl
theorem ops7_33 (i : S2048.Idx) : StableHlo.after hostOps0_7 V (Proc.devRef .tc main_v33) i = fmod (V (Proc.devRef .tc main_v31) i) (V (Proc.devRef .tc main_c_8) ix0) := by
  after_reads_at
  rfl
theorem ops9_36 (i : S2048.Idx) : StableHlo.after hostOps0_9 V (Proc.devRef .tc main_v36) i = fmod (V (Proc.devRef .tc main_v35) i) (V (Proc.devRef .tc main_c_9) ix0) := by
  after_reads_at
  rfl
theorem fdiv_word : ∀ e : Fin 64, fdiv (BitVec.ofNat 32 e.val) 8#32 = BitVec.ofNat 32 (e.val / 8) := by decide +kernel
theorem fmod_word : ∀ e : Fin 64, fmod (BitVec.ofNat 32 e.val) 8#32 = BitVec.ofNat 32 (e.val % 8) := by decide +kernel
theorem off_word : ∀ c a : Fin 8, fmod (IntOp.subi (BitVec.ofNat 32 a.val) (BitVec.ofNat 32 c.val)) 8#32 = BitVec.ofNat 32 ((a.val + 8 - c.val) % 8) := by decide +kernel
theorem ops0_4 (c : Dev nD) : (StableHlo.after (hostOps0 c) V (Proc.devRef .tc main_v4) ix0 : BitVec 32) = BitVec.ofNat 32 c.val := by
  after_reads_at
  revert c
  decide +kernel

/-- The positions of the running sum's window, one after another. -/
abbrev Win : Shape := ⟨2, ![2048, 1]⟩

theorem win_size : Win.numel = 2048 := by
  show ∏ a : Fin 2, (![2048, 1] : Fin 2 → Nat) a = _
  rw [Fin.prod_univ_two]; rfl

theorem win_pos (n : Fin Win.numel) : (Win.rowMajor.symm n 0).val = n.val ∧ (Win.rowMajor.symm n 1).val = 0 := by
  have e : Win.rowMajor.symm n = ix2 (n.cast win_size) (0 : Fin 1) := by
    rw [Equiv.symm_apply_eq]
    apply Fin.ext
    rw [Shape.rowMajor_val_two]
    show n.val = n.val * 1 + 0
    omega
  rw [e]
  exact ⟨rfl, rfl⟩

/-- A running sum down a column of words that hold naturals. -/
theorem running (x : IVec ⟨2, ![2048, 64]⟩ 32) (b : Fin 64) (f : ℕ → ℕ) (hx : ∀ i : Fin 2048, x (ix2 i b) = BitVec.ofNat 32 (f i))
    (z : IVec S_ 32) (hz : ∀ i, z i = 0#32) (h) (hu) (j : Fin 2048) :
    Host.reduceWindow (t := ⟨2, ![2048, 64]⟩) IntOp.addi ![2048, 1] ![1, 1] ![2047, 0] ![0, 0] x z h hu (ix2 j b)
      = BitVec.ofNat 32 (∑ i ∈ Finset.range (j.val + 1), f i) := by
  have hj := j.isLt
  have hb := b.isLt
  unfold Host.reduceWindow
  rw [Routing.foldl_addi_ofNat (List.finRange _) _ (fun n => if 2047 ≤ j.val + n.val then f (j.val + n.val - 2047) else 0) (fun n _ => ?_) _ 0 (hz _)]
  · refine congrArg (BitVec.ofNat 32) ?_
    rw [Nat.zero_add, ← Fin.sum_univ_def, Fin.sum_univ_eq_sum_range (fun n => if 2047 ≤ j.val + n then f (j.val + n - 2047) else 0), win_size,
      ← Finset.sum_filter]
    refine Finset.sum_nbij' (fun n => j.val + n - 2047) (fun i => i + 2047 - j.val) ?_ ?_ ?_ ?_ ?_
    all_goals intro a ha; simp only [Finset.mem_filter, Finset.mem_range] at ha ⊢; try omega
  · obtain ⟨h0, h1⟩ := win_pos n
    have hn : n.val < 2048 := (n.cast win_size).isLt
    by_cases hle : 2047 ≤ j.val + n.val
    · rw [if_pos hle, ← hx ⟨j.val + n.val - 2047, by omega⟩]
      dsimp only
      rw [dif_pos]
      · congr 1
        funext a
        apply Fin.ext
        match a with
        | ⟨0, _⟩ =>
          show j.val * 1 + (Win.rowMajor.symm n 0).val - 2047 = _
          rw [h0, Nat.mul_one]; rfl
        | ⟨1, _⟩ =>
          show b.val * 1 + (Win.rowMajor.symm n 1).val - 0 = b.val
          omega
      · intro a
        match a with
        | ⟨0, _⟩ =>
          show 2047 ≤ j.val * 1 + (Win.rowMajor.symm n 0).val ∧ j.val * 1 + (Win.rowMajor.symm n 0).val - 2047 < 2048
          omega
        | ⟨1, _⟩ =>
          show 0 ≤ b.val * 1 + (Win.rowMajor.symm n 1).val ∧ b.val * 1 + (Win.rowMajor.symm n 1).val - 0 < 64
          omega
    · rw [if_neg hle]
      dsimp only
      rw [dif_neg]
      · exact hz _
      · intro hin
        have hi := (hin 0).1
        change 2047 ≤ j.val * 1 + (Win.rowMajor.symm n 0).val at hi
        omega
end Cert.KernelIdeal.Moe
-- ==== Proof.Places.lean ====
module

public import proofs.«01_k».proof.Proof.Steps

@[expose] public section

noncomputable section
open Idealize.ShloMosaic Idealize.SL.Sem Cert.KernelIdeal.Gen Idealize.ShloMosaic.TcCoe
namespace Cert.KernelIdeal.Moe
section
variable (V : Valuation τ sig (Elt Ideal))
theorem ops12_46 (t : Fin 2048) : StableHlo.after hostOps0_12 V (Proc.devRef .tc main_v46) (ix2 0 t) = V (Proc.devRef .tc main_v24) (ix1 t) := by
  after_reads_at
theorem ops12_47 (t : Fin 2048) : StableHlo.after hostOps0_12 V (Proc.devRef .tc main_v47) (ix2 0 t) = V (Proc.devRef .tc main_v45) (ix1 t) := by
  after_reads_at
theorem ops12_48 (t : Fin 2048) : StableHlo.after hostOps0_12 V (Proc.devRef .tc main_v48) (ix2 t 0) = V (Proc.devRef .tc main_v45) (ix1 t) := by
  after_reads_at
theorem ops11_45 (i : S2048.Idx) : StableHlo.after hostOps0_11 V (Proc.devRef .tc main_v45) i =
    Scalar.select (V (Proc.devRef .tc main_v44) i) (V (Proc.devRef .tc main_v42) i) (V (Proc.devRef .tc main_c_13) ix0) := by
  after_reads_at
  rfl
theorem ops10_44 (i : S2048.Idx) : StableHlo.after hostOps0_10 V (Proc.devRef .tc main_v44) i = IntOp.cmpi .slt (V (Proc.devRef .tc main_v30) i) 64#32 := by
  after_reads_at
theorem ops10_42 (i : S2048.Idx) : StableHlo.after hostOps0_10 V (Proc.devRef .tc main_v42) i = IntOp.addi
      (IntOp.muli (IntOp.addi (IntOp.muli (V (Proc.devRef .tc main_v36) i) 8#32) (V (Proc.devRef .tc main_v33) i)) 64#32)
      (V (Proc.devRef .tc main_v30) i) := by
  after_reads_at
theorem ops4_c7 : (StableHlo.after hostOps0_4 V (Proc.devRef .tc main_c_7) ix0 : BitVec 32) = 8#32 := by
  after_reads_at
theorem ops6_c8 : (StableHlo.after hostOps0_6 V (Proc.devRef .tc main_c_8) ix0 : BitVec 32) = 8#32 := by
  after_reads_at
theorem ops2_c4 : (StableHlo.after hostOps0_2 V (Proc.devRef .tc main_c_4) ix0 : BitVec 32) = 0#32 := by
  after_reads_at
theorem ops4_30 (t : Fin 2048) : (StableHlo.after hostOps0_4 V (Proc.devRef .tc main_v30) (ix1 t) : BitVec 32) =
    IntOp.subi (Finset.fold IntOp.addi (0#32) (fun x => V (Proc.devRef .tc main_v27) (ix2 t x)) Finset.univ) 1#32 := by
  after_reads_at
theorem ops3_27 (i : S2048x64.Idx) : (StableHlo.after hostOps0_3 V (Proc.devRef .tc main_v27) i : BitVec 32) =
    Scalar.select (V (Proc.devRef .tc main_v21) i) (V (Proc.devRef .tc main_v26) i) (V (Proc.devRef .tc main_c_4) ix0) := by
  after_reads_at
  rfl
theorem ops1_26 (f : Fin 64 → ℕ → ℕ) (hf : ∀ (t : Fin 2048) (e : Fin 64), V (Proc.devRef .tc main_v25) (ix2 t e) = BitVec.ofNat 32 (f e t))
    (t : Fin 2048) (e : Fin 64) : (StableHlo.after hostOps0_1 V (Proc.devRef .tc main_v26) (ix2 t e) : BitVec 32) = BitVec.ofNat 32 (∑ i ∈ Finset.range (t.val + 1), f e i) := by
  after_reads_at
  exact running _ e (f e) (fun i => hf i e) _ (fun _ => rfl) _ _ t
theorem ops0_25 (c) (t : Fin 2048) (e : Fin 64) : (StableHlo.after (hostOps0 c) V (Proc.devRef .tc main_v25) (ix2 t e) : BitVec 32) = BitVec.setWidth 32
      (IntOp.cmpi .eq (V (Proc.devRef .tc main_arg2) (ix2 t 0)) (BitVec.ofNat 32 e.val)) := by
  after_reads_at
theorem ops0_21 (c) (t : Fin 2048) (e : Fin 64) : (StableHlo.after (hostOps0 c) V (Proc.devRef .tc main_v21) (ix2 t e) : BitVec 1) =
      IntOp.cmpi .eq (V (Proc.devRef .tc main_arg2) (ix2 t 0)) (BitVec.ofNat 32 e.val) := by
  after_reads_at
end
/-- Whether token `i` goes to expert `e`, as a number. -/
def hit (E : Fin 2048 → Fin 64) (e : Fin 64) (i : ℕ) : ℕ := if h : i < 2048 then if E ⟨i, h⟩ = e then 1 else 0 else 0
/-- How many earlier tokens share token `t`'s expert. -/
def rank (E : Fin 2048 → Fin 64) (t : Fin 2048) : ℕ := ∑ i ∈ Finset.range t.val, hit E (E t) i

theorem hit_at (E : Fin 2048 → Fin 64) (e : Fin 64) (t : Fin 2048) : hit E e t.val = if E t = e then 1 else 0 := by
  unfold hit; rw [dif_pos t.isLt]
theorem eq_word : ∀ a b : Fin 64, IntOp.cmpi .eq (BitVec.ofNat 32 a.val) (BitVec.ofNat 32 b.val) = if a = b then 1#1 else 0#1 := by decide +kernel

theorem fold_one (w : BitVec 32) (a : Fin 64) : Finset.fold IntOp.addi (0#32) (fun e => if a = e then w else 0#32) Finset.univ = w := by
  have h : Finset.fold IntOp.addi (0#32) (fun e => if a = e then w else 0#32) Finset.univ = ∑ e, (if a = e then w else 0#32) := rfl
  rw [h]
  exact (Finset.sum_ite_eq Finset.univ a fun _ => w).trans (if_pos (Finset.mem_univ a))

/-- The place of token `t` among the records its device sends. -/
def place (E : Fin 2048 → Fin 64) (c : Dev nD) (t : Fin 2048) : ℕ := (((E t).val / 8 + 8 - c.val) % 8 * 8 + (E t).val % 8) * 64 + rank E t

variable (m : (ℓ : Loc nD τ sig) → Buf (Elt Ideal) ℓ) (c : Dev nD) (E : Fin 2048 → Fin 64)
theorem place_at (hE : ∀ t : Fin 2048, m (c.tc.loc main_arg2) (ix2 t 0) = BitVec.ofNat 32 (E t).val) (hr : ∀ t, rank E t < 64) (t : Fin 2048) :
    V12 m c main_v45 (ix1 t) = BitVec.ofNat 32 (place E c t) := by
  have h21 : ∀ e : Fin 64, V1 m c main_v21 (ix2 t e) = if E t = e then 1#1 else 0#1 := fun e =>
    (ops0_21 (V0 m c) c t e).trans ((congrArg (IntOp.cmpi .eq · _) (hE t)).trans (eq_word _ _))
  have h25 : ∀ (t : Fin 2048) (e : Fin 64), V1 m c main_v25 (ix2 t e) = BitVec.ofNat 32 (hit E e t) := fun t e => by
    refine (ops0_25 (V0 m c) c t e).trans ?_
    rw [show V0 m c (Proc.devRef .tc main_arg2) (ix2 t 0) = BitVec.ofNat 32 (E t).val from hE t, eq_word, hit_at]
    split <;> rfl
  have h26 : ∀ e : Fin 64, V2 m c main_v26 (ix2 t e) = BitVec.ofNat 32 (∑ i ∈ Finset.range (t.val + 1), hit E e i) := fun e =>
    ops1_26 (V1 m c) (hit E) h25 t e
  have h27 : ∀ e : Fin 64, V4 m c main_v27 (ix2 t e) = if E t = e then BitVec.ofNat 32 (rank E t + 1) else 0#32 := fun e => by
    refine (ops3_27 (V3 m c) _).trans ?_
    rw [show V3 m c (Proc.devRef .tc main_c_4) ix0 = 0#32 from ops2_c4 _,
      show V3 m c (Proc.devRef .tc main_v26) (ix2 t e) = _ from (congrFun (V3_of m c main_v26 (by decide)) _).trans (h26 e),
      show V3 m c (Proc.devRef .tc main_v21) (ix2 t e) = _ from (congrFun ((V3_of m c main_v21 (by decide)).trans (V2_of m c main_v21 (by decide))) _).trans (h21 e)]
    by_cases he : E t = e
    · subst he
      rw [if_pos rfl, if_pos rfl, Finset.sum_range_succ, hit_at, if_pos rfl]
      rfl
    · rw [if_neg he, if_neg he]; rfl
  have h30 : V5 m c main_v30 (ix1 t) = BitVec.ofNat 32 (rank E t) := by
    refine (ops4_30 (V4 m c) t).trans ?_
    rw [show (fun x : Fin 64 => V4 m c (Proc.devRef .tc main_v27) (ix2 t x)) = _ from funext h27, fold_one]
    show BitVec.ofNat 32 (rank E t + 1) - 1#32 = _
    rw [BitVec.ofNat_add]; simp
  have h31 : V5 m c main_v31 (ix1 t) = BitVec.ofNat 32 (E t).val := by
    refine (ops4_31 (V4 m c) t).trans ?_
    exact (congrFun ((V4_of m c main_arg2 (by decide)).trans <| (V3_of m c main_arg2 (by decide)).trans <| (V2_of m c main_arg2 (by decide)).trans <|
      (V1_of m c main_arg2 (by decide))) _).trans (hE t)
  have h32 : V6 m c main_v32 (ix1 t) = BitVec.ofNat 32 ((E t).val / 8) := by
    refine (ops5_32 (V5 m c) _).trans ?_
    rw [show V5 m c (Proc.devRef .tc main_v31) (ix1 t) = _ from h31, show V5 m c (Proc.devRef .tc main_c_7) ix0 = _ from ops4_c7 _, fdiv_word]
  have h33 : V8 m c main_v33 (ix1 t) = BitVec.ofNat 32 ((E t).val % 8) := by
    refine (ops7_33 (V7 m c) _).trans ?_
    rw [show V7 m c (Proc.devRef .tc main_v31) (ix1 t) = _ from (congrFun ((V7_of m c main_v31 (by decide)).trans (V6_of m c main_v31 (by decide))) _).trans h31,
      show V7 m c (Proc.devRef .tc main_c_8) ix0 = _ from ops6_c8 _, fmod_word]
  have h35 : V9 m c main_v35 (ix1 t) = IntOp.subi (BitVec.ofNat 32 ((E t).val / 8)) (BitVec.ofNat 32 c.val) := by
    refine (ops8_35 (V8 m c) t).trans ?_
    rw [show V8 m c (Proc.devRef .tc main_v32) (ix1 t) = _ from (congrFun ((V8_of m c main_v32 (by decide)).trans (V7_of m c main_v32 (by decide))) _).trans h32,
      show V8 m c (Proc.devRef .tc main_v4) ix0 = BitVec.ofNat 32 c.val from (congrFun ((V8_of m c main_v4 (by decide)).trans <| (V7_of m c main_v4 (by decide)).trans <|
        (V6_of m c main_v4 (by decide)).trans <| (V5_of m c main_v4 (by decide)).trans <| (V4_of m c main_v4 (by decide)).trans <|
        (V3_of m c main_v4 (by decide)).trans (V2_of m c main_v4 (by decide))) _).trans (ops0_4 (V0 m c) c)]
  have h36 : V10 m c main_v36 (ix1 t) = BitVec.ofNat 32 (((E t).val / 8 + 8 - c.val) % 8) := by
    refine (ops9_36 (V9 m c) _).trans ?_
    rw [show V9 m c (Proc.devRef .tc main_v35) (ix1 t) = _ from h35, show V9 m c (Proc.devRef .tc main_c_9) ix0 = _ from ops8_c9 _]
    exact off_word c ⟨(E t).val / 8, by omega⟩
  have h30' : V10 m c main_v30 (ix1 t) = BitVec.ofNat 32 (rank E t) :=
    (congrFun ((V10_of m c main_v30 (by decide)).trans <| (V9_of m c main_v30 (by decide)).trans <| (V8_of m c main_v30 (by decide)).trans <|
      (V7_of m c main_v30 (by decide)).trans (V6_of m c main_v30 (by decide))) _).trans h30
  have h33' : V10 m c main_v33 (ix1 t) = BitVec.ofNat 32 ((E t).val % 8) :=
    (congrFun ((V10_of m c main_v33 (by decide)).trans (V9_of m c main_v33 (by decide))) _).trans h33
  have h44 : V11 m c main_v44 (ix1 t) = 1#1 := by
    refine (ops10_44 (V10 m c) _).trans ?_
    rw [show V10 m c (Proc.devRef .tc main_v30) (ix1 t) = _ from h30']
    exact (by decide +kernel : ∀ r : Fin 64, IntOp.cmpi .slt (BitVec.ofNat 32 r.val) 64#32 = 1#1) ⟨_, hr t⟩
  have h42 : V11 m c main_v42 (ix1 t) = BitVec.ofNat 32 (place E c t) := by
    refine (ops10_42 (V10 m c) _).trans ?_
    rw [show V10 m c (Proc.devRef .tc main_v30) (ix1 t) = _ from h30', show V10 m c (Proc.devRef .tc main_v33) (ix1 t) = _ from h33',
      show V10 m c (Proc.devRef .tc main_v36) (ix1 t) = _ from h36]
    unfold place
    rw [BitVec.ofNat_add, BitVec.ofNat_mul, BitVec.ofNat_add, BitVec.ofNat_mul]
    rfl
  refine (ops11_45 (V11 m c) _).trans ?_
  rw [show V11 m c (Proc.devRef .tc main_v44) (ix1 t) = _ from h44, show V11 m c (Proc.devRef .tc main_v42) (ix1 t) = _ from h42]
  rfl

theorem sr_at (hE : ∀ t : Fin 2048, m (c.tc.loc main_arg2) (ix2 t 0) = BitVec.ofNat 32 (E t).val) (hr : ∀ t, rank E t < 64) (t : Fin 2048) :
    V13 m c main_v47 (ix2 0 t) = BitVec.ofNat 32 (place E c t) := (ops12_47 (V12 m c) t).trans (place_at m c E hE hr t)
theorem sc_at (hE : ∀ t : Fin 2048, m (c.tc.loc main_arg2) (ix2 t 0) = BitVec.ofNat 32 (E t).val) (hr : ∀ t, rank E t < 64) (t : Fin 2048) :
    V13 m c main_v48 (ix2 t 0) = BitVec.ofNat 32 (place E c t) := (ops12_48 (V12 m c) t).trans (place_at m c E hE hr t)

theorem place_lt (hr : ∀ t, rank E t < 64) (t : Fin 2048) : place E c t < 4096 := by
  have := hr t
  unfold place; omega

theorem rank_lt {t t' : Fin 2048} (h : t < t') (he : E t = E t') : rank E t < rank E t' := by
  unfold rank
  rw [← he]
  have h1 : ∑ i ∈ Finset.range (t.val + 1), hit E (E t) i ≤ ∑ i ∈ Finset.range t'.val, hit E (E t) i :=
    Finset.sum_le_sum_of_subset (Finset.range_subset_range.2 h)
  rw [Finset.sum_range_succ, hit_at, if_pos rfl] at h1
  exact h1

theorem place_inj (hr : ∀ t, rank E t < 64) : Function.Injective (place E c) := by
  intro t t' h
  have h1 := hr t
  have h2 := hr t'
  have hc : c.val < 8 := c.isLt
  unfold place at h
  have he : E t = E t' := Fin.ext (by omega)
  rcases lt_trichotomy t t' with hlt | rfl | hlt
  · have := rank_lt E hlt he
    rw [he] at h; omega
  · rfl
  · have := rank_lt E hlt he.symm
    rw [he] at h; omega

theorem rank_of_count (hc : ∀ e, ∑ i ∈ Finset.range 2048, hit E e i ≤ 64) (t : Fin 2048) : rank E t < 64 := by
  have h1 : ∑ i ∈ Finset.range (t.val + 1), hit E (E t) i ≤ ∑ i ∈ Finset.range 2048, hit E (E t) i :=
    Finset.sum_le_sum_of_subset (Finset.range_subset_range.2 t.isLt)
  rw [Finset.sum_range_succ, hit_at, if_pos rfl] at h1
  have := hc (E t)
  unfold rank; omega
end Cert.KernelIdeal.Moe
-- ==== Proof.Probs.lean ====
module

public import proofs.«01_k».proof.Proof.Steps

@[expose] public section

noncomputable section
open Idealize.ShloMosaic Idealize.SL.Sem Idealize.ShloMosaic.TcCoe

namespace Cert.Proof
/-- The softmax of a row of scores. -/
def soft (s : Fin 64 → EReal) (e : Fin 64) : EReal :=
  Ideal.div (Ideal.exp (s e - Finset.fold max ⊥ s Finset.univ)) (∑ a, Ideal.exp (s a - Finset.fold max ⊥ s Finset.univ))

/-- A row's scores. -/
def score (x : Fin 1024 → EReal) (w : Fin 1024 → Fin 64 → EReal) (e : Fin 64) : EReal := ∑ d, x d * w d e

theorem low_word : Ideal.ofBits FTy.f32 4286578688#32 = ⊥ := by
  simp [Ideal.ofBits, Ideal.ieee]

theorem soft_real (s : Fin 64 → EReal) (hs : ∀ e, ∃ r : ℝ, s e = r) (e : Fin 64) : 0 ≤ soft s e ∧ soft s e ≠ ⊤ := by
  obtain ⟨i, -, hi⟩ := Finset.exists_mem_eq_sup Finset.univ ⟨0, Finset.mem_univ _⟩ s
  choose r hr using hs
  have hM : Finset.fold max ⊥ s Finset.univ = (r i : EReal) := hi.trans (hr i)
  have hx : ∀ a, Ideal.exp (s a - Finset.fold max ⊥ s Finset.univ) = ((Real.exp (r a - r i) : ℝ) : EReal) := fun a => by
    rw [hM, hr, ← EReal.coe_sub, Ideal.exp_coe]
  have hsum : (∑ a, Ideal.exp (s a - Finset.fold max ⊥ s Finset.univ)) = ((∑ a, Real.exp (r a - r i) : ℝ) : EReal) := by
    rw [Finset.sum_congr rfl fun a _ => hx a]
    exact (map_sum (⟨⟨Real.toEReal, rfl⟩, EReal.coe_add⟩ : ℝ →+ EReal) _ _).symm
  have hpos : 0 < ∑ a, Real.exp (r a - r i) := Finset.sum_pos (fun a _ => Real.exp_pos _) ⟨0, Finset.mem_univ _⟩
  unfold soft Ideal.div
  rw [hsum, hx, if_neg (by exact_mod_cast hpos.ne'), ← EReal.coe_inv, ← EReal.coe_mul]
  exact ⟨by exact_mod_cast mul_nonneg (Real.exp_pos _).le (inv_nonneg.2 hpos.le), EReal.coe_ne_top _⟩
end Cert.Proof

namespace Cert.KernelIdeal.Moe
open Cert.KernelIdeal.Gen Cert.Proof
variable (m : (ℓ : Loc nD τ sig) → Buf (Elt Ideal) ℓ) (c : Dev nD) (E : Fin 2048 → Fin 64)

theorem bit_real : ∀ a b : Fin 64, (FloatOps.uitofp (F := Ideal) FTy.f32 (IntOp.cmpi .eq (BitVec.ofNat 32 a.val) (BitVec.ofNat 32 b.val)) : EReal) = if a = b then 1 else 0 := by
  intro a b
  rw [show IntOp.cmpi .eq (BitVec.ofNat 32 a.val) (BitVec.ofNat 32 b.val) = if a = b then 1#1 else 0#1 from by revert a b; decide +kernel]
  split
  · simp [FloatOps.uitofp]
  · simp [FloatOps.uitofp]

theorem ops0_24 (V : Valuation τ sig (Elt Ideal)) (t : Fin 2048) (a : Fin 64) (ha : V (Proc.devRef .tc main_arg2) (ix2 t 0) = BitVec.ofNat 32 a.val) :
    (StableHlo.after (hostOps0 c) V (Proc.devRef .tc main_v24) (ix1 t) : EReal) =
      soft (score (fun d => V (Proc.devRef .tc main_arg0) (ix2 t d)) (fun d e => V (Proc.devRef .tc main_arg1) (ix2 d e))) a := by
  after_reads_at
  have hb : ∀ x : Fin 64, (FloatOps.uitofp (F := Ideal) FTy.f32 (IntOp.cmpi .eq (V (Proc.devRef .tc main_arg2) (ix2 t 0)) (BitVec.ofNat 32 x.val)) : EReal) = if a = x then 1 else 0 := fun x =>
    (congrArg (fun w => (FloatOps.uitofp (F := Ideal) FTy.f32 (IntOp.cmpi .eq w (BitVec.ofNat 32 x.val)) : EReal)) ha).trans (bit_real a x)
  refine (Finset.sum_congr rfl fun x _ => congrArg (_ * ·) (hb x)).trans ?_
  refine (Finset.sum_congr rfl fun x _ => mul_ite (a = x) _ (1 : EReal) 0).trans ?_
  simp only [mul_one, mul_zero, low_word, bot_sup_eq, max_bot_left]
  exact (Finset.sum_ite_eq Finset.univ a _).trans (if_pos (Finset.mem_univ a))

theorem p_at (hE : ∀ t : Fin 2048, m (c.tc.loc main_arg2) (ix2 t 0) = BitVec.ofNat 32 (E t).val) (t : Fin 2048) :
    (V13 m c main_v46 (ix2 0 t) : EReal) = soft (score (fun d => m (c.tc.loc main_arg0) (ix2 t d)) (fun d e => m (c.tc.loc main_arg1) (ix2 d e))) (E t) := by
  have h0 : StableHlo.after hostOps0_12 (V12 m c) (Proc.devRef .tc main_v46) (ix2 0 t) = V12 m c (Proc.devRef .tc main_v24) (ix1 t) := by
    after_reads_at
  refine h0.trans ?_
  refine (congrFun ((V12_of m c main_v24 (by decide)).trans <| (V11_of m c main_v24 (by decide)).trans <| (V10_of m c main_v24 (by decide)).trans <|
    (V9_of m c main_v24 (by decide)).trans <| (V8_of m c main_v24 (by decide)).trans <| (V7_of m c main_v24 (by decide)).trans <|
    (V6_of m c main_v24 (by decide)).trans <| (V5_of m c main_v24 (by decide)).trans <| (V4_of m c main_v24 (by decide)).trans <|
    (V3_of m c main_v24 (by decide)).trans (V2_of m c main_v24 (by decide))) _).trans ?_
  exact ops0_24 c (V0 m c) t (E t) (hE t)
end Cert.KernelIdeal.Moe
-- ==== Proof.Fits.lean ====
module

public import proofs.«01_k».proof.Pre_fits_KernelIdeal
public import proofs.«01_k».proof.Proof.Places
public import proofs.«01_k».proof.Proof.Probs
public import Idealize.ShloMosaic.Lib.ReduceAll
public import Idealize.ShloMosaic.Lib.Routing.BitFacts

@[expose] public section

noncomputable section
open Idealize.ShloMosaic Cert.KernelIdeal.Moe

namespace Cert.Proof
variable [Cert.Pre_fits_KernelIdeal.Facts]
open Cert.Pre_fits_KernelIdeal

theorem bits_and (a b : IVec S_ 1) (h : andi a b = fun _ => 1#1) : a = (fun _ => 1#1) ∧ b = (fun _ => 1#1) := by
  have : ∀ u v : BitVec 1, IntOp.andi u v = 1#1 → u = 1#1 ∧ v = 1#1 := by decide
  exact ⟨funext fun i => (this _ _ (congrFun h i)).1, funext fun i => (this _ _ (congrFun h i)).2⟩

theorem top_word : Ideal.ofBits .f32 0x7F800000#32 = ⊤ := by simp [Ideal.ofBits, Ideal.ieee]

theorem real_of_abs (x : EReal) (h : max x (-x) < ⊤) : ∃ r : ℝ, x = r := by
  induction x with
  | bot => simp at h
  | top => simp at h
  | coe r => exact ⟨r, rfl⟩

theorem one_bit (b : Bool) (h : BitVec.ofBool b = 1#1) : b = true := by
  cases b
  · exact absurd h (by decide)
  · rfl

theorem small_word (w : BitVec 32) (h0 : IntOp.cmpi .sge w 0#32 = 1#1) (h1 : IntOp.cmpi .slt w 64#32 = 1#1) : w.toNat < 64 := by
  have h0 := one_bit _ h0
  have h1 := one_bit _ h1
  simp only [BitVec.sle, BitVec.slt, decide_eq_true_eq] at h0 h1
  rw [show (0#32).toInt = 0 from rfl] at h0
  rw [show (64#32).toInt = 64 from rfl] at h1
  have := Routing.toNat_lt_of_toInt_nonneg w h0
  rw [BitVec.toInt_eq_toNat_cond, if_pos (by omega)] at h1
  omega

theorem few_word (n : ℕ) (hn : n ≤ 2048) (h : IntOp.cmpi .sle (BitVec.ofNat 32 n) 64#32 = 1#1) : n ≤ 64 := by
  have h := one_bit _ h
  dsimp only at h
  rw [Routing.sle_ofNat32 (by omega) (by omega)] at h
  exact of_decide_eq_true h

theorem count_at (r : IVec S2048x1 32) (E : Fin 2048 → Fin 64) (hr : ∀ t, r (ix2 t 0) = BitVec.ofNat 32 (E t).val) (e : Fin 64) :
    Host.reduce IntOp.addi (extui 32 (cmpi .eq (broadcastInDim S2048x64 ![0, 1] Facts.bcast_S2048x1_S2048x64_0_1 r)
      (broadcastInDim S2048x64 ![0, 1] Facts.bcast_S1x64_S2048x64_0_1 (broadcastInDim S1x64 ![1] Facts.bcast_S64_S1x64_1 (iotaInDim S64 32 0)))) Facts.natLt_1_32)
      (constantI S_ 32 0#32) Facts.reducesTo_S2048x64_S64_d0 Facts.h_S_ (ix1 e) = BitVec.ofNat 32 (∑ i ∈ Finset.range 2048, hit E e i) := by
  have hit' : ∀ t : Fin 2048, BitVec.setWidth 32 (IntOp.cmpi .eq (r (ix2 t 0)) (BitVec.ofNat 32 e.val)) = ((hit E e t.val : ℕ) : BitVec 32) := fun t => by
    rw [hr, eq_word, hit_at]
    split <;> rfl
  have e1 : BitVec.ofNat 32 (∑ i ∈ Finset.range 2048, hit E e i) = ∑ t : Fin 2048, BitVec.setWidth 32 (IntOp.cmpi .eq (r (ix2 t 0)) (BitVec.ofNat 32 e.val)) := by
    rw [Finset.sum_congr rfl fun t _ => hit' t, ← Nat.cast_sum, Fin.sum_univ_eq_sum_range]
    rfl
  rw [e1]
  pointwise
  rfl

theorem fits_split (x : FVec Ideal S2048x1024 .f32) (w : FVec Ideal S1024x64 .f32) (r : IVec S2048x1 32) (a3 : FVec Ideal S8x1024x1024 .f32) (a4 : FVec Ideal S1024x1024 .f32)
    (h : fn x w r a3 a4 = fun _ => 1#1) : (∀ t d, ∃ v : ℝ, x (ix2 t d) = v) ∧ (∀ d e, ∃ v : ℝ, w (ix2 d e) = v) ∧
      ∃ E : Fin 2048 → Fin 64, (∀ t, r (ix2 t 0) = BitVec.ofNat 32 (E t).val) ∧ ∀ e, ∑ i ∈ Finset.range 2048, hit E e i ≤ 64 := by
  unfold fn fn_part1 at h
  obtain ⟨h, hw⟩ := bits_and _ _ h
  obtain ⟨h, hx⟩ := bits_and _ _ h
  obtain ⟨h, hc⟩ := bits_and _ _ h
  obtain ⟨hlo, hhi⟩ := bits_and _ _ h
  haveI : Subsingleton S_.Idx := ⟨fun a b => funext fun i => i.elim0⟩
  have lt_of : ∀ a : EReal, FloatOps.cmpf (F := Ideal) (φ := .f32) .olt (max a (-a)) (Ideal.ofBits .f32 0x7F800000#32) = 1#1 → ∃ v : ℝ, a = v := fun a ha => by
    rw [top_word] at ha
    refine real_of_abs a ?_
    by_contra hn
    simp [FloatOps.cmpf, Ideal.cmp, hn] at ha
  have hx' := fun t d => Host.reduce_andi_all _ _ _ _ ix0 (congrFun hx ix0) (ix2 t d)
  have hw' := fun d e => Host.reduce_andi_all _ _ _ _ ix0 (congrFun hw ix0) (ix2 d e)
  have hlo' := fun t => Host.reduce_andi_all _ _ _ _ ix0 (congrFun hlo ix0) (ix2 t 0)
  have hhi' := fun t => Host.reduce_andi_all _ _ _ _ ix0 (congrFun hhi ix0) (ix2 t 0)
  have hc' := fun e => Host.reduce_andi_all _ _ _ _ ix0 (congrFun hc ix0) (ix1 e)
  have hlt : ∀ t, (r (ix2 t 0)).toNat < 64 := fun t => small_word _ (hlo' t) (hhi' t)
  refine ⟨fun t d => lt_of _ (hx' t d), fun d e => lt_of _ (hw' d e), fun t => ⟨(r (ix2 t 0)).toNat, hlt t⟩, fun t => (BitVec.ofNat_toNat .. ▸ (BitVec.setWidth_eq _).symm), fun e => ?_⟩
  set E : Fin 2048 → Fin 64 := fun t => ⟨(r (ix2 t 0)).toNat, hlt t⟩ with hE
  have hr : ∀ t, r (ix2 t 0) = BitVec.ofNat 32 (E t).val := fun t => by simp [hE]
  have hc := hc' e
  refine few_word _ ?_ ((congrArg (IntOp.cmpi .sle · 64#32) (count_at r E hr e)).symm.trans hc)
  refine (Finset.sum_le_card_nsmul (Finset.range 2048) _ 1 fun i _ => ?_).trans (by simp)
  unfold hit
  split
  · split <;> omega
  · omega
end Cert.Proof
-- ==== Proof.Plain.lean ====
module

public import proofs.«01_k».proof.Proof.Gen.ReferenceIdeal.Run
public import proofs.«01_k».proof.Proof.Probs
public import Idealize.ShloMosaic.Lib.ReduceAll
public import Idealize.ShloMosaic.Lib.ValueIdx
public import Idealize.ShloMosaic.Lib.Pointwise

@[expose] public section

noncomputable section
open Idealize.ShloMosaic Idealize.SL.Sem Idealize.ShloMosaic.TcCoe

namespace Cert.ReferenceIdeal.Plain
open Cert.ReferenceIdeal Cert.ReferenceIdeal.Gen Cert.Proof Facts

/-- A route, counted from the end where it is negative. -/
def wrap (a2 : IVec S16384x1 32) : IVec S16384x1 32 :=
  select (cmpi .slt a2 (broadcastInDim S16384x1 ![] bcast_S_S16384x1 (constantI S_ 32 0#32))) (addi a2 (broadcastInDim S16384x1 ![] bcast_S_S16384x1 (constantI S_ 32 64#32))) a2

/-- The same, of the routes as a vector. -/
def wrapV (a2 : IVec S16384x1 32) : IVec S16384 32 :=
  select (cmpi .slt (shapeCast _ a2 shapeCasts_S16384x1_S16384) (broadcastInDim S16384 ![] bcast_S_S16384 (constantI S_ 32 0#32))) (addi (shapeCast _ a2 shapeCasts_S16384x1_S16384) (broadcastInDim S16384 ![] bcast_S_S16384 (constantI S_ 32 64#32))) (shapeCast _ a2 shapeCasts_S16384x1_S16384)

def scores (a0 : FVec Ideal S16384x1024 .f32) (a1 : FVec Ideal S1024x64 .f32) : FVec Ideal S16384x64 .f32 :=
  Host.dotGeneral dot_S16384x1024_S1024x64_S16384x64_1_0_0_1_n_n none a0 a1

def weights (s : FVec Ideal S16384x64 .f32) : FVec Ideal S16384x64 .f32 :=
  Host.exp (subf s (broadcastInDim S16384x64 ![0, 1] bcast_S16384x1_S16384x64_0_1 (broadcastInDim S16384x1 ![0] bcast_S16384_S16384x1_0 (Host.reduce FloatOps.maximumf s (constant S_ .f32 0xFF800000#32) reducesTo_S16384x64_S16384_d1 h_S_))))

def shares (s : FVec Ideal S16384x64 .f32) : FVec Ideal S16384x64 .f32 :=
  Host.divf (weights s) (broadcastInDim S16384x64 ![0, 1] bcast_S16384x1_S16384x64_0_1 (broadcastInDim S16384x1 ![0] bcast_S16384_S16384x1_0 (Host.reduceAdd (weights s) (constant S_ .f32 0x00000000#32) reducesTo_S16384x64_S16384_d1 h_S_)))

/-- Whether each route, wrapped, is an expert's number. -/
def within (a2 : IVec S16384x1 32) : IVec S16384x1 1 :=
  Host.reduce IntOp.andi (andi (cmpi .sge (shapeCast _ (wrap a2) shapeCasts_S16384x1_S16384x1x1) (broadcastInDim S16384x1x1 ![] bcast_S_S16384x1x1 (constantI S_ 32 0#32))) (cmpi .sle (shapeCast _ (wrap a2) shapeCasts_S16384x1_S16384x1x1) (broadcastInDim S16384x1x1 ![0, 1, 2] bcast_S1x1x1_S16384x1x1_0_1_2 (broadcastInDim S1x1x1 ![2] bcast_S1_S1x1x1_2 (constantI S1 32 63#32))))) (constantI S_ 1 1#1) reducesTo_S16384x1x1_S16384x1_d2 h_S_

def share (a0 : FVec Ideal S16384x1024 .f32) (a1 : FVec Ideal S1024x64 .f32) (a2 : IVec S16384x1 32) : FVec Ideal S16384x1 .f32 :=
  select (within a2) (Host.gather gather_S16384x64_S16384x1x1_S16384x1_n_1_0_0_1_2_11 (shares (scores a0 a1)) (shapeCast _ (wrap a2) shapeCasts_S16384x1_S16384x1x1)) (broadcastInDim S16384x1 ![] bcast_S_S16384x1 (constant S_ .f32 0x7FC00000#32))

def routed (a2 : IVec S16384x1 32) (a3 : FVec Ideal S64x1024x1024 .f32) : FVec Ideal S16384x1024x1024 .f32 :=
  Host.gather gather_S64x1024x1024_S16384x1_S16384x1024x1024_12_0_n_n_0_1_110241024 a3 (broadcastInDim S16384x1 ![0] bcast_S16384_S16384x1_0 (wrapV a2))

/-- What the reference leaves in its result. -/
def out (a0 : FVec Ideal S16384x1024 .f32) (a1 : FVec Ideal S1024x64 .f32) (a2 : IVec S16384x1 32) (a3 : FVec Ideal S64x1024x1024 .f32) (a4 : FVec Ideal S1024x1024 .f32) :
    FVec Ideal S16384x1024 .f32 :=
  addf (Host.dotGeneral dot_S16384x1024_S1024x1024_S16384x1024_1_0_0_1_n_n none a0 a4)
    (mulf (broadcastInDim S16384x1024 ![0, 1] bcast_S16384x1_S16384x1024_0_1 (share a0 a1 a2))
      (Host.dotGeneral dot_S16384x1024_S16384x1024x1024_S16384x1024_1_1_n_2_0_0 none a0 (routed a2 a3)))

variable (a0 : FVec Ideal S16384x1024 .f32) (a1 : FVec Ideal S1024x64 .f32) (a2 : IVec S16384x1 32) (a3 : FVec Ideal S64x1024x1024 .f32) (a4 : FVec Ideal S1024x1024 .f32)

theorem out_open (T : Fin 16384) (h : Fin 1024) : (out a0 a1 a2 a3 a4 (ix2 T h) : EReal) =
    (∑ d : Fin 1024, a0 (ix2 T d) * a4 (ix2 d h)) + share a0 a1 a2 (ix2 T 0) * ∑ d : Fin 1024, a0 (ix2 T d) * routed a2 a3 (ix3 T d h) := by
  unfold out
  pointwise
theorem scores_at (T : Fin 16384) (e : Fin 64) : (scores a0 a1 (ix2 T e) : EReal) = score (fun d => a0 (ix2 T d)) (fun d e => a1 (ix2 d e)) e := by
  unfold scores score
  pointwise
theorem shares_at (s : FVec Ideal S16384x64 .f32) (T : Fin 16384) (e : Fin 64) : (shares s (ix2 T e) : EReal) = soft (fun e => s (ix2 T e)) e := by
  unfold shares weights soft
  pointwise
  simp only [low_word]

theorem keep_word : ∀ e : Fin 64, Scalar.select (IntOp.cmpi .slt (BitVec.ofNat 32 e.val) 0#32) (IntOp.addi (BitVec.ofNat 32 e.val) 64#32) (BitVec.ofNat 32 e.val) = BitVec.ofNat 32 e.val := by
  decide +kernel
theorem fine_word : ∀ e : Fin 64, IntOp.andi (IntOp.cmpi .sge (BitVec.ofNat 32 e.val) 0#32) (IntOp.cmpi .sle (BitVec.ofNat 32 e.val) 63#32) = 1#1 := by
  decide +kernel

theorem expert_word (E : Fin 16384 → Fin 64) (T : Fin 16384) : min (BitVec.ofNat 32 (E T).val).toInt.toNat 63 = (E T).val :=
  (by decide +kernel : ∀ e : Fin 64, min (BitVec.ofNat 32 e.val).toInt.toNat 63 = e.val) _

variable (E : Fin 16384 → Fin 64) (hE : ∀ T, a2 (ix2 T 0) = BitVec.ofNat 32 (E T).val)
include hE
theorem wrap_at (T : Fin 16384) : wrap a2 (ix2 T 0) = BitVec.ofNat 32 (E T).val := by
  unfold wrap
  pointwise
  rw [hE]
  exact keep_word _
theorem wrapV_at (T : Fin 16384) : wrapV a2 (ix1 T) = BitVec.ofNat 32 (E T).val := by
  unfold wrapV
  pointwise
  rw [hE]
  exact keep_word _
theorem wrap3_at (T : Fin 16384) : shapeCast _ (wrap a2) shapeCasts_S16384x1_S16384x1x1 (ix3 T 0 0) = BitVec.ofNat 32 (E T).val := by
  pointwise
  exact wrap_at a2 E hE T
theorem within_at (i) : within a2 i = 1#1 := by
  unfold within
  refine Host.reduce_andi_one _ _ _ _ _ rfl fun j => ?_
  pointwise
  exact (congrArg (fun w => IntOp.andi (IntOp.cmpi .sge w 0#32) (IntOp.cmpi .sle w 63#32)) (wrap_at a2 E hE (j 0))).trans (fine_word _)

theorem take_at (p : FVec Ideal S16384x64 .f32) (T : Fin 16384) :
    Host.gather gather_S16384x64_S16384x1x1_S16384x1_n_1_0_0_1_2_11 p (shapeCast _ (wrap a2) shapeCasts_S16384x1_S16384x1x1) (ix2 T 0) = p (ix2 T (E T)) := by
  have hw := wrap3_at a2 E hE T
  generalize shapeCast _ (wrap a2) shapeCasts_S16384x1_S16384x1x1 = idx at hw ⊢
  unfold Host.gather
  refine congrArg p (funext fun a => Fin.ext ?_)
  change GatherDims.start _ _ idx a + GatherDims.batchCoord _ _ a + GatherDims.offCoord _ _ a = _
  have ha : a = (0 : Fin 2) ∨ a = (1 : Fin 2) := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S16384x64_S16384x1x1_S16384x1_n_1_0_0_1_2_11.operandBatchingDims from List.mem_singleton.mpr rfl)]
    exact Nat.zero_add _
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S16384x64_S16384x1x1_S16384x1_n_1_0_0_1_2_11.startIndexMap from List.mem_singleton.mpr rfl)]
    refine Eq.trans ?_ (expert_word E T)
    rw [← hw]
    refine congrArg (fun i => min (idx i).toInt.toNat 63) (funext fun b => Fin.ext ?_)
    match b with
    | ⟨0, _⟩ => rfl
    | ⟨1, _⟩ => rfl
    | ⟨2, _⟩ => rfl

theorem pick_at (T : Fin 16384) (d h : Fin 1024) : routed a2 a3 (ix3 T d h) = a3 (ix3 (E T) d h) := by
  unfold routed
  have hw : broadcastInDim S16384x1 ![0] bcast_S16384_S16384x1_0 (wrapV a2) (ix2 T 0) = BitVec.ofNat 32 (E T).val := by
    pointwise
    exact wrapV_at a2 E hE T
  generalize broadcastInDim S16384x1 ![0] bcast_S16384_S16384x1_0 (wrapV a2) = idx at hw ⊢
  unfold Host.gather
  refine congrArg a3 (funext fun a => Fin.ext ?_)
  change GatherDims.start _ _ idx a + GatherDims.batchCoord _ _ a + GatherDims.offCoord _ _ a = _
  rw [GatherDims.batchCoord_eq_zero _ _ _ List.not_mem_nil]
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S64x1024x1024_S16384x1_S16384x1024x1024_12_0_n_n_0_1_110241024.startIndexMap from List.mem_singleton.mpr rfl)]
    refine Eq.trans ?_ (expert_word E T)
    rw [← hw]
    refine congrArg (fun i => min (idx i).toInt.toNat 63) (funext fun b => Fin.ext ?_)
    match b with
    | ⟨0, _⟩ => rfl
    | ⟨1, _⟩ => rfl
  · unfold GatherDims.start
    rw [dif_neg (show (1 : Fin 3) ∉ gather_S64x1024x1024_S16384x1_S16384x1024x1024_12_0_n_n_0_1_110241024.startIndexMap from fun h => absurd (List.mem_singleton.mp h) (by decide))]
    exact Nat.zero_add _
  · unfold GatherDims.start
    rw [dif_neg (show (2 : Fin 3) ∉ gather_S64x1024x1024_S16384x1_S16384x1024x1024_12_0_n_n_0_1_110241024.startIndexMap from fun h => absurd (List.mem_singleton.mp h) (by decide))]
    exact Nat.zero_add _

theorem out_at (T : Fin 16384) (h : Fin 1024) : (out a0 a1 a2 a3 a4 (ix2 T h) : EReal) =
    (∑ d : Fin 1024, a0 (ix2 T d) * a4 (ix2 d h)) + soft (score (fun d => a0 (ix2 T d)) (fun d e => a1 (ix2 d e))) (E T) * ∑ d : Fin 1024, a0 (ix2 T d) * a3 (ix3 (E T) d h) := by
  refine (out_open a0 a1 a2 a3 a4 T h).trans ?_
  have h1 : (share a0 a1 a2 (ix2 T 0) : EReal) = soft (score (fun d => a0 (ix2 T d)) (fun d e => a1 (ix2 d e))) (E T) := by
    unfold share
    show Scalar.select (within a2 (ix2 T 0)) _ _ = _
    rw [within_at a2 E hE]
    have e1 := take_at a2 E hE (shares (scores a0 a1)) T
    have e2 := shares_at (scores a0 a1) T (E T)
    rw [show (fun e : Fin 64 => (scores a0 a1 (ix2 T e) : EReal)) = _ from funext fun e => scores_at a0 a1 T e] at e2
    exact e1.trans e2
  have h2 : (∑ d : Fin 1024, (a0 (ix2 T d) * routed a2 a3 (ix3 T d h) : EReal)) = ∑ d : Fin 1024, a0 (ix2 T d) * a3 (ix3 (E T) d h) :=
    Finset.sum_congr rfl fun d _ => by rw [pick_at a2 a3 E hE]
  rw [h1, h2]
end Cert.ReferenceIdeal.Plain
-- ==== Proof.Value.lean ====
module

public import proofs.«01_k».proof.Proof.Ready
public import proofs.«01_k».proof.Proof.Total
public import proofs.«01_k».proof.Proof.Fits
public import proofs.«01_k».proof.Proof.Plain

@[expose] public section

noncomputable section
open Idealize.ShloMosaic Idealize.SL.Sem Idealize.ShloMosaic.TcCoe

namespace Cert.Proof

/-- Row `t` of device `c`'s tokens among all of them. -/
def row (c : Fin 8) (t : Fin 2048) : Fin 16384 := ⟨c.val * 2048 + t.val, by omega⟩

/-- Every token is some device's. -/
theorem row_back (T : Fin 16384) : ∃ (c : Fin 8) (t : Fin 2048), row c t = T :=
  ⟨⟨T.val / 2048, by omega⟩, ⟨T.val % 2048, by omega⟩, Fin.ext (by show T.val / 2048 * 2048 + T.val % 2048 = T.val; omega)⟩

/-- A device's block of an array cut by rows. -/
theorem block_row {α : Type} {n : ℕ} (c : Fin 8) (v : (⟨2, ![16384, n]⟩ : Shape).Idx → α) (h : Layout.Tiles ⟨2, ![2048, n]⟩ ⟨2, ![16384, n]⟩ 0 8) (t : Fin 2048) (d : Fin n) :
    Layout.block ⟨2, ![2048, n]⟩ ⟨2, ![16384, n]⟩ 0 8 c v h (ix2 t d) = v (ix2 (row c t) d) := by
  refine congrArg v (funext fun b => Fin.ext ?_)
  match b with
  | ⟨0, _⟩ => rfl
  | ⟨1, _⟩ => rfl

/-- A device's block of the experts' weights. -/
theorem block_expert {α : Type} (u : Fin 8) (v : (⟨3, ![64, 1024, 1024]⟩ : Shape).Idx → α) (h : Layout.Tiles ⟨3, ![8, 1024, 1024]⟩ ⟨3, ![64, 1024, 1024]⟩ 0 8)
    (le : Fin 8) (d e : Fin 1024) (x : Fin 64) (hx : u.val * 8 + le.val = x.val) :
    Layout.block ⟨3, ![8, 1024, 1024]⟩ ⟨3, ![64, 1024, 1024]⟩ 0 8 u v h (ix3 le d e) = v (ix3 x d e) := by
  refine congrArg v (funext fun b => Fin.ext ?_)
  match b with
  | ⟨0, _⟩ => exact hx
  | ⟨1, _⟩ => rfl
  | ⟨2, _⟩ => rfl

/-- Scores of reals are real. -/
theorem score_real (x : Fin 1024 → EReal) (w : Fin 1024 → Fin 64 → EReal) (hx : ∀ d, ∃ v : ℝ, x d = v) (hw : ∀ d e, ∃ v : ℝ, w d e = v) (e : Fin 64) :
    ∃ v : ℝ, score x w e = v := by
  choose f hf using hx
  choose g hg using hw
  refine ⟨∑ d, f d * g d e, ?_⟩
  unfold score
  rw [Finset.sum_congr rfl fun d _ => by rw [hf, hg, ← EReal.coe_mul]]
  exact (map_sum (⟨⟨Real.toEReal, rfl⟩, EReal.coe_add⟩ : ℝ →+ EReal) _ _).symm

end Cert.Proof

namespace Cert.KernelIdeal.Moe
open Cert.KernelIdeal.Gen Cert.Proof
variable (m : (ℓ : Loc nD τ sig) → Buf (Elt Ideal) ℓ) (c : Dev nD)

/-! The host code leaves the arguments as they were. -/

theorem V13_x : V13 m c main_arg0 = m (c.tc.loc main_arg0) :=
  (V13_of m c main_arg0 (by decide)).trans <| (V12_of m c main_arg0 (by decide)).trans <| (V11_of m c main_arg0 (by decide)).trans <| (V10_of m c main_arg0 (by decide)).trans <|
  (V9_of m c main_arg0 (by decide)).trans <| (V8_of m c main_arg0 (by decide)).trans <| (V7_of m c main_arg0 (by decide)).trans <| (V6_of m c main_arg0 (by decide)).trans <|
  (V5_of m c main_arg0 (by decide)).trans <| (V4_of m c main_arg0 (by decide)).trans <| (V3_of m c main_arg0 (by decide)).trans <| (V2_of m c main_arg0 (by decide)).trans <|
  V1_of m c main_arg0 (by decide)
theorem V13_e : V13 m c main_arg3 = m (c.tc.loc main_arg3) :=
  (V13_of m c main_arg3 (by decide)).trans <| (V12_of m c main_arg3 (by decide)).trans <| (V11_of m c main_arg3 (by decide)).trans <| (V10_of m c main_arg3 (by decide)).trans <|
  (V9_of m c main_arg3 (by decide)).trans <| (V8_of m c main_arg3 (by decide)).trans <| (V7_of m c main_arg3 (by decide)).trans <| (V6_of m c main_arg3 (by decide)).trans <|
  (V5_of m c main_arg3 (by decide)).trans <| (V4_of m c main_arg3 (by decide)).trans <| (V3_of m c main_arg3 (by decide)).trans <| (V2_of m c main_arg3 (by decide)).trans <|
  V1_of m c main_arg3 (by decide)
theorem V13_s : V13 m c main_arg4 = m (c.tc.loc main_arg4) :=
  (V13_of m c main_arg4 (by decide)).trans <| (V12_of m c main_arg4 (by decide)).trans <| (V11_of m c main_arg4 (by decide)).trans <| (V10_of m c main_arg4 (by decide)).trans <|
  (V9_of m c main_arg4 (by decide)).trans <| (V8_of m c main_arg4 (by decide)).trans <| (V7_of m c main_arg4 (by decide)).trans <| (V6_of m c main_arg4 (by decide)).trans <|
  (V5_of m c main_arg4 (by decide)).trans <| (V4_of m c main_arg4 (by decide)).trans <| (V3_of m c main_arg4 (by decide)).trans <| (V2_of m c main_arg4 (by decide)).trans <|
  V1_of m c main_arg4 (by decide)

section
variable (W : Dev nD → Valuation τ sig (Elt Ideal))
theorem inp_sr : (inp W c).sr = W c main_v47 := rfl
theorem inp_sc : (inp W c).sc = W c main_v48 := rfl
theorem inp_p : (inp W c).p = W c main_v46 := rfl
theorem inp_x : (inp W c).x = W c main_arg0 := rfl
theorem inp_sw : (inp W c).sw = W c main_arg4 := rfl
theorem inp_ew : (inp W c).ew = W c main_arg3 := rfl
end

variable (E : Fin 2048 → Fin 64)

/-- The device that holds token `t`'s expert, as the place of the token's record says it. -/
def away (t : Fin 2048) : Fin 8 := ⟨((E t).val / 8 + 8 - c.val) % 8, by omega⟩
/-- The expert's number on that device. -/
def loc (t : Fin 2048) : Fin 8 := ⟨(E t).val % 8, by omega⟩

/-- That device's expert of that number is the token's. -/
theorem home (t : Fin 2048) : (up c (away c E t)).val * 8 + (loc E t).val = (E t).val := by
  have hc : c.val < 8 := c.isLt
  have he := (E t).isLt
  have hu : (up c (away c E t)).val = (c.val + ((E t).val / 8 + 8 - c.val) % 8) % 8 := rfl
  have hl : (loc E t).val = (E t).val % 8 := rfl
  omega

/-- The kernel's result at a token. -/
theorem result_at (hE : ∀ t : Fin 2048, m (c.tc.loc main_arg2) (ix2 t 0) = BitVec.ofNat 32 (E t).val)
    (hc : ∀ e, ∑ i ∈ Finset.range 2048, hit E e i ≤ 64)
    (hx : ∀ (t : Fin 2048) (d : Fin 1024), ∃ v : ℝ, (m (c.tc.loc main_arg0) (ix2 t d) : EReal) = (v : EReal))
    (hw : ∀ (d : Fin 1024) (e : Fin 64), ∃ v : ℝ, (m (c.tc.loc main_arg1) (ix2 d e) : EReal) = (v : EReal)) (t : Fin 2048) (h : Fin 1024) :
    (OUT (inp fun c => V13 m c) c 8 (ix2 t h) : EReal) =
      score (fun d => m (c.tc.loc main_arg0) (ix2 t d)) (fun d e => m (c.tc.loc main_arg4) (ix2 d h)) 0
      + soft (score (fun d => m (c.tc.loc main_arg0) (ix2 t d)) (fun d e => m (c.tc.loc main_arg1) (ix2 d e))) (E t)
        * score (fun d => m (c.tc.loc main_arg0) (ix2 t d)) (fun d e => m ((up c (away c E t)).tc.loc main_arg3) (Idealize.ShloMosaic.ix3 (loc E t) d h)) 0 := by
  have hr := rank_of_count E hc
  have lt : ∀ t, place E c t < 4096 := fun t => place_lt c E hr t
  have inj : Function.Injective (place E c) := place_inj c E hr
  have split : place E c t = ((away c E t).val * 8 + (loc E t).val) * 64 + (⟨rank E t, hr t⟩ : Fin 64).val := by
    unfold place away loc
    exact rfl
  have esr := inp_sr c fun c => V13 m c
  have esc := inp_sc c fun c => V13 m c
  have ep := inp_p c fun c => V13 m c
  have ex := (inp_x c fun c => V13 m c).trans (V13_x m c)
  have es := (inp_sw c fun c => V13 m c).trans (V13_s m c)
  have ee := (inp_ew (up c (away c E t)) fun c => V13 m c).trans (V13_e m (up c (away c E t)))
  have pat := fun t => (congrFun ep (ix2 0 t)).trans (p_at m c E hE t)
  have real := fun t => soft_real _ (fun e => score_real _ _ (hx t) hw e) (E t)
  have key := OUT_at (I := inp fun c => V13 m c) (c := c) (S := place E c) lt inj (fun t => (congrFun esr (ix2 0 t)).trans (sr_at m c E hE hr t))
    (fun t => (congrFun esc (ix2 t 0)).trans (sc_at m c E hE hr t))
    (fun t => ⟨(real t).1.trans_eq (pat t).symm, fun w => (real t).2 ((pat t).symm.trans w)⟩) t (away c E t) (loc E t) ⟨rank E t, hr t⟩ split h
  refine key.trans ?_
  have e3 : ∀ d : Fin 1024, ix3 (loc E t) d h = Idealize.ShloMosaic.ix3 (loc E t) d h := fun d => funext fun b => by
    match b with
    | ⟨0, _⟩ => rfl
    | ⟨1, _⟩ => rfl
    | ⟨2, _⟩ => rfl
  rw [pat t, ex, es, ee]
  simp only [e3]
  unfold score
  rfl
end Cert.KernelIdeal.Moe

namespace Cert.Proof
open Cert.KernelIdeal.Moe (hit)

/-- Each device's result of the kernel is its block of the reference's. -/
theorem values [Cert.Pre_fits_KernelIdeal.Facts] : Cert.algebraic_KernelIdeal_ReferenceIdeal_pre_fits_KernelIdeal := by
  intro m g m' g' hpre hin
  refine ⟨Cert.ReferenceIdeal.Plain.out (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3))
    (m' ((0 : Dev Cert.ReferenceIdeal.nD).tc.loc Cert.ReferenceIdeal.main_arg4)), ?_, ?_⟩
  · refine θ_run_mono (Cert.KernelIdeal.Moe.run_main (F := Ideal) m g) fun r hr c => ⟨(hr.1 c).1.trans ?_, (hr.1 c).2⟩
    have split := fun c => fits_split _ _ _ _ _ (hpre c)
    choose hx hw E hE hc using split
    have hback : ∀ T : Fin 16384, ∃ e : Fin 64, m' ((0 : Dev Cert.ReferenceIdeal.nD).tc.loc Cert.ReferenceIdeal.main_arg2) (ix2 T 0) = BitVec.ofNat 32 e.val := fun T => by
      obtain ⟨c, t, rfl⟩ := row_back T
      exact ⟨E c t, ((block_row c _ _ t 0).symm.trans (congrFun (hin c).2.2.1.symm _)).trans (hE c t)⟩
    choose EE hEE using hback
    have hsame : ∀ t, EE (row c t) = E c t := fun t => by
      have e1 := (hEE (row c t)).symm.trans (((block_row c _ _ t 0).symm.trans (congrFun (hin c).2.2.1.symm _)).trans (hE c t))
      have e2 := congrArg BitVec.toNat e1
      simp only [BitVec.toNat_ofNat] at e2
      exact Fin.ext (by omega)
    funext i
    obtain ⟨t, h, rfl⟩ : ∃ (t : Fin 2048) (h : Fin 1024), i = ix2 t h := ⟨i 0, i 1, funext fun b => by
      match b with
      | ⟨0, _⟩ => rfl
      | ⟨1, _⟩ => rfl⟩
    refine (Cert.KernelIdeal.Moe.result_at m c (E c) (hE c) (hc c) (hx c) (hw c) t h).trans ?_
    refine Eq.trans ?_ (block_row c _ _ t h).symm
    refine Eq.trans ?_ (Cert.ReferenceIdeal.Plain.out_at _ _ _ _ _ EE hEE (row c t) h).symm
    have ex : (fun d => m (c.tc.loc Cert.KernelIdeal.main_arg0) (ix2 t d)) = fun d => m' ((0 : Dev Cert.ReferenceIdeal.nD).tc.loc Cert.ReferenceIdeal.main_arg0) (ix2 (row c t) d) :=
      funext fun d => (congrFun (hin c).1 _).trans (block_row c _ _ t d)
    have ew : m (c.tc.loc Cert.KernelIdeal.main_arg1) = m' ((0 : Dev Cert.ReferenceIdeal.nD).tc.loc Cert.ReferenceIdeal.main_arg1) := (hin c).2.1
    have es : m (c.tc.loc Cert.KernelIdeal.main_arg4) = m' ((0 : Dev Cert.ReferenceIdeal.nD).tc.loc Cert.ReferenceIdeal.main_arg4) := (hin c).2.2.2.2
    have ee : (fun (d : Fin 1024) (_ : Fin 64) => m ((Cert.KernelIdeal.Moe.up c (Cert.KernelIdeal.Moe.away c (E c) t)).tc.loc Cert.KernelIdeal.main_arg3) (ix3 (Cert.KernelIdeal.Moe.loc (E c) t) d h))
        = fun d _ => m' ((0 : Dev Cert.ReferenceIdeal.nD).tc.loc Cert.ReferenceIdeal.main_arg3) (ix3 (E c t) d h) :=
      funext fun d => funext fun _ => (congrFun (hin _).2.2.2.1 _).trans (block_expert _ _ _ _ d h (E c t) (Cert.KernelIdeal.Moe.home c (E c) t))
    rw [ex, ew, es, ee, hsame t]
    rfl
  · exact θ_run_mono (Cert.ReferenceIdeal.Value.run (F := Ideal) m' g') fun r h => h 0
end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ready
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  have := fitsK
  have := fitsR
  ⟨Cert.Kernel.Gen.facts, Cert.KernelIdeal.Gen.facts, Cert.ReferenceIdeal.Gen.facts, fitsK, fitsR,
    frame_K, frame_KI, frame_KI', frame_RI, frame_RI', trivial, values⟩

end Cert.Proof

end
